-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S1x64x64x425 : Shape := ⟨4, ![1, 64, 64, 425]⟩
abbrev S20480x85 : Shape := ⟨2, ![20480, 85]⟩
abbrev S20480x80 : Shape := ⟨2, ![20480, 80]⟩
abbrev S_ : Shape := ⟨0, ![]⟩

class Facts : Prop where
  shapeCasts_S1x64x64x425_S20480x85 : S1x64x64x425.ShapeCasts S20480x85
  slices_S20480x85_S20480x80_0_5 : S20480x85.Slices ![0, 5] S20480x80
  bcast_S_S20480x80 : S_.BroadcastsInDim S20480x80 (![] : Fin 0 → Fin S20480x80.rank)

variable [Facts]

def fn {F : FTy → Type} [FloatOps F] (main_arg0 : FVec F S1x64x64x425 .f32) : IVec S20480x80 1 :=
  let main_v0 : FVec F S20480x85 .f32 := shapeCast S20480x85 main_arg0 shapeCasts_S1x64x64x425_S20480x85
  let main_v1 : FVec F S20480x80 .f32 := (extractStridedSlice S20480x80 ![0, 5] · slices_S20480x85_S20480x80_0_5) main_v0
  let main_v2 : FVec F S20480x80 .f32 := Host.absf main_v1
  let main_cst : FVec F S_ .f32 := constant S_ .f32 0x7F800000#32
  let main_v3 : FVec F S20480x80 .f32 := broadcastInDim S20480x80 ![] bcast_S_S20480x80 main_cst
  let main_v4 : IVec S20480x80 1 := cmpf .olt main_v2 main_v3
  main_v4
-- ==== Kernel.lean ====
abbrev S1x64x64x425 : Shape := ⟨4, ![1, 64, 64, 425]⟩
abbrev S20480x85 : Shape := ⟨2, ![20480, 85]⟩
abbrev S85x20480 : Shape := ⟨2, ![85, 20480]⟩
abbrev S85x160x128 : Shape := ⟨3, ![85, 160, 128]⟩
abbrev S10x128 : Shape := ⟨2, ![10, 128]⟩
abbrev S10x6 : Shape := ⟨2, ![10, 6]⟩
abbrev S160x128 : Shape := ⟨2, ![160, 128]⟩
abbrev S1x160x128 : Shape := ⟨3, ![1, 160, 128]⟩
abbrev S1x128 : Shape := ⟨2, ![1, 128]⟩
abbrev S1 : Shape := ⟨1, ![1]⟩
abbrev S1x1x1 : Shape := ⟨3, ![1, 1, 1]⟩

abbrev nBuf : Space → Nat
  | .hbm => 6
  | .vmem => 2
  | .smem => 0
  | _ => 0

abbrev bufTy : (tb : Table) → Fin (tcTables nBuf tb) → BufTy
  | .hbm, ⟨0, _⟩ => ⟨S1x64x64x425, .f32⟩
  | .hbm, ⟨1, _⟩ => ⟨S20480x85, .f32⟩
  | .hbm, ⟨2, _⟩ => ⟨S85x20480, .f32⟩
  | .hbm, ⟨3, _⟩ => ⟨S85x160x128, .f32⟩
  | .hbm, ⟨4, _⟩ => ⟨S10x128, .f32⟩
  | .hbm, ⟨5, _⟩ => ⟨S10x6, .f32⟩
  | .local _ .vmem, ⟨0, _⟩ => ⟨S85x160x128, .f32⟩
  | .local _ .vmem, ⟨1, _⟩ => ⟨S10x128, .f32⟩
  | _, _ => ⟨S1x64x64x425, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_464 : BitVec 32 := 0#32
  let c10_i32_465 : BitVec 32 := 10#32
  let v1051 : BitVec 32 := Scalar.addi c0_i32_464 c10_i32_465
  let c1_i32_466 : BitVec 32 := 1#32
  ⟨c0_i32_464, v1051, c1_i32_466⟩
def k0_off1 (k0_t1 : Fin k0_t1_loop.trips) : Fin 2 → Nat :=
  let c0_i32_464 : BitVec 32 := 0#32
  let c1_i32_466 : BitVec 32 := 1#32
  let arg2 : BitVec 32 := Scf.iv c0_i32_464 c1_i32_466 k0_t1
  let v1161 : Index := Scalar.indexCast arg2
  let c0_491 : Index := 0#32
  ![v1161.toNat, 0]
abbrev stage0_0 : Fin 1 → Memref sig .tc .vmem S85x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x64x64x425 : Shape := ⟨4, ![1, 64, 64, 425]⟩
abbrev S20480x85 : Shape := ⟨2, ![20480, 85]⟩
abbrev S64x64x5 : Shape := ⟨3, ![64, 64, 5]⟩
abbrev S20480 : Shape := ⟨1, ![20480]⟩
abbrev S_ : Shape := ⟨0, ![]⟩
abbrev S64x64 : Shape := ⟨2, ![64, 64]⟩
abbrev S64x64x1 : Shape := ⟨3, ![64, 64, 1]⟩
abbrev S20480x1 : Shape := ⟨2, ![20480, 1]⟩
abbrev S20480x80 : Shape := ⟨2, ![20480, 80]⟩
abbrev S20480x6 : Shape := ⟨2, ![20480, 6]⟩
abbrev S10x6 : Shape := ⟨2, ![10, 6]⟩
abbrev S1x6 : Shape := ⟨2, ![1, 6]⟩
abbrev S6 : Shape := ⟨1, ![6]⟩
abbrev S1 : Shape := ⟨1, ![1]⟩
abbrev S10x1 : Shape := ⟨2, ![10, 1]⟩

abbrev nBuf : Space → Nat
  | .hbm => 244
  | .vmem => 0
  | .smem => 0
  | _ => 0

abbrev hbmTy0_0 (i : Nat) : BufTy := match i % 128 with
  | 0 => ⟨S1x64x64x425, .f32⟩
  | 1 => ⟨S20480x85, .f32⟩
  | 2 => ⟨S64x64x5, .i32⟩
  | 3 => ⟨S20480, .i32⟩
  | 4 => ⟨S20480, .f32⟩
  | 5 => ⟨S64x64x5, .i32⟩
  | 6 => ⟨S20480, .i32⟩
  | 7 => ⟨S20480, .f32⟩
  | 8 => ⟨S_, .f32⟩
  | 9 => ⟨S64x64, .f32⟩
  | 10 => ⟨S_, .f32⟩
  | 11 => ⟨S64x64, .f32⟩
  | 12 => ⟨S_, .f32⟩
  | 13 => ⟨S64x64, .f32⟩
  | 14 => ⟨S_, .f32⟩
  | 15 => ⟨S64x64, .f32⟩
  | 16 => ⟨S_, .f32⟩
  | 17 => ⟨S64x64, .f32⟩
  | 18 => ⟨S64x64x1, .f32⟩
  | 19 => ⟨S64x64x1, .f32⟩
  | 20 => ⟨S64x64x1, .f32⟩
  | 21 => ⟨S64x64x1, .f32⟩
  | 22 => ⟨S64x64x1, .f32⟩
  | 23 => ⟨S64x64x5, .f32⟩
  | 24 => ⟨S20480, .f32⟩
  | 25 => ⟨S_, .f32⟩
  | 26 => ⟨S64x64, .f32⟩
  | 27 => ⟨S_, .f32⟩
  | 28 => ⟨S64x64, .f32⟩
  | 29 => ⟨S_, .f32⟩
  | 30 => ⟨S64x64, .f32⟩
  | 31 => ⟨S_, .f32⟩
  | 32 => ⟨S64x64, .f32⟩
  | 33 => ⟨S_, .f32⟩
  | 34 => ⟨S64x64, .f32⟩
  | 35 => ⟨S64x64x1, .f32⟩
  | 36 => ⟨S64x64x1, .f32⟩
  | 37 => ⟨S64x64x1, .f32⟩
  | 38 => ⟨S64x64x1, .f32⟩
  | 39 => ⟨S64x64x1, .f32⟩
  | 40 => ⟨S64x64x5, .f32⟩
  | 41 => ⟨S20480, .f32⟩
  | 42 => ⟨S20480x1, .f32⟩
  | 43 => ⟨S20480, .f32⟩
  | 44 => ⟨S20480, .f32⟩
  | 45 => ⟨S20480, .f32⟩
  | 46 => ⟨S_, .f32⟩
  | 47 => ⟨S20480, .f32⟩
  | 48 => ⟨S20480, .f32⟩
  | 49 => ⟨S_, .f32⟩
  | 50 => ⟨S20480, .f32⟩
  | 51 => ⟨S20480, .f32⟩
  | 52 => ⟨S20480, .f32⟩
  | 53 => ⟨S_, .f32⟩
  | 54 => ⟨S20480, .f32⟩
  | 55 => ⟨S20480, .f32⟩
  | 56 => ⟨S20480x1, .f32⟩
  | 57 => ⟨S20480, .f32⟩
  | 58 => ⟨S20480, .f32⟩
  | 59 => ⟨S20480, .f32⟩
  | 60 => ⟨S_, .f32⟩
  | 61 => ⟨S20480, .f32⟩
  | 62 => ⟨S20480, .f32⟩
  | 63 => ⟨S_, .f32⟩
  | 64 => ⟨S20480, .f32⟩
  | 65 => ⟨S20480, .f32⟩
  | 66 => ⟨S20480, .f32⟩
  | 67 => ⟨S_, .f32⟩
  | 68 => ⟨S20480, .f32⟩
  | 69 => ⟨S20480, .f32⟩
  | 70 => ⟨S20480x1, .f32⟩
  | 71 => ⟨S20480, .f32⟩
  | 72 => ⟨S20480, .f32⟩
  | 73 => ⟨S20480, .f32⟩
  | 74 => ⟨S_, .f32⟩
  | 75 => ⟨S20480, .f32⟩
  | 76 => ⟨S20480, .f32⟩
  | 77 => ⟨S20480x1, .f32⟩
  | 78 => ⟨S20480, .f32⟩
  | 79 => ⟨S20480, .f32⟩
  | 80 => ⟨S20480, .f32⟩
  | 81 => ⟨S_, .f32⟩
  | 82 => ⟨S20480, .f32⟩
  | 83 => ⟨S20480, .f32⟩
  | 84 => ⟨S20480x1, .f32⟩
  | 85 => ⟨S20480x1, .f32⟩
  | 86 => ⟨S20480x1, .f32⟩
  | 87 => ⟨S_, .f32⟩
  | 88 => ⟨S20480x1, .f32⟩
  | 89 => ⟨S20480x1, .f32⟩
  | 90 => ⟨S_, .f32⟩
  | 91 => ⟨S20480x1, .f32⟩
  | 92 => ⟨S20480x1, .f32⟩
  | 93 => ⟨S20480x80, .f32⟩
  | 94 => ⟨S_, .f32⟩
  | 95 => ⟨S20480, .f32⟩
  | 96 => ⟨S20480x1, .f32⟩
  | 97 => ⟨S20480x80, .f32⟩
  | 98 => ⟨S20480x80, .f32⟩
  | 99 => ⟨S20480x80, .f32⟩
  | 100 => ⟨S_, .f32⟩
  | 101 => ⟨S20480, .f32⟩
  | 102 => ⟨S20480x1, .f32⟩
  | 103 => ⟨S20480x80, .f32⟩
  | 104 => ⟨S20480x80, .f32⟩
  | 105 => ⟨S20480x80, .f32⟩
  | 106 => ⟨S20480x80, .f32⟩
  | 107 => ⟨S_, .f32⟩
  | 108 => ⟨S20480, .f32⟩
  | 109 => ⟨S20480, .f32⟩
  | 110 => ⟨S20480, .f32⟩
  | 111 => ⟨S_, .f32⟩
  | 112 => ⟨S20480, .f32⟩
  | 113 => ⟨S20480, .f32⟩
  | 114 => ⟨S20480, .f32⟩
  | 115 => ⟨S_, .f32⟩
  | 116 => ⟨S20480, .f32⟩
  | 117 => ⟨S20480, .f32⟩
  | 118 => ⟨S20480, .f32⟩
  | 119 => ⟨S_, .f32⟩
  | 120 => ⟨S20480, .f32⟩
  | 121 => ⟨S20480, .f32⟩
  | 122 => ⟨S20480, .f32⟩
  | 123 => ⟨S_, .f32⟩
  | 124 => ⟨S20480, .f32⟩
  | 125 => ⟨S20480x80, .i32⟩
  | 126 => ⟨S_, .f32⟩
  | 127 => ⟨S_, .i32⟩
  | _ => ⟨S1x64x64x425, .f32⟩

abbrev hbmTy0_1 (i : Nat) : BufTy := match i % 128 with
  | 0 => ⟨S20480, .f32⟩
  | 1 => ⟨S20480, .i32⟩
  | 2 => ⟨S_, .f32⟩
  | 3 => ⟨S20480, .f32⟩
  | 4 => ⟨S20480, .i1⟩
  | 5 => ⟨S_, .f32⟩
  | 6 => ⟨S_, .f32⟩
  | 7 => ⟨S20480, .f32⟩
  | 8 => ⟨S20480, .f32⟩
  | 9 => ⟨S20480, .f32⟩
  | 10 => ⟨S20480x1, .f32⟩
  | 11 => ⟨S20480x1, .f32⟩
  | 12 => ⟨S20480x1, .f32⟩
  | 13 => ⟨S20480x1, .f32⟩
  | 14 => ⟨S20480x1, .f32⟩
  | 15 => ⟨S20480x1, .f32⟩
  | 16 => ⟨S20480x6, .f32⟩
  | 17 => ⟨S20480, .f32⟩
  | 18 => ⟨S20480, .f32⟩
  | 19 => ⟨S20480, .f32⟩
  | 20 => ⟨S_, .f32⟩
  | 21 => ⟨S10x6, .f32⟩
  | 22 => ⟨S_, .i32⟩
  | 23 => ⟨S20480x6, .f32⟩
  | 24 => ⟨S20480, .f32⟩
  | 25 => ⟨S20480, .f32⟩
  | 26 => ⟨S20480, .f32⟩
  | 27 => ⟨S20480, .f32⟩
  | 28 => ⟨S20480, .f32⟩
  | 29 => ⟨S_, .i32⟩
  | 30 => ⟨S20480, .f32⟩
  | 31 => ⟨S10x6, .f32⟩
  | 32 => ⟨S_, .i32⟩
  | 33 => ⟨S_, .i1⟩
  | 34 => ⟨S20480, .i32⟩
  | 35 => ⟨S_, .f32⟩
  | 36 => ⟨S_, .i32⟩
  | 37 => ⟨S_, .f32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S1x6, .f32⟩
  | 53 => ⟨S6, .f32⟩
  | 54 => ⟨S1, .f32⟩
  | 55 => ⟨S_, .f32⟩
  | 56 => ⟨S1, .f32⟩
  | 57 => ⟨S_, .f32⟩
  | 58 => ⟨S1, .f32⟩
  | 59 => ⟨S_, .f32⟩
  | 60 => ⟨S1, .f32⟩
  | 61 => ⟨S_, .f32⟩
  | 62 => ⟨S20480, .f32⟩
  | 63 => ⟨S20480, .f32⟩
  | 64 => ⟨S20480, .f32⟩
  | 65 => ⟨S20480, .f32⟩
  | 66 => ⟨S20480, .f32⟩
  | 67 => ⟨S_, .f32⟩
  | 68 => ⟨S20480, .f32⟩
  | 69 => ⟨S20480, .f32⟩
  | 70 => ⟨S20480, .f32⟩
  | 71 => ⟨S20480, .f32⟩
  | 72 => ⟨S20480, .f32⟩
  | 73 => ⟨S20480, .f32⟩
  | 74 => ⟨S20480, .f32⟩
  | 75 => ⟨S_, .f32⟩
  | 76 => ⟨S20480, .f32⟩
  | 77 => ⟨S20480, .f32⟩
  | 78 => ⟨S20480, .f32⟩
  | 79 => ⟨S_, .f32⟩
  | 80 => ⟨S_, .f32⟩
  | 81 => ⟨S_, .f32⟩
  | 82 => ⟨S20480, .f32⟩
  | 83 => ⟨S20480, .f32⟩
  | 84 => ⟨S20480, .f32⟩
  | 85 => ⟨S_, .f32⟩
  | 86 => ⟨S20480, .f32⟩
  | 87 => ⟨S20480, .f32⟩
  | 88 => ⟨S20480, .f32⟩
  | 89 => ⟨S_, .f32⟩
  | 90 => ⟨S20480, .f32⟩
  | 91 => ⟨S20480, .i1⟩
  | 92 => ⟨S_, .f32⟩
  | 93 => ⟨S_, .f32⟩
  | 94 => ⟨S20480, .f32⟩
  | 95 => ⟨S20480, .f32⟩
  | 96 => ⟨S_, .i32⟩
  | 97 => ⟨S_, .i1⟩
  | 98 => ⟨S_, .i32⟩
  | 99 => ⟨S_, .i32⟩
  | 100 => ⟨S_, .i32⟩
  | 101 => ⟨S1, .i32⟩
  | 102 => ⟨S_, .f32⟩
  | 103 => ⟨S20480, .f32⟩
  | 104 => ⟨S1x6, .f32⟩
  | 105 => ⟨S_, .i32⟩
  | 106 => ⟨S10x6, .f32⟩
  | 107 => ⟨S_, .i32⟩
  | 108 => ⟨S_, .i32⟩
  | 109 => ⟨S10x1, .f32⟩
  | 110 => ⟨S_, .f32⟩
  | 111 => ⟨S10x1, .f32⟩
  | 112 => ⟨S10x1, .i1⟩
  | 113 => ⟨S10x1, .f32⟩
  | 114 => ⟨S10x6, .f32⟩
  | 115 => ⟨S10x6, .f32⟩
  | _ => ⟨S1x64x64x425, .f32⟩

abbrev hbmTy (i : Nat) : BufTy := match i / 128 with
  | 0 => hbmTy0_0 i
  | 1 => hbmTy0_1 i
  | _ => ⟨S1x64x64x425, .f32⟩

abbrev bufTy : (tb : Table) → Fin (tcTables nBuf tb) → BufTy
  | .hbm, ⟨i, _⟩ => hbmTy i
  | _, _ => ⟨S1x64x64x425, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_cst_7 : Ref sig .tc := ⟨.hbm, 31, rfl⟩
abbrev main_v22 : Ref sig .tc := ⟨.hbm, 32, rfl⟩
abbrev main_cst_8 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_9 : Ref sig .tc := ⟨.hbm, 46, rfl⟩
abbrev main_v35 : Ref sig .tc := ⟨.hbm, 47, rfl⟩
abbrev main_v36 : Ref sig .tc := ⟨.hbm, 48, rfl⟩
abbrev main_cst_10 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_11 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_12 : Ref sig .tc := ⟨.hbm, 60, rfl⟩
abbrev main_v46 : Ref sig .tc := ⟨.hbm, 61, rfl⟩
abbrev main_v47 : Ref sig .tc := ⟨.hbm, 62, rfl⟩
abbrev main_cst_13 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_14 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_15 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_16 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_17 : Ref sig .tc := ⟨.hbm, 87, rfl⟩
abbrev main_v68 : Ref sig .tc := ⟨.hbm, 88, rfl⟩
abbrev main_v69 : Ref sig .tc := ⟨.hbm, 89, rfl⟩
abbrev main_cst_18 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_19 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_20 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_21 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_22 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_23 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_24 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_25 : Ref sig .tc := ⟨.hbm, 123, rfl⟩
abbrev main_v96 : Ref sig .tc := ⟨.hbm, 124, rfl⟩
abbrev main_call0_v0 : Ref sig .tc := ⟨.hbm, 125, rfl⟩
abbrev main_call0_cst : Ref sig .tc := ⟨.hbm, 126, rfl⟩
abbrev main_call0_c : Ref sig .tc := ⟨.hbm, 127, rfl⟩
abbrev main_call0_v1_0 : Ref sig .tc := ⟨.hbm, 128, rfl⟩
abbrev main_v97 : Ref sig .tc := ⟨.hbm, 129, rfl⟩
abbrev main_cst_26 : Ref sig .tc := ⟨.hbm, 130, rfl⟩
abbrev main_v98 : Ref sig .tc := ⟨.hbm, 131, rfl⟩
abbrev main_v99 : Ref sig .tc := ⟨.hbm, 132, rfl⟩
abbrev main_cst_27 : Ref sig .tc := ⟨.hbm, 133, rfl⟩
abbrev main_call1_v0 : Ref sig .tc := ⟨.hbm, 134, rfl⟩
abbrev main_call1_v1 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_28 : Ref sig .tc := ⟨.hbm, 148, rfl⟩
abbrev main_v112 : Ref sig .tc := ⟨.hbm, 149, rfl⟩
abbrev main_c : Ref sig .tc := ⟨.hbm, 150, rfl⟩
abbrev main_v113_0 : Ref sig .tc := ⟨.hbm, 151, rfl⟩
abbrev main_v113_1 : Ref sig .tc := ⟨.hbm, 152, rfl⟩
abbrev main_v113_2 : Ref sig .tc := ⟨.hbm, 153, rfl⟩
abbrev main_v113_3 : Ref sig .tc := ⟨.hbm, 154, rfl⟩
abbrev main_v113_4 : Ref sig .tc := ⟨.hbm, 155, rfl⟩
abbrev main_v113_5 : Ref sig .tc := ⟨.hbm, 156, rfl⟩
abbrev main_v113_6 : Ref sig .tc := ⟨.hbm, 157, rfl⟩
abbrev main_v113_7 : Ref sig .tc := ⟨.hbm, 158, rfl⟩
abbrev main_v113_8 : Ref sig .tc := ⟨.hbm, 159, rfl⟩
abbrev main_while0c_c_38 : Ref sig .tc := ⟨.hbm, 160, rfl⟩
abbrev main_while0c_v120 : Ref sig .tc := ⟨.hbm, 161, rfl⟩
abbrev main_while0b_call2_v0 : Ref sig .tc := ⟨.hbm, 162, rfl⟩
abbrev main_while0b_call2_cst : Ref sig .tc := ⟨.hbm, 163, rfl⟩
abbrev main_while0b_call2_c : Ref sig .tc := ⟨.hbm, 164, rfl⟩
abbrev main_while0b_call2_v1_0 : Ref sig .tc := ⟨.hbm, 165, rfl⟩
abbrev main_while0b_v120 : Ref sig .tc := ⟨.hbm, 166, rfl⟩
abbrev main_while0b_c_38 : Ref sig .tc := ⟨.hbm, 167, rfl⟩
abbrev main_while0b_v121 : Ref sig .tc := ⟨.hbm, 168, rfl⟩
abbrev main_while0b_c_39 : Ref sig .tc := ⟨.hbm, 169, rfl⟩
abbrev main_while0b_v122 : Ref sig .tc := ⟨.hbm, 170, rfl⟩
abbrev main_while0b_v123 : Ref sig .tc := ⟨.hbm, 171, rfl⟩
abbrev main_while0b_c_40 : Ref sig .tc := ⟨.hbm, 172, rfl⟩
abbrev main_while0b_c_41 : Ref sig .tc := ⟨.hbm, 173, rfl⟩
abbrev main_while0b_v124 : Ref sig .tc := ⟨.hbm, 174, rfl⟩
abbrev main_while0b_c_42 : Ref sig .tc := ⟨.hbm, 175, rfl⟩
abbrev main_while0b_c_43 : Ref sig .tc := ⟨.hbm, 176, rfl⟩
abbrev main_while0b_v125 : Ref sig .tc := ⟨.hbm, 177, rfl⟩
abbrev main_while0b_c_44 : Ref sig .tc := ⟨.hbm, 178, rfl⟩
abbrev main_while0b_v126 : Ref sig .tc := ⟨.hbm, 179, rfl⟩
abbrev main_while0b_v127 : Ref sig .tc := ⟨.hbm, 180, rfl⟩
abbrev main_while0b_v128 : Ref sig .tc := ⟨.hbm, 181, rfl⟩
abbrev main_while0b_v129 : Ref sig .tc := ⟨.hbm, 182, rfl⟩
abbrev main_while0b_v130 : Ref sig .tc := ⟨.hbm, 183, rfl⟩
abbrev main_while0b_v131 : Ref sig .tc := ⟨.hbm, 184, rfl⟩
abbrev main_while0b_v132 : Ref sig .tc := ⟨.hbm, 185, rfl⟩
abbrev main_while0b_v133 : Ref sig .tc := ⟨.hbm, 186, rfl⟩
abbrev main_while0b_v134 : Ref sig .tc := ⟨.hbm, 187, rfl⟩
abbrev main_while0b_v135 : Ref sig .tc := ⟨.hbm, 188, rfl⟩
abbrev main_while0b_v136 : Ref sig .tc := ⟨.hbm, 189, rfl⟩
abbrev main_while0b_v137 : Ref sig .tc := ⟨.hbm, 190, rfl⟩
abbrev main_while0b_v138 : Ref sig .tc := ⟨.hbm, 191, rfl⟩
abbrev main_while0b_v139 : Ref sig .tc := ⟨.hbm, 192, rfl⟩
abbrev main_while0b_v140 : Ref sig .tc := ⟨.hbm, 193, rfl⟩
abbrev main_while0b_v141 : Ref sig .tc := ⟨.hbm, 194, rfl⟩
abbrev main_while0b_cst_45 : Ref sig .tc := ⟨.hbm, 195, rfl⟩
abbrev main_while0b_v142 : Ref sig .tc := ⟨.hbm, 196, rfl⟩
abbrev main_while0b_v143 : Ref sig .tc := ⟨.hbm, 197, rfl⟩
abbrev main_while0b_v144 : Ref sig .tc := ⟨.hbm, 198, rfl⟩
abbrev main_while0b_v145 : Ref sig .tc := ⟨.hbm, 199, rfl⟩
abbrev main_while0b_v146 : Ref sig .tc := ⟨.hbm, 200, rfl⟩
abbrev main_while0b_v147 : Ref sig .tc := ⟨.hbm, 201, rfl⟩
abbrev main_while0b_v148 : Ref sig .tc := ⟨.hbm, 202, rfl⟩
abbrev main_while0b_cst_46 : Ref sig .tc := ⟨.hbm, 203, rfl⟩
abbrev main_while0b_v149 : Ref sig .tc := ⟨.hbm, 204, rfl⟩
abbrev main_while0b_v150 : Ref sig .tc := ⟨.hbm, 205, rfl⟩
abbrev main_while0b_v151 : Ref sig .tc := ⟨.hbm, 206, rfl⟩
abbrev main_while0b_v152 : Ref sig .tc := ⟨.hbm, 207, rfl⟩
abbrev main_while0b_v153 : Ref sig .tc := ⟨.hbm, 208, rfl⟩
abbrev main_while0b_v154 : Ref sig .tc := ⟨.hbm, 209, rfl⟩
abbrev main_while0b_v155 : Ref sig .tc := ⟨.hbm, 210, rfl⟩
abbrev main_while0b_v156 : Ref sig .tc := ⟨.hbm, 211, rfl⟩
abbrev main_while0b_v157 : Ref sig .tc := ⟨.hbm, 212, rfl⟩
abbrev main_while0b_cst_47 : Ref sig .tc := ⟨.hbm, 213, rfl⟩
abbrev main_while0b_v158 : Ref sig .tc := ⟨.hbm, 214, rfl⟩
abbrev main_while0b_v159 : Ref sig .tc := ⟨.hbm, 215, rfl⟩
abbrev main_while0b_v160 : Ref sig .tc := ⟨.hbm, 216, rfl⟩
abbrev main_while0b_cst_48 : Ref sig .tc := ⟨.hbm, 217, rfl⟩
abbrev main_while0b_v161 : Ref sig .tc := ⟨.hbm, 218, rfl⟩
abbrev main_while0b_v162 : Ref sig .tc := ⟨.hbm, 219, rfl⟩
abbrev main_while0b_cst_49 : Ref sig .tc := ⟨.hbm, 220, rfl⟩
abbrev main_while0b_call3_v0 : Ref sig .tc := ⟨.hbm, 221, rfl⟩
abbrev main_while0b_call3_v1 : Ref sig .tc := ⟨.hbm, 222, rfl⟩
abbrev main_while0b_v163 : Ref sig .tc := ⟨.hbm, 223, rfl⟩
abbrev main_while0b_c_50 : Ref sig .tc := ⟨.hbm, 224, rfl⟩
abbrev main_while0b_v164 : Ref sig .tc := ⟨.hbm, 225, rfl⟩
abbrev main_while0b_c_51 : Ref sig .tc := ⟨.hbm, 226, rfl⟩
abbrev main_while0b_v165 : Ref sig .tc := ⟨.hbm, 227, rfl⟩
abbrev main_while0b_v166 : Ref sig .tc := ⟨.hbm, 228, rfl⟩
abbrev main_while0b_v167 : Ref sig .tc := ⟨.hbm, 229, rfl⟩
abbrev main_while0b_cst_52 : Ref sig .tc := ⟨.hbm, 230, rfl⟩
abbrev main_while0b_v168 : Ref sig .tc := ⟨.hbm, 231, rfl⟩
abbrev main_while0b_call4_v0 : Ref sig .tc := ⟨.hbm, 232, rfl⟩
abbrev main_while0b_call4_c : Ref sig .tc := ⟨.hbm, 233, rfl⟩
abbrev main_while0b_v169 : Ref sig .tc := ⟨.hbm, 234, rfl⟩
abbrev main_while0b_c_53 : Ref sig .tc := ⟨.hbm, 235, rfl⟩
abbrev main_while0b_v170 : Ref sig .tc := ⟨.hbm, 236, rfl⟩
abbrev main_v114 : Ref sig .tc := ⟨.hbm, 237, rfl⟩
abbrev main_cst_29 : Ref sig .tc := ⟨.hbm, 238, rfl⟩
abbrev main_v115 : Ref sig .tc := ⟨.hbm, 239, rfl⟩
abbrev main_v116 : Ref sig .tc := ⟨.hbm, 240, rfl⟩
abbrev main_v117 : Ref sig .tc := ⟨.hbm, 241, rfl⟩
abbrev main_v118 : Ref sig .tc := ⟨.hbm, 242, rfl⟩
abbrev main_v119 : Ref sig .tc := ⟨.hbm, 243, rfl⟩

abbrev nD : Nat := 1
abbrev τ : Topo := Topo.v7x

variable {F : FTy → Type} [FloatOps F]

abbrev main_while0_count : Scf.Loop 32 := ⟨0#32, 10#32, 1#32⟩
-- ==== Proof.RefOps.lean ====
/- The reference's host operations: its stretches as lists, @main and the loop's body as chains of them. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 2480

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

set_option maxHeartbeats 40000000 in  -- a long stretch: its list (or the term over it) exceeds the default budget
/-- 124 host operations of @main, in order. -/
abbrev hostOps0 : List (HloOp τ sig (Elt F)) :=
  ( StableHlo.reshape main_arg0 main_v0 (rfl : (.f32 : EltTy) = .f32) shapeCasts_S1x64x64x425_S20480x85
  :: StableHlo.nullary main_v1 (iotaInDim S64x64x5 32 0)
  :: StableHlo.reshape main_v1 main_v2 (rfl : (.i32 : EltTy) = .i32) shapeCasts_S64x64x5_S20480
  :: StableHlo.unary main_v2 main_v3 (sitofp .f32 : (⟨S20480, .i32⟩ : BufTy).Contents (Elt F) → (⟨S20480, .f32⟩ : BufTy).Contents (Elt F))
  :: StableHlo.nullary main_v4 (iotaInDim S64x64x5 32 1)
  :: StableHlo.reshape main_v4 main_v5 (rfl : (.i32 : EltTy) = .i32) shapeCasts_S64x64x5_S20480
  :: StableHlo.unary main_v5 main_v6 (sitofp .f32 : (⟨S20480, .i32⟩ : BufTy).Contents (Elt F) → (⟨S20480, .f32⟩ : BufTy).Contents (Elt F))
  :: StableHlo.nullary main_cst (constant S_ .f32 0x3F8A3D71#32)
  :: StableHlo.unary main_cst main_v7 (broadcastInDim S64x64 ![] bcast_S_S64x64 : (⟨S_, .f32⟩ : BufTy).Contents (Elt F) → (⟨S64x64, .f32⟩ : BufTy).Contents (Elt F))
  :: StableHlo.nullary main_cst_0 (constant S_ .f32 0x405AE148#32)
  :: StableHlo.unary main_cst_0 main_v8 (broadcastInDim S64x64 ![] bcast_S_S64x64 : (⟨S_, .f32⟩ : BufTy).Contents (Elt F) → (⟨S64x64, .f32⟩ : BufTy).Contents (Elt F))
  :: StableHlo.nullary main_cst_1 (constant S_ .f32 0x40D428F6#32)
  :: StableHlo.unary main_cst_1 main_v9 (broadcastInDim S64x64 ![] bcast_S_S64x64 : (⟨S_, .f32⟩ : BufTy).Contents (Elt F) → (⟨S64x64, .f32⟩ : BufTy).Contents (Elt F))
  :: StableHlo.nullary main_cst_2 (constant S_ .f32 0x4116B852#32)
  :: StableHlo.unary main_cst_2 main_v10 (broadcastInDim S64x64 ![] bcast_S_S64x64 : (⟨S_, .f32⟩ : BufTy).Contents (Elt F) → (⟨S64x64, .f32⟩ : BufTy).Contents (Elt F))
  :: StableHlo.nullary main_cst_3 (constant S_ .f32 0x4184F5C3#32)
  :: StableHlo.unary main_cst_3 main_v11 (broadcastInDim S64x64 ![] bcast_S_S64x64 : (⟨S_, .f32⟩ : BufTy).Contents (Elt F) → (⟨S64x64, .f32⟩ : BufTy).Contents (Elt F))
  :: StableHlo.unary main_v7 main_v12 (broadcastInDim S64x64x1 ![0, 1] bcast_S64x64_S64x64x1_0_1 : (⟨S64x64, .f32⟩ : BufTy).Contents (Elt F) → (⟨S64x64x1, .f32⟩ : BufTy).Contents (Elt F))
  :: StableHlo.unary main_v8 main_v13 (broadcastInDim S64x64x1 ![0, 1] bcast_S64x64_S64x64x1_0_1 : (⟨S64x64, .f32⟩ : BufTy).Contents (Elt F) → (⟨S64x64x1, .f32⟩ : BufTy).Contents (Elt F))
  :: StableHlo.unary main_v9 main_v14 (broadcastInDim S64x64x1 ![0, 1] bcast_S64x64_S64x64x1_0_1 : (⟨S64x64, .f32⟩ : BufTy).Contents (Elt F) → (⟨S64x64x1, .f32⟩ : BufTy).Contents (Elt F))
  :: StableHlo.unary main_v10 main_v15 (broadcastInDim S64x64x1 ![0, 1] bcast_S64x64_S64x64x1_0_1 : (⟨S64x64, .f32⟩ : BufTy).Contents (Elt F) → (⟨S64x64x1, .f32⟩ : BufTy).Contents (Elt F))
  :: StableHlo.unary main_v11 main_v16 (broadcastInDim S64x64x1 ![0, 1] bcast_S64x64_S64x64x1_0_1 : (⟨S64x64, .f32⟩ : BufTy).Contents (Elt F) → (⟨S64x64x1, .f32⟩ : BufTy).Contents (Elt F))
  :: StableHlo.nary ![main_v12, main_v13, main_v14, main_v15, main_v16] main_v17 (fun u => (concatenate S64x64x5 2 [⟨S64x64x1, (u 0 : (⟨S64x64x1, .f32⟩ : BufTy).Contents (Elt F))⟩, ⟨S64x64x1, (u 1 : (⟨S64x64x1, .f32⟩ : BufTy).Contents (Elt F))⟩, ⟨S64x64x1, (u 2 : (⟨S64x64x1, .f32⟩ : BufTy).Contents (Elt F))⟩, ⟨S64x64x1, (u 3 : (⟨S64x64x1, .f32⟩ : BufTy).Contents (Elt F))⟩, ⟨S64x64x1, (u 4 : (⟨S64x64x1, .f32⟩ : BufTy).Contents (Elt F))⟩] concatenates_S64x64x1_S64x64x1_S64x64x1_S64x64x1_S64x64x1_S64x64x5_d2 : (⟨S64x64x5, .f32⟩ : BufTy).Contents (Elt F)))
  :: StableHlo.reshape main_v17 main_v18 (rfl : (.f32 : EltTy) = .f32) shapeCasts_S64x64x5_S20480
  :: StableHlo.nullary main_cst_4 (constant S_ .f32 0x3F9851EC#32)
  :: StableHlo.unary main_cst_4 main_v19 (broadcastInDim S64x64 ![] bcast_S_S64x64 : (⟨S_, .f32⟩ : BufTy).Contents (Elt F) → (⟨S64x64, .f32⟩ : BufTy).Contents (Elt F))
  :: StableHlo.nullary main_cst_5 (constant S_ .f32 0x408D1EB8#32)
  :: StableHlo.unary main_cst_5 main_v20 (broadcastInDim S64x64 ![] bcast_S_S64x64 : (⟨S_, .f32⟩ : BufTy).Contents (Elt F) → (⟨S64x64, .f32⟩ : BufTy).Contents (Elt F))
  :: StableHlo.nullary main_cst_6 (constant S_ .f32 0x4136147B#32)
  :: StableHlo.unary main_cst_6 main_v21 (broadcastInDim S64x64 ![] bcast_S_S64x64 : (⟨S_, .f32⟩ : BufTy).Contents (Elt F) → (⟨S64x64, .f32⟩ : BufTy).Contents (Elt F))
  :: StableHlo.nullary main_cst_7 (constant S_ .f32 0x40A3851F#32)
  :: StableHlo.unary main_cst_7 main_v22 (broadcastInDim S64x64 ![] bcast_S_S64x64 : (⟨S_, .f32⟩ : BufTy).Contents (Elt F) → (⟨S64x64, .f32⟩ : BufTy).Contents (Elt F))
  :: StableHlo.nullary main_cst_8 (constant S_ .f32 0x412851EC#32)
  :: StableHlo.unary main_cst_8 main_v23 (broadcastInDim S64x64 ![] bcast_S_S64x64 : (⟨S_, .f32⟩ : BufTy).Contents (Elt F) → (⟨S64x64, .f32⟩ : BufTy).Contents (Elt F))
  :: StableHlo.unary main_v19 main_v24 (broadcastInDim S64x64x1 ![0, 1] bcast_S64x64_S64x64x1_0_1 : (⟨S64x64, .f32⟩ : BufTy).Contents (Elt F) → (⟨S64x64x1, .f32⟩ : BufTy).Contents (Elt F))
  :: StableHlo.unary main_v20 main_v25 (broadcastInDim S64x64x1 ![0, 1] bcast_S64x64_S64x64x1_0_1 : (⟨S64x64, .f32⟩ : BufTy).Contents (Elt F) → (⟨S64x64x1, .f32⟩ : BufTy).Contents (Elt F))
  :: StableHlo.unary main_v21 main_v26 (broadcastInDim S64x64x1 ![0, 1] bcast_S64x64_S64x64x1_0_1 : (⟨S64x64, .f32⟩ : BufTy).Contents (Elt F) → (⟨S64x64x1, .f32⟩ : BufTy).Contents (Elt F))
  :: StableHlo.unary main_v22 main_v27 (broadcastInDim S64x64x1 ![0, 1] bcast_S64x64_S64x64x1_0_1 : (⟨S64x64, .f32⟩ : BufTy).Contents (Elt F) → (⟨S64x64x1, .f32⟩ : BufTy).Contents (Elt F))
  :: StableHlo.unary main_v23 main_v28 (broadcastInDim S64x64x1 ![0, 1] bcast_S64x64_S64x64x1_0_1 : (⟨S64x64, .f32⟩ : BufTy).Contents (Elt F) → (⟨S64x64x1, .f32⟩ : BufTy).Contents (Elt F))
  :: StableHlo.nary ![main_v24, main_v25, main_v26, main_v27, main_v28] main_v29 (fun u => (concatenate S64x64x5 2 [⟨S64x64x1, (u 0 : (⟨S64x64x1, .f32⟩ : BufTy).Contents (Elt F))⟩, ⟨S64x64x1, (u 1 : (⟨S64x64x1, .f32⟩ : BufTy).Contents (Elt F))⟩, ⟨S64x64x1, (u 2 : (⟨S64x64x1, .f32⟩ : BufTy).Contents (Elt F))⟩, ⟨S64x64x1, (u 3 : (⟨S64x64x1, .f32⟩ : BufTy).Contents (Elt F))⟩, ⟨S64x64x1, (u 4 : (⟨S64x64x1, .f32⟩ : BufTy).Contents (Elt F))⟩] concatenates_S64x64x1_S64x64x1_S64x64x1_S64x64x1_S64x64x1_S64x64x5_d2 : (⟨S64x64x5, .f32⟩ : BufTy).Contents (Elt F)))
  :: StableHlo.reshape main_v29 main_v30 (rfl : (.f32 : EltTy) = .f32) shapeCasts_S64x64x5_S20480
  :: StableHlo.unary main_v0 main_v31 ((extractStridedSlice S20480x1 ![0, 0] · slices_S20480x85_S20480x1_0_0) : (⟨S20480x85, .f32⟩ : BufTy).Contents (Elt F) → (⟨S20480x1, .f32⟩ : BufTy).Contents (Elt F))
  :: StableHlo.reshape main_v31 main_v32 (rfl : (.f32 : EltTy) = .f32) shapeCasts_S20480x1_S20480
  :: StableHlo.unary main_v32 main_v33 (Host.negf : (⟨S20480, .f32⟩ : BufTy).Contents (Elt F) → (⟨S20480, .f32⟩ : BufTy).Contents (Elt F))
  :: StableHlo.unary main_v33 main_v34 (Host.exp : (⟨S20480, .f32⟩ : BufTy).Contents (Elt F) → (⟨S20480, .f32⟩ : BufTy).Contents (Elt F))
  :: StableHlo.nullary main_cst_9 (constant S_ .f32 0x3F800000#32)
  :: StableHlo.unary main_cst_9 main_v35 (broadcastInDim S20480 ![] bcast_S_S20480 : (⟨S_, .f32⟩ : BufTy).Contents (Elt F) → (⟨S20480, .f32⟩ : BufTy).Contents (Elt F))
  :: StableHlo.binary main_v35 main_v34 main_v36 (addf : (⟨S20480, .f32⟩ : BufTy).Contents (Elt F) → (⟨S20480, .f32⟩ : BufTy).Contents (Elt F) → (⟨S20480, .f32⟩ : BufTy).Contents (Elt F))
  :: StableHlo.nullary main_cst_10 (constant S_ .f32 0x3F800000#32)
  :: StableHlo.unary main_cst_10 main_v37 (broadcastInDim S20480 ![] bcast_S_S20480 : (⟨S_, .f32⟩ : BufTy).Contents (Elt F) → (⟨S20480, .f32⟩ : BufTy).Contents (Elt F))
  :: StableHlo.binary main_v37 main_v36 main_v38 (Host.divf : (⟨S20480, .f32⟩ : BufTy).Contents (Elt F) → (⟨S20480, .f32⟩ : BufTy).Contents (Elt F) → (⟨S20480, .f32⟩ : BufTy).Contents (Elt F))
  :: StableHlo.binary main_v38 main_v6 main_v39 (addf : (⟨S20480, .f32⟩ : BufTy).Contents (Elt F) → (⟨S20480, .f32⟩ : BufTy).Contents (Elt F) → (⟨S20480, .f32⟩ : BufTy).Contents (Elt F))
  :: StableHlo.nullary main_cst_11 (constant S_ .f32 0x42800000#32)
  :: StableHlo.unary main_cst_11 main_v40 (broadcastInDim S20480 ![] bcast_S_S20480 : (⟨S_, .f32⟩ : BufTy).Contents (Elt F) → (⟨S20480, .f32⟩ : BufTy).Contents (Elt F))
  :: StableHlo.binary main_v39 main_v40 main_v41 (Host.divf : (⟨S20480, .f32⟩ : BufTy).Contents (Elt F) → (⟨S20480, .f32⟩ : BufTy).Contents (Elt F) → (⟨S20480, .f32⟩ : BufTy).Contents (Elt F))
  :: StableHlo.unary main_v0 main_v42 ((extractStridedSlice S20480x1 ![0, 1] · slices_S20480x85_S20480x1_0_1) : (⟨S20480x85, .f32⟩ : BufTy).Contents (Elt F) → (⟨S20480x1, .f32⟩ : BufTy).Contents (Elt F))
  :: StableHlo.reshape main_v42 main_v43 (rfl : (.f32 : EltTy) = .f32) shapeCasts_S20480x1_S20480
  :: StableHlo.unary main_v43 main_v44 (Host.negf : (⟨S20480, .f32⟩ : BufTy).Contents (Elt F) → (⟨S20480, .f32⟩ : BufTy).Contents (Elt F))
  :: StableHlo.unary main_v44 main_v45 (Host.exp : (⟨S20480, .f32⟩ : BufTy).Contents (Elt F) → (⟨S20480, .f32⟩ : BufTy).Contents (Elt F))
  :: StableHlo.nullary main_cst_12 (constant S_ .f32 0x3F800000#32)
  :: StableHlo.unary main_cst_12 main_v46 (broadcastInDim S20480 ![] bcast_S_S20480 : (⟨S_, .f32⟩ : BufTy).Contents (Elt F) → (⟨S20480, .f32⟩ : BufTy).Contents (Elt F))
  :: StableHlo.binary main_v46 main_v45 main_v47 (addf : (⟨S20480, .f32⟩ : BufTy).Contents (Elt F) → (⟨S20480, .f32⟩ : BufTy).Contents (Elt F) → (⟨S20480, .f32⟩ : BufTy).Contents (Elt F))
  :: StableHlo.nullary main_cst_13 (constant S_ .f32 0x3F800000#32)
  :: StableHlo.unary main_cst_13 main_v48 (broadcastInDim S20480 ![] bcast_S_S20480 : (⟨S_, .f32⟩ : BufTy).Contents (Elt F) → (⟨S20480, .f32⟩ : BufTy).Contents (Elt F))
  :: StableHlo.binary main_v48 main_v47 main_v49 (Host.divf : (⟨S20480, .f32⟩ : BufTy).Contents (Elt F) → (⟨S20480, .f32⟩ : BufTy).Contents (Elt F) → (⟨S20480, .f32⟩ : BufTy).Contents (Elt F))
  :: StableHlo.binary main_v49 main_v3 main_v50 (addf : (⟨S20480, .f32⟩ : BufTy).Contents (Elt F) → (⟨S20480, .f32⟩ : BufTy).Contents (Elt F) → (⟨S20480, .f32⟩ : BufTy).Contents (Elt F))
  :: StableHlo.nullary main_cst_14 (constant S_ .f32 0x42800000#32)
  :: StableHlo.unary main_cst_14 main_v51 (broadcastInDim S20480 ![] bcast_S_S20480 : (⟨S_, .f32⟩ : BufTy).Contents (Elt F) → (⟨S20480, .f32⟩ : BufTy).Contents (Elt F))
  :: StableHlo.binary main_v50 main_v51 main_v52 (Host.divf : (⟨S20480, .f32⟩ : BufTy).Contents (Elt F) → (⟨S20480, .f32⟩ : BufTy).Contents (Elt F) → (⟨S20480, .f32⟩ : BufTy).Contents (Elt F))
  :: StableHlo.unary main_v0 main_v53 ((extractStridedSlice S20480x1 ![0, 2] · slices_S20480x85_S20480x1_0_2) : (⟨S20480x85, .f32⟩ : BufTy).Contents (Elt F) → (⟨S20480x1, .f32⟩ : BufTy).Contents (Elt F))
  :: StableHlo.reshape main_v53 main_v54 (rfl : (.f32 : EltTy) = .f32) shapeCasts_S20480x1_S20480
  :: StableHlo.unary main_v54 main_v55 (Host.exp : (⟨S20480, .f32⟩ : BufTy).Contents (Elt F) → (⟨S20480, .f32⟩ : BufTy).Contents (Elt F))
  :: StableHlo.binary main_v55 main_v18 main_v56 (mulf : (⟨S20480, .f32⟩ : BufTy).Contents (Elt F) → (⟨S20480, .f32⟩ : BufTy).Contents (Elt F) → (⟨S20480, .f32⟩ : BufTy).Contents (Elt F))
  :: StableHlo.nullary main_cst_15 (constant S_ .f32 0x42800000#32)
  :: StableHlo.unary main_cst_15 main_v57 (broadcastInDim S20480 ![] bcast_S_S20480 : (⟨S_, .f32⟩ : BufTy).Contents (Elt F) → (⟨S20480, .f32⟩ : BufTy).Contents (Elt F))
  :: StableHlo.binary main_v56 main_v57 main_v58 (Host.divf : (⟨S20480, .f32⟩ : BufTy).Contents (Elt F) → (⟨S20480, .f32⟩ : BufTy).Contents (Elt F) → (⟨S20480, .f32⟩ : BufTy).Contents (Elt F))
  :: StableHlo.unary main_v0 main_v59 ((extractStridedSlice S20480x1 ![0, 3] · slices_S20480x85_S20480x1_0_3) : (⟨S20480x85, .f32⟩ : BufTy).Contents (Elt F) → (⟨S20480x1, .f32⟩ : BufTy).Contents (Elt F))
  :: StableHlo.reshape main_v59 main_v60 (rfl : (.f32 : EltTy) = .f32) shapeCasts_S20480x1_S20480
  :: StableHlo.unary main_v60 main_v61 (Host.exp : (⟨S20480, .f32⟩ : BufTy).Contents (Elt F) → (⟨S20480, .f32⟩ : BufTy).Contents (Elt F))
  :: StableHlo.binary main_v61 main_v30 main_v62 (mulf : (⟨S20480, .f32⟩ : BufTy).Contents (Elt F) → (⟨S20480, .f32⟩ : BufTy).Contents (Elt F) → (⟨S20480, .f32⟩ : BufTy).Contents (Elt F))
  :: StableHlo.nullary main_cst_16 (constant S_ .f32 0x42800000#32)
  :: StableHlo.unary main_cst_16 main_v63 (broadcastInDim S20480 ![] bcast_S_S20480 : (⟨S_, .f32⟩ : BufTy).Contents (Elt F) → (⟨S20480, .f32⟩ : BufTy).Contents (Elt F))
  :: StableHlo.binary main_v62 main_v63 main_v64 (Host.divf : (⟨S20480, .f32⟩ : BufTy).Contents (Elt F) → (⟨S20480, .f32⟩ : BufTy).Contents (Elt F) → (⟨S20480, .f32⟩ : BufTy).Contents (Elt F))
  :: StableHlo.unary main_v0 main_v65 ((extractStridedSlice S20480x1 ![0, 4] · slices_S20480x85_S20480x1_0_4) : (⟨S20480x85, .f32⟩ : BufTy).Contents (Elt F) → (⟨S20480x1, .f32⟩ : BufTy).Contents (Elt F))
  :: StableHlo.unary main_v65 main_v66 (Host.negf : (⟨S20480x1, .f32⟩ : BufTy).Contents (Elt F) → (⟨S20480x1, .f32⟩ : BufTy).Contents (Elt F))
  :: StableHlo.unary main_v66 main_v67 (Host.exp : (⟨S20480x1, .f32⟩ : BufTy).Contents (Elt F) → (⟨S20480x1, .f32⟩ : BufTy).Contents (Elt F))
  :: StableHlo.nullary main_cst_17 (constant S_ .f32 0x3F800000#32)
  :: StableHlo.unary main_cst_17 main_v68 (broadcastInDim S20480x1 ![] bcast_S_S20480x1 : (⟨S_, .f32⟩ : BufTy).Contents (Elt F) → (⟨S20480x1, .f32⟩ : BufTy).Contents (Elt F))
  :: StableHlo.binary main_v68 main_v67 main_v69 (addf : (⟨S20480x1, .f32⟩ : BufTy).Contents (Elt F) → (⟨S20480x1, .f32⟩ : BufTy).Contents (Elt F) → (⟨S20480x1, .f32⟩ : BufTy).Contents (Elt F))
  :: StableHlo.nullary main_cst_18 (constant S_ .f32 0x3F800000#32)
  :: StableHlo.unary main_cst_18 main_v70 (broadcastInDim S20480x1 ![] bcast_S_S20480x1 : (⟨S_, .f32⟩ : BufTy).Contents (Elt F) → (⟨S20480x1, .f32⟩ : BufTy).Contents (Elt F))
  :: StableHlo.binary main_v70 main_v69 main_v71 (Host.divf : (⟨S20480x1, .f32⟩ : BufTy).Contents (Elt F) → (⟨S20480x1, .f32⟩ : BufTy).Contents (Elt F) → (⟨S20480x1, .f32⟩ : BufTy).Contents (Elt F))
  :: StableHlo.unary main_v0 main_v72 ((extractStridedSlice S20480x80 ![0, 5] · slices_S20480x85_S20480x80_0_5) : (⟨S20480x85, .f32⟩ : BufTy).Contents (Elt F) → (⟨S20480x80, .f32⟩ : BufTy).Contents (Elt F))
  :: StableHlo.nullary main_cst_19 (constant S_ .f32 0xFF800000#32)
  :: StableHlo.binary main_v72 main_cst_19 main_v73 ((fun x v => Host.reduce FloatOps.maximumf x v reducesTo_S20480x80_S20480_d1 h_S_) : (⟨S20480x80, .f32⟩ : BufTy).Contents (Elt F) → (⟨S_, .f32⟩ : BufTy).Contents (Elt F) → (⟨S20480, .f32⟩ : BufTy).Contents (Elt F))
  :: StableHlo.unary main_v73 main_v74 (broadcastInDim S20480x1 ![0] bcast_S20480_S20480x1_0 : (⟨S20480, .f32⟩ : BufTy).Contents (Elt F) → (⟨S20480x1, .f32⟩ : BufTy).Contents (Elt F))
  :: StableHlo.unary main_v74 main_v75 (broadcastInDim S20480x80 ![0, 1] bcast_S20480x1_S20480x80_0_1 : (⟨S20480x1, .f32⟩ : BufTy).Contents (Elt F) → (⟨S20480x80, .f32⟩ : BufTy).Contents (Elt F))
  :: StableHlo.binary main_v72 main_v75 main_v76 (subf : (⟨S20480x80, .f32⟩ : BufTy).Contents (Elt F) → (⟨S20480x80, .f32⟩ : BufTy).Contents (Elt F) → (⟨S20480x80, .f32⟩ : BufTy).Contents (Elt F))
  :: StableHlo.unary main_v76 main_v77 (Host.exp : (⟨S20480x80, .f32⟩ : BufTy).Contents (Elt F) → (⟨S20480x80, .f32⟩ : BufTy).Contents (Elt F))
  :: StableHlo.nullary main_cst_20 (constant S_ .f32 0x00000000#32)
  :: StableHlo.binary main_v77 main_cst_20 main_v78 ((fun x v => Host.reduceAdd x v reducesTo_S20480x80_S20480_d1 h_S_) : (⟨S20480x80, .f32⟩ : BufTy).Contents (Elt F) → (⟨S_, .f32⟩ : BufTy).Contents (Elt F) → (⟨S20480, .f32⟩ : BufTy).Contents (Elt F))
  :: StableHlo.unary main_v78 main_v79 (broadcastInDim S20480x1 ![0] bcast_S20480_S20480x1_0 : (⟨S20480, .f32⟩ : BufTy).Contents (Elt F) → (⟨S20480x1, .f32⟩ : BufTy).Contents (Elt F))
  :: StableHlo.unary main_v79 main_v80 (broadcastInDim S20480x80 ![0, 1] bcast_S20480x1_S20480x80_0_1 : (⟨S20480x1, .f32⟩ : BufTy).Contents (Elt F) → (⟨S20480x80, .f32⟩ : BufTy).Contents (Elt F))
  :: StableHlo.binary main_v77 main_v80 main_v81 (Host.divf : (⟨S20480x80, .f32⟩ : BufTy).Contents (Elt F) → (⟨S20480x80, .f32⟩ : BufTy).Contents (Elt F) → (⟨S20480x80, .f32⟩ : BufTy).Contents (Elt F))
  :: StableHlo.unary main_v71 main_v82 (broadcastInDim S20480x80 ![0, 1] bcast_S20480x1_S20480x80_0_1 : (⟨S20480x1, .f32⟩ : BufTy).Contents (Elt F) → (⟨S20480x80, .f32⟩ : BufTy).Contents (Elt F))
  :: StableHlo.binary main_v82 main_v81 main_v83 (mulf : (⟨S20480x80, .f32⟩ : BufTy).Contents (Elt F) → (⟨S20480x80, .f32⟩ : BufTy).Contents (Elt F) → (⟨S20480x80, .f32⟩ : BufTy).Contents (Elt F))
  :: StableHlo.nullary main_cst_21 (constant S_ .f32 0x40000000#32)
  :: StableHlo.unary main_cst_21 main_v84 (broadcastInDim S20480 ![] bcast_S_S20480 : (⟨S_, .f32⟩ : BufTy).Contents (Elt F) → (⟨S20480, .f32⟩ : BufTy).Contents (Elt F))
  :: StableHlo.binary main_v64 main_v84 main_v85 (Host.divf : (⟨S20480, .f32⟩ : BufTy).Contents (Elt F) → (⟨S20480, .f32⟩ : BufTy).Contents (Elt F) → (⟨S20480, .f32⟩ : BufTy).Contents (Elt F))
  :: StableHlo.binary main_v52 main_v85 main_v86 (subf : (⟨S20480, .f32⟩ : BufTy).Contents (Elt F) → (⟨S20480, .f32⟩ : BufTy).Contents (Elt F) → (⟨S20480, .f32⟩ : BufTy).Contents (Elt F))
  :: StableHlo.nullary main_cst_22 (constant S_ .f32 0x40000000#32)
  :: StableHlo.unary main_cst_22 main_v87 (broadcastInDim S20480 ![] bcast_S_S20480 : (⟨S_, .f32⟩ : BufTy).Contents (Elt F) → (⟨S20480, .f32⟩ : BufTy).Contents (Elt F))
  :: StableHlo.binary main_v58 main_v87 main_v88 (Host.divf : (⟨S20480, .f32⟩ : BufTy).Contents (Elt F) → (⟨S20480, .f32⟩ : BufTy).Contents (Elt F) → (⟨S20480, .f32⟩ : BufTy).Contents (Elt F))
  :: StableHlo.binary main_v41 main_v88 main_v89 (subf : (⟨S20480, .f32⟩ : BufTy).Contents (Elt F) → (⟨S20480, .f32⟩ : BufTy).Contents (Elt F) → (⟨S20480, .f32⟩ : BufTy).Contents (Elt F))
  :: StableHlo.nullary main_cst_23 (constant S_ .f32 0x40000000#32)
  :: StableHlo.unary main_cst_23 main_v90 (broadcastInDim S20480 ![] bcast_S_S20480 : (⟨S_, .f32⟩ : BufTy).Contents (Elt F) → (⟨S20480, .f32⟩ : BufTy).Contents (Elt F))
  :: StableHlo.binary main_v64 main_v90 main_v91 (Host.divf : (⟨S20480, .f32⟩ : BufTy).Contents (Elt F) → (⟨S20480, .f32⟩ : BufTy).Contents (Elt F) → (⟨S20480, .f32⟩ : BufTy).Contents (Elt F))
  :: StableHlo.binary main_v52 main_v91 main_v92 (addf : (⟨S20480, .f32⟩ : BufTy).Contents (Elt F) → (⟨S20480, .f32⟩ : BufTy).Contents (Elt F) → (⟨S20480, .f32⟩ : BufTy).Contents (Elt F))
  :: StableHlo.nullary main_cst_24 (constant S_ .f32 0x40000000#32)
  :: StableHlo.unary main_cst_24 main_v93 (broadcastInDim S20480 ![] bcast_S_S20480 : (⟨S_, .f32⟩ : BufTy).Contents (Elt F) → (⟨S20480, .f32⟩ : BufTy).Contents (Elt F))
  :: StableHlo.binary main_v58 main_v93 main_v94 (Host.divf : (⟨S20480, .f32⟩ : BufTy).Contents (Elt F) → (⟨S20480, .f32⟩ : BufTy).Contents (Elt F) → (⟨S20480, .f32⟩ : BufTy).Contents (Elt F))
  :: StableHlo.binary main_v41 main_v94 main_v95 (addf : (⟨S20480, .f32⟩ : BufTy).Contents (Elt F) → (⟨S20480, .f32⟩ : BufTy).Contents (Elt F) → (⟨S20480, .f32⟩ : BufTy).Contents (Elt F))
  :: StableHlo.nullary main_cst_25 (constant S_ .f32 0xFF800000#32)
  :: StableHlo.binary main_v83 main_cst_25 main_v96 ((fun x v => Host.reduce FloatOps.maximumf x v reducesTo_S20480x80_S20480_d1 h_S_) : (⟨S20480x80, .f32⟩ : BufTy).Contents (Elt F) → (⟨S_, .f32⟩ : BufTy).Contents (Elt F) → (⟨S20480, .f32⟩ : BufTy).Contents (Elt F))
  :: [] )
set_option maxHeartbeats 40000000 in  -- a long stretch: its list (or the term over it) exceeds the default budget
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.reshape_bufs_sub .., StableHlo.nullary_bufs_sub .., StableHlo.reshape_bufs_sub .., StableHlo.unary_bufs_sub .., StableHlo.nullary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub ..⟩
/-- 5 host operations of @argmax (main_call0), in order. -/
abbrev hostOps0_1 : List (HloOp τ sig (Elt F)) :=
  [ StableHlo.TRef.nullary (.of main_call0_v0 : StableHlo.TRef sig ⟨S20480x80, .i32⟩) (iotaInDim S20480x80 32 1),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v83 : StableHlo.TRef sig ⟨S20480x80, .f32⟩) (.of main_call0_v0 : StableHlo.TRef sig ⟨S20480x80, .i32⟩) (.of main_call0_cst : StableHlo.TRef sig ⟨S_, .f32⟩) (.of main_call0_c : StableHlo.TRef sig ⟨S_, .i32⟩) (.of main_call0_v1_0 : StableHlo.TRef sig ⟨S20480, .f32⟩) (fun x y u v j => (Host.argReduce reducer_argmax_f32_i32 x y u v reducesTo_S20480x80_S20480_d1 h_S_ j).1),
    StableHlo.TRef.quaternary (.of main_v83 : StableHlo.TRef sig ⟨S20480x80, .f32⟩) (.of main_call0_v0 : StableHlo.TRef sig ⟨S20480x80, .i32⟩) (.of main_call0_cst : StableHlo.TRef sig ⟨S_, .f32⟩) (.of main_call0_c : StableHlo.TRef sig ⟨S_, .i32⟩) (.of main_v97 : StableHlo.TRef sig ⟨S20480, .i32⟩) (fun x y u v j => (Host.argReduce reducer_argmax_f32_i32 x y u v reducesTo_S20480x80_S20480_d1 h_S_ j).2) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 4 host operations of @main, in order. -/
abbrev hostOps0_2 : List (HloOp τ sig (Elt F)) :=
  [ StableHlo.nullary main_cst_26 (constant S_ .f32 0x3D4CCCCD#32),
    StableHlo.unary main_cst_26 main_v98 (broadcastInDim S20480 ![] bcast_S_S20480 : (⟨S_, .f32⟩ : BufTy).Contents (Elt F) → (⟨S20480, .f32⟩ : BufTy).Contents (Elt F)),
    StableHlo.binary main_v96 main_v98 main_v99 (cmpf .oge : (⟨S20480, .f32⟩ : BufTy).Contents (Elt F) → (⟨S20480, .f32⟩ : BufTy).Contents (Elt F) → (⟨S20480, .i1⟩ : BufTy).Contents (Elt F)),
    StableHlo.nullary main_cst_27 (constant S_ .f32 0xBF800000#32) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 3 host operations of @_where (main_call1), in order. -/
abbrev hostOps0_3 : List (HloOp τ sig (Elt F)) :=
  [ StableHlo.TRef.unary (.of main_cst_27 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S20480, .f32⟩) (broadcastInDim S20480 ![] bcast_S_S20480),
    StableHlo.TRef.ternary (.of main_v99 : StableHlo.TRef sig ⟨S20480, .i1⟩) (.of main_v96 : StableHlo.TRef sig ⟨S20480, .f32⟩) (.of main_call1_v1 : StableHlo.TRef sig ⟨S20480, .f32⟩) (.of main_v100 : StableHlo.TRef sig ⟨S20480, .f32⟩) select ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.unary_bufs_sub .., StableHlo.ternary_bufs_sub ..⟩
/-- 23 host operations of @main, in order. -/
abbrev hostOps0_4 : List (HloOp τ sig (Elt F)) :=
  [ StableHlo.unary main_v97 main_v101 (sitofp .f32 : (⟨S20480, .i32⟩ : BufTy).Contents (Elt F) → (⟨S20480, .f32⟩ : BufTy).Contents (Elt F)),
    StableHlo.unary main_v86 main_v102 (broadcastInDim S20480x1 ![0] bcast_S20480_S20480x1_0 : (⟨S20480, .f32⟩ : BufTy).Contents (Elt F) → (⟨S20480x1, .f32⟩ : BufTy).Contents (Elt F)),
    StableHlo.unary main_v89 main_v103 (broadcastInDim S20480x1 ![0] bcast_S20480_S20480x1_0 : (⟨S20480, .f32⟩ : BufTy).Contents (Elt F) → (⟨S20480x1, .f32⟩ : BufTy).Contents (Elt F)),
    StableHlo.unary main_v92 main_v104 (broadcastInDim S20480x1 ![0] bcast_S20480_S20480x1_0 : (⟨S20480, .f32⟩ : BufTy).Contents (Elt F) → (⟨S20480x1, .f32⟩ : BufTy).Contents (Elt F)),
    StableHlo.unary main_v95 main_v105 (broadcastInDim S20480x1 ![0] bcast_S20480_S20480x1_0 : (⟨S20480, .f32⟩ : BufTy).Contents (Elt F) → (⟨S20480x1, .f32⟩ : BufTy).Contents (Elt F)),
    StableHlo.unary main_v100 main_v106 (broadcastInDim S20480x1 ![0] bcast_S20480_S20480x1_0 : (⟨S20480, .f32⟩ : BufTy).Contents (Elt F) → (⟨S20480x1, .f32⟩ : BufTy).Contents (Elt F)),
    StableHlo.unary main_v101 main_v107 (broadcastInDim S20480x1 ![0] bcast_S20480_S20480x1_0 : (⟨S20480, .f32⟩ : BufTy).Contents (Elt F) → (⟨S20480x1, .f32⟩ : BufTy).Contents (Elt F)),
    StableHlo.nary ![main_v102, main_v103, main_v104, main_v105, main_v106, main_v107] main_v108 (fun u => (concatenate S20480x6 1 [⟨S20480x1, (u 0 : (⟨S20480x1, .f32⟩ : BufTy).Contents (Elt F))⟩, ⟨S20480x1, (u 1 : (⟨S20480x1, .f32⟩ : BufTy).Contents (Elt F))⟩, ⟨S20480x1, (u 2 : (⟨S20480x1, .f32⟩ : BufTy).Contents (Elt F))⟩, ⟨S20480x1, (u 3 : (⟨S20480x1, .f32⟩ : BufTy).Contents (Elt F))⟩, ⟨S20480x1, (u 4 : (⟨S20480x1, .f32⟩ : BufTy).Contents (Elt F))⟩, ⟨S20480x1, (u 5 : (⟨S20480x1, .f32⟩ : BufTy).Contents (Elt F))⟩] concatenates_S20480x1_S20480x1_S20480x1_S20480x1_S20480x1_S20480x1_S20480x6_d1 : (⟨S20480x6, .f32⟩ : BufTy).Contents (Elt F))),
    StableHlo.binary main_v92 main_v86 main_v109 (subf : (⟨S20480, .f32⟩ : BufTy).Contents (Elt F) → (⟨S20480, .f32⟩ : BufTy).Contents (Elt F) → (⟨S20480, .f32⟩ : BufTy).Contents (Elt F)),
    StableHlo.binary main_v95 main_v89 main_v110 (subf : (⟨S20480, .f32⟩ : BufTy).Contents (Elt F) → (⟨S20480, .f32⟩ : BufTy).Contents (Elt F) → (⟨S20480, .f32⟩ : BufTy).Contents (Elt F)),
    StableHlo.binary main_v109 main_v110 main_v111 (mulf : (⟨S20480, .f32⟩ : BufTy).Contents (Elt F) → (⟨S20480, .f32⟩ : BufTy).Contents (Elt F) → (⟨S20480, .f32⟩ : BufTy).Contents (Elt F)),
    StableHlo.nullary main_cst_28 (constant S_ .f32 0x00000000#32),
    StableHlo.unary main_cst_28 main_v112 (broadcastInDim S10x6 ![] bcast_S_S10x6 : (⟨S_, .f32⟩ : BufTy).Contents (Elt F) → (⟨S10x6, .f32⟩ : BufTy).Contents (Elt F)),
    StableHlo.nullary main_c (constantI S_ 32 0#32),
    StableHlo.unary main_v108 main_v113_0 id,
    StableHlo.unary main_v92 main_v113_1 id,
    StableHlo.unary main_v86 main_v113_2 id,
    StableHlo.unary main_v95 main_v113_3 id,
    StableHlo.unary main_v89 main_v113_4 id,
    StableHlo.unary main_v111 main_v113_5 id,
    StableHlo.unary main_c main_v113_6 id,
    StableHlo.unary main_v100 main_v113_7 id,
    StableHlo.unary main_v112 main_v113_8 id ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 7 host operations of @main, in order. -/
abbrev hostOps0_5 : List (HloOp τ sig (Elt F)) :=
  [ StableHlo.unary main_v113_8 main_v114 ((extractStridedSlice S10x1 ![0, 4] · slices_S10x6_S10x1_0_4) : (⟨S10x6, .f32⟩ : BufTy).Contents (Elt F) → (⟨S10x1, .f32⟩ : BufTy).Contents (Elt F)),
    StableHlo.nullary main_cst_29 (constant S_ .f32 0x3D4CCCCD#32),
    StableHlo.unary main_cst_29 main_v115 (broadcastInDim S10x1 ![] bcast_S_S10x1 : (⟨S_, .f32⟩ : BufTy).Contents (Elt F) → (⟨S10x1, .f32⟩ : BufTy).Contents (Elt F)),
    StableHlo.binary main_v114 main_v115 main_v116 (cmpf .oge : (⟨S10x1, .f32⟩ : BufTy).Contents (Elt F) → (⟨S10x1, .f32⟩ : BufTy).Contents (Elt F) → (⟨S10x1, .i1⟩ : BufTy).Contents (Elt F)),
    StableHlo.unary main_v116 main_v117 (uitofp .f32 : (⟨S10x1, .i1⟩ : BufTy).Contents (Elt F) → (⟨S10x1, .f32⟩ : BufTy).Contents (Elt F)),
    StableHlo.unary main_v117 main_v118 (broadcastInDim S10x6 ![0, 1] bcast_S10x1_S10x6_0_1 : (⟨S10x1, .f32⟩ : BufTy).Contents (Elt F) → (⟨S10x6, .f32⟩ : BufTy).Contents (Elt F)),
    StableHlo.binary main_v113_8 main_v118 main_v119 (mulf : (⟨S10x6, .f32⟩ : BufTy).Contents (Elt F) → (⟨S10x6, .f32⟩ : BufTy).Contents (Elt F) → (⟨S10x6, .f32⟩ : BufTy).Contents (Elt F)) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.binary_bufs_sub ..⟩
/-- 60 host operations of @main, window 0 (statements 1 … 60), in order. -/
abbrev main_part0_ops0 : List (HloOp τ sig (Elt F)) :=
  ( StableHlo.reshape main_arg0 main_v0 (rfl : (.f32 : EltTy) = .f32) shapeCasts_S1x64x64x425_S20480x85
  :: StableHlo.nullary main_v1 (iotaInDim S64x64x5 32 0)
  :: StableHlo.reshape main_v1 main_v2 (rfl : (.i32 : EltTy) = .i32) shapeCasts_S64x64x5_S20480
  :: StableHlo.unary main_v2 main_v3 (sitofp .f32 : (⟨S20480, .i32⟩ : BufTy).Contents (Elt F) → (⟨S20480, .f32⟩ : BufTy).Contents (Elt F))
  :: StableHlo.nullary main_v4 (iotaInDim S64x64x5 32 1)
  :: StableHlo.reshape main_v4 main_v5 (rfl : (.i32 : EltTy) = .i32) shapeCasts_S64x64x5_S20480
  :: StableHlo.unary main_v5 main_v6 (sitofp .f32 : (⟨S20480, .i32⟩ : BufTy).Contents (Elt F) → (⟨S20480, .f32⟩ : BufTy).Contents (Elt F))
  :: StableHlo.nullary main_cst (constant S_ .f32 0x3F8A3D71#32)
  :: StableHlo.unary main_cst main_v7 (broadcastInDim S64x64 ![] bcast_S_S64x64 : (⟨S_, .f32⟩ : BufTy).Contents (Elt F) → (⟨S64x64, .f32⟩ : BufTy).Contents (Elt F))
  :: StableHlo.nullary main_cst_0 (constant S_ .f32 0x405AE148#32)
  :: StableHlo.unary main_cst_0 main_v8 (broadcastInDim S64x64 ![] bcast_S_S64x64 : (⟨S_, .f32⟩ : BufTy).Contents (Elt F) → (⟨S64x64, .f32⟩ : BufTy).Contents (Elt F))
  :: StableHlo.nullary main_cst_1 (constant S_ .f32 0x40D428F6#32)
  :: StableHlo.unary main_cst_1 main_v9 (broadcastInDim S64x64 ![] bcast_S_S64x64 : (⟨S_, .f32⟩ : BufTy).Contents (Elt F) → (⟨S64x64, .f32⟩ : BufTy).Contents (Elt F))
  :: StableHlo.nullary main_cst_2 (constant S_ .f32 0x4116B852#32)
  :: StableHlo.unary main_cst_2 main_v10 (broadcastInDim S64x64 ![] bcast_S_S64x64 : (⟨S_, .f32⟩ : BufTy).Contents (Elt F) → (⟨S64x64, .f32⟩ : BufTy).Contents (Elt F))
  :: StableHlo.nullary main_cst_3 (constant S_ .f32 0x4184F5C3#32)
  :: StableHlo.unary main_cst_3 main_v11 (broadcastInDim S64x64 ![] bcast_S_S64x64 : (⟨S_, .f32⟩ : BufTy).Contents (Elt F) → (⟨S64x64, .f32⟩ : BufTy).Contents (Elt F))
  :: StableHlo.unary main_v7 main_v12 (broadcastInDim S64x64x1 ![0, 1] bcast_S64x64_S64x64x1_0_1 : (⟨S64x64, .f32⟩ : BufTy).Contents (Elt F) → (⟨S64x64x1, .f32⟩ : BufTy).Contents (Elt F))
  :: StableHlo.unary main_v8 main_v13 (broadcastInDim S64x64x1 ![0, 1] bcast_S64x64_S64x64x1_0_1 : (⟨S64x64, .f32⟩ : BufTy).Contents (Elt F) → (⟨S64x64x1, .f32⟩ : BufTy).Contents (Elt F))
  :: StableHlo.unary main_v9 main_v14 (broadcastInDim S64x64x1 ![0, 1] bcast_S64x64_S64x64x1_0_1 : (⟨S64x64, .f32⟩ : BufTy).Contents (Elt F) → (⟨S64x64x1, .f32⟩ : BufTy).Contents (Elt F))
  :: StableHlo.unary main_v10 main_v15 (broadcastInDim S64x64x1 ![0, 1] bcast_S64x64_S64x64x1_0_1 : (⟨S64x64, .f32⟩ : BufTy).Contents (Elt F) → (⟨S64x64x1, .f32⟩ : BufTy).Contents (Elt F))
  :: StableHlo.unary main_v11 main_v16 (broadcastInDim S64x64x1 ![0, 1] bcast_S64x64_S64x64x1_0_1 : (⟨S64x64, .f32⟩ : BufTy).Contents (Elt F) → (⟨S64x64x1, .f32⟩ : BufTy).Contents (Elt F))
  :: StableHlo.nary ![main_v12, main_v13, main_v14, main_v15, main_v16] main_v17 (fun u => (concatenate S64x64x5 2 [⟨S64x64x1, (u 0 : (⟨S64x64x1, .f32⟩ : BufTy).Contents (Elt F))⟩, ⟨S64x64x1, (u 1 : (⟨S64x64x1, .f32⟩ : BufTy).Contents (Elt F))⟩, ⟨S64x64x1, (u 2 : (⟨S64x64x1, .f32⟩ : BufTy).Contents (Elt F))⟩, ⟨S64x64x1, (u 3 : (⟨S64x64x1, .f32⟩ : BufTy).Contents (Elt F))⟩, ⟨S64x64x1, (u 4 : (⟨S64x64x1, .f32⟩ : BufTy).Contents (Elt F))⟩] concatenates_S64x64x1_S64x64x1_S64x64x1_S64x64x1_S64x64x1_S64x64x5_d2 : (⟨S64x64x5, .f32⟩ : BufTy).Contents (Elt F)))
  :: StableHlo.reshape main_v17 main_v18 (rfl : (.f32 : EltTy) = .f32) shapeCasts_S64x64x5_S20480
  :: StableHlo.nullary main_cst_4 (constant S_ .f32 0x3F9851EC#32)
  :: StableHlo.unary main_cst_4 main_v19 (broadcastInDim S64x64 ![] bcast_S_S64x64 : (⟨S_, .f32⟩ : BufTy).Contents (Elt F) → (⟨S64x64, .f32⟩ : BufTy).Contents (Elt F))
  :: StableHlo.nullary main_cst_5 (constant S_ .f32 0x408D1EB8#32)
  :: StableHlo.unary main_cst_5 main_v20 (broadcastInDim S64x64 ![] bcast_S_S64x64 : (⟨S_, .f32⟩ : BufTy).Contents (Elt F) → (⟨S64x64, .f32⟩ : BufTy).Contents (Elt F))
  :: StableHlo.nullary main_cst_6 (constant S_ .f32 0x4136147B#32)
  :: StableHlo.unary main_cst_6 main_v21 (broadcastInDim S64x64 ![] bcast_S_S64x64 : (⟨S_, .f32⟩ : BufTy).Contents (Elt F) → (⟨S64x64, .f32⟩ : BufTy).Contents (Elt F))
  :: StableHlo.nullary main_cst_7 (constant S_ .f32 0x40A3851F#32)
  :: StableHlo.unary main_cst_7 main_v22 (broadcastInDim S64x64 ![] bcast_S_S64x64 : (⟨S_, .f32⟩ : BufTy).Contents (Elt F) → (⟨S64x64, .f32⟩ : BufTy).Contents (Elt F))
  :: StableHlo.nullary main_cst_8 (constant S_ .f32 0x412851EC#32)
  :: StableHlo.unary main_cst_8 main_v23 (broadcastInDim S64x64 ![] bcast_S_S64x64 : (⟨S_, .f32⟩ : BufTy).Contents (Elt F) → (⟨S64x64, .f32⟩ : BufTy).Contents (Elt F))
  :: StableHlo.unary main_v19 main_v24 (broadcastInDim S64x64x1 ![0, 1] bcast_S64x64_S64x64x1_0_1 : (⟨S64x64, .f32⟩ : BufTy).Contents (Elt F) → (⟨S64x64x1, .f32⟩ : BufTy).Contents (Elt F))
  :: StableHlo.unary main_v20 main_v25 (broadcastInDim S64x64x1 ![0, 1] bcast_S64x64_S64x64x1_0_1 : (⟨S64x64, .f32⟩ : BufTy).Contents (Elt F) → (⟨S64x64x1, .f32⟩ : BufTy).Contents (Elt F))
  :: StableHlo.unary main_v21 main_v26 (broadcastInDim S64x64x1 ![0, 1] bcast_S64x64_S64x64x1_0_1 : (⟨S64x64, .f32⟩ : BufTy).Contents (Elt F) → (⟨S64x64x1, .f32⟩ : BufTy).Contents (Elt F))
  :: StableHlo.unary main_v22 main_v27 (broadcastInDim S64x64x1 ![0, 1] bcast_S64x64_S64x64x1_0_1 : (⟨S64x64, .f32⟩ : BufTy).Contents (Elt F) → (⟨S64x64x1, .f32⟩ : BufTy).Contents (Elt F))
  :: StableHlo.unary main_v23 main_v28 (broadcastInDim S64x64x1 ![0, 1] bcast_S64x64_S64x64x1_0_1 : (⟨S64x64, .f32⟩ : BufTy).Contents (Elt F) → (⟨S64x64x1, .f32⟩ : BufTy).Contents (Elt F))
  :: StableHlo.nary ![main_v24, main_v25, main_v26, main_v27, main_v28] main_v29 (fun u => (concatenate S64x64x5 2 [⟨S64x64x1, (u 0 : (⟨S64x64x1, .f32⟩ : BufTy).Contents (Elt F))⟩, ⟨S64x64x1, (u 1 : (⟨S64x64x1, .f32⟩ : BufTy).Contents (Elt F))⟩, ⟨S64x64x1, (u 2 : (⟨S64x64x1, .f32⟩ : BufTy).Contents (Elt F))⟩, ⟨S64x64x1, (u 3 : (⟨S64x64x1, .f32⟩ : BufTy).Contents (Elt F))⟩, ⟨S64x64x1, (u 4 : (⟨S64x64x1, .f32⟩ : BufTy).Contents (Elt F))⟩] concatenates_S64x64x1_S64x64x1_S64x64x1_S64x64x1_S64x64x1_S64x64x5_d2 : (⟨S64x64x5, .f32⟩ : BufTy).Contents (Elt F)))
  :: StableHlo.reshape main_v29 main_v30 (rfl : (.f32 : EltTy) = .f32) shapeCasts_S64x64x5_S20480
  :: StableHlo.unary main_v0 main_v31 ((extractStridedSlice S20480x1 ![0, 0] · slices_S20480x85_S20480x1_0_0) : (⟨S20480x85, .f32⟩ : BufTy).Contents (Elt F) → (⟨S20480x1, .f32⟩ : BufTy).Contents (Elt F))
  :: StableHlo.reshape main_v31 main_v32 (rfl : (.f32 : EltTy) = .f32) shapeCasts_S20480x1_S20480
  :: StableHlo.unary main_v32 main_v33 (Host.negf : (⟨S20480, .f32⟩ : BufTy).Contents (Elt F) → (⟨S20480, .f32⟩ : BufTy).Contents (Elt F))
  :: StableHlo.unary main_v33 main_v34 (Host.exp : (⟨S20480, .f32⟩ : BufTy).Contents (Elt F) → (⟨S20480, .f32⟩ : BufTy).Contents (Elt F))
  :: StableHlo.nullary main_cst_9 (constant S_ .f32 0x3F800000#32)
  :: StableHlo.unary main_cst_9 main_v35 (broadcastInDim S20480 ![] bcast_S_S20480 : (⟨S_, .f32⟩ : BufTy).Contents (Elt F) → (⟨S20480, .f32⟩ : BufTy).Contents (Elt F))
  :: StableHlo.binary main_v35 main_v34 main_v36 (addf : (⟨S20480, .f32⟩ : BufTy).Contents (Elt F) → (⟨S20480, .f32⟩ : BufTy).Contents (Elt F) → (⟨S20480, .f32⟩ : BufTy).Contents (Elt F))
  :: StableHlo.nullary main_cst_10 (constant S_ .f32 0x3F800000#32)
  :: StableHlo.unary main_cst_10 main_v37 (broadcastInDim S20480 ![] bcast_S_S20480 : (⟨S_, .f32⟩ : BufTy).Contents (Elt F) → (⟨S20480, .f32⟩ : BufTy).Contents (Elt F))
  :: StableHlo.binary main_v37 main_v36 main_v38 (Host.divf : (⟨S20480, .f32⟩ : BufTy).Contents (Elt F) → (⟨S20480, .f32⟩ : BufTy).Contents (Elt F) → (⟨S20480, .f32⟩ : BufTy).Contents (Elt F))
  :: StableHlo.binary main_v38 main_v6 main_v39 (addf : (⟨S20480, .f32⟩ : BufTy).Contents (Elt F) → (⟨S20480, .f32⟩ : BufTy).Contents (Elt F) → (⟨S20480, .f32⟩ : BufTy).Contents (Elt F))
  :: StableHlo.nullary main_cst_11 (constant S_ .f32 0x42800000#32)
  :: StableHlo.unary main_cst_11 main_v40 (broadcastInDim S20480 ![] bcast_S_S20480 : (⟨S_, .f32⟩ : BufTy).Contents (Elt F) → (⟨S20480, .f32⟩ : BufTy).Contents (Elt F))
  :: StableHlo.binary main_v39 main_v40 main_v41 (Host.divf : (⟨S20480, .f32⟩ : BufTy).Contents (Elt F) → (⟨S20480, .f32⟩ : BufTy).Contents (Elt F) → (⟨S20480, .f32⟩ : BufTy).Contents (Elt F))
  :: StableHlo.unary main_v0 main_v42 ((extractStridedSlice S20480x1 ![0, 1] · slices_S20480x85_S20480x1_0_1) : (⟨S20480x85, .f32⟩ : BufTy).Contents (Elt F) → (⟨S20480x1, .f32⟩ : BufTy).Contents (Elt F))
  :: StableHlo.reshape main_v42 main_v43 (rfl : (.f32 : EltTy) = .f32) shapeCasts_S20480x1_S20480
  :: StableHlo.unary main_v43 main_v44 (Host.negf : (⟨S20480, .f32⟩ : BufTy).Contents (Elt F) → (⟨S20480, .f32⟩ : BufTy).Contents (Elt F))
  :: StableHlo.unary main_v44 main_v45 (Host.exp : (⟨S20480, .f32⟩ : BufTy).Contents (Elt F) → (⟨S20480, .f32⟩ : BufTy).Contents (Elt F))
  :: StableHlo.nullary main_cst_12 (constant S_ .f32 0x3F800000#32)
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.reshape_bufs_sub .., StableHlo.nullary_bufs_sub .., StableHlo.reshape_bufs_sub .., StableHlo.unary_bufs_sub .., StableHlo.nullary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.nullary_bufs_sub ..⟩
/-- Window 0 of `main` (`main_part0`, statements 1 … 60) is the chain of ITS items ending in the last
    (`Pipeline.chainK`: no closing `pure`, the window's last statement being in tail position), by `chain_rfl`. -/
theorem main_part0_chain (c : Dev nD) : main_part0 (F := F) c = (Pipeline.chainK
  [  ]
  (StableHlo.seq main_part0_ops0) : Prog (TpuEff nD τ sig (Elt F) (HostLoop.Sig (Pipeline.Sig Λ₀ (Fin 0) fun p => (pcfgs (F := F) p).Adm) 1) .tc) PUnit) := by
  chain_rfl

/-- 60 host operations of @main, window 1 (statements 61 … 120), in order. -/
abbrev main_part1_ops0 : List (HloOp τ sig (Elt F)) :=
  ( StableHlo.unary main_cst_12 main_v46 (broadcastInDim S20480 ![] bcast_S_S20480 : (⟨S_, .f32⟩ : BufTy).Contents (Elt F) → (⟨S20480, .f32⟩ : BufTy).Contents (Elt F))
  :: StableHlo.binary main_v46 main_v45 main_v47 (addf : (⟨S20480, .f32⟩ : BufTy).Contents (Elt F) → (⟨S20480, .f32⟩ : BufTy).Contents (Elt F) → (⟨S20480, .f32⟩ : BufTy).Contents (Elt F))
  :: StableHlo.nullary main_cst_13 (constant S_ .f32 0x3F800000#32)
  :: StableHlo.unary main_cst_13 main_v48 (broadcastInDim S20480 ![] bcast_S_S20480 : (⟨S_, .f32⟩ : BufTy).Contents (Elt F) → (⟨S20480, .f32⟩ : BufTy).Contents (Elt F))
  :: StableHlo.binary main_v48 main_v47 main_v49 (Host.divf : (⟨S20480, .f32⟩ : BufTy).Contents (Elt F) → (⟨S20480, .f32⟩ : BufTy).Contents (Elt F) → (⟨S20480, .f32⟩ : BufTy).Contents (Elt F))
  :: StableHlo.binary main_v49 main_v3 main_v50 (addf : (⟨S20480, .f32⟩ : BufTy).Contents (Elt F) → (⟨S20480, .f32⟩ : BufTy).Contents (Elt F) → (⟨S20480, .f32⟩ : BufTy).Contents (Elt F))
  :: StableHlo.nullary main_cst_14 (constant S_ .f32 0x42800000#32)
  :: StableHlo.unary main_cst_14 main_v51 (broadcastInDim S20480 ![] bcast_S_S20480 : (⟨S_, .f32⟩ : BufTy).Contents (Elt F) → (⟨S20480, .f32⟩ : BufTy).Contents (Elt F))
  :: StableHlo.binary main_v50 main_v51 main_v52 (Host.divf : (⟨S20480, .f32⟩ : BufTy).Contents (Elt F) → (⟨S20480, .f32⟩ : BufTy).Contents (Elt F) → (⟨S20480, .f32⟩ : BufTy).Contents (Elt F))
  :: StableHlo.unary main_v0 main_v53 ((extractStridedSlice S20480x1 ![0, 2] · slices_S20480x85_S20480x1_0_2) : (⟨S20480x85, .f32⟩ : BufTy).Contents (Elt F) → (⟨S20480x1, .f32⟩ : BufTy).Contents (Elt F))
  :: StableHlo.reshape main_v53 main_v54 (rfl : (.f32 : EltTy) = .f32) shapeCasts_S20480x1_S20480
  :: StableHlo.unary main_v54 main_v55 (Host.exp : (⟨S20480, .f32⟩ : BufTy).Contents (Elt F) → (⟨S20480, .f32⟩ : BufTy).Contents (Elt F))
  :: StableHlo.binary main_v55 main_v18 main_v56 (mulf : (⟨S20480, .f32⟩ : BufTy).Contents (Elt F) → (⟨S20480, .f32⟩ : BufTy).Contents (Elt F) → (⟨S20480, .f32⟩ : BufTy).Contents (Elt F))
  :: StableHlo.nullary main_cst_15 (constant S_ .f32 0x42800000#32)
  :: StableHlo.unary main_cst_15 main_v57 (broadcastInDim S20480 ![] bcast_S_S20480 : (⟨S_, .f32⟩ : BufTy).Contents (Elt F) → (⟨S20480, .f32⟩ : BufTy).Contents (Elt F))
  :: StableHlo.binary main_v56 main_v57 main_v58 (Host.divf : (⟨S20480, .f32⟩ : BufTy).Contents (Elt F) → (⟨S20480, .f32⟩ : BufTy).Contents (Elt F) → (⟨S20480, .f32⟩ : BufTy).Contents (Elt F))
  :: StableHlo.unary main_v0 main_v59 ((extractStridedSlice S20480x1 ![0, 3] · slices_S20480x85_S20480x1_0_3) : (⟨S20480x85, .f32⟩ : BufTy).Contents (Elt F) → (⟨S20480x1, .f32⟩ : BufTy).Contents (Elt F))
  :: StableHlo.reshape main_v59 main_v60 (rfl : (.f32 : EltTy) = .f32) shapeCasts_S20480x1_S20480
  :: StableHlo.unary main_v60 main_v61 (Host.exp : (⟨S20480, .f32⟩ : BufTy).Contents (Elt F) → (⟨S20480, .f32⟩ : BufTy).Contents (Elt F))
  :: StableHlo.binary main_v61 main_v30 main_v62 (mulf : (⟨S20480, .f32⟩ : BufTy).Contents (Elt F) → (⟨S20480, .f32⟩ : BufTy).Contents (Elt F) → (⟨S20480, .f32⟩ : BufTy).Contents (Elt F))
  :: StableHlo.nullary main_cst_16 (constant S_ .f32 0x42800000#32)
  :: StableHlo.unary main_cst_16 main_v63 (broadcastInDim S20480 ![] bcast_S_S20480 : (⟨S_, .f32⟩ : BufTy).Contents (Elt F) → (⟨S20480, .f32⟩ : BufTy).Contents (Elt F))
  :: StableHlo.binary main_v62 main_v63 main_v64 (Host.divf : (⟨S20480, .f32⟩ : BufTy).Contents (Elt F) → (⟨S20480, .f32⟩ : BufTy).Contents (Elt F) → (⟨S20480, .f32⟩ : BufTy).Contents (Elt F))
  :: StableHlo.unary main_v0 main_v65 ((extractStridedSlice S20480x1 ![0, 4] · slices_S20480x85_S20480x1_0_4) : (⟨S20480x85, .f32⟩ : BufTy).Contents (Elt F) → (⟨S20480x1, .f32⟩ : BufTy).Contents (Elt F))
  :: StableHlo.unary main_v65 main_v66 (Host.negf : (⟨S20480x1, .f32⟩ : BufTy).Contents (Elt F) → (⟨S20480x1, .f32⟩ : BufTy).Contents (Elt F))
  :: StableHlo.unary main_v66 main_v67 (Host.exp : (⟨S20480x1, .f32⟩ : BufTy).Contents (Elt F) → (⟨S20480x1, .f32⟩ : BufTy).Contents (Elt F))
  :: StableHlo.nullary main_cst_17 (constant S_ .f32 0x3F800000#32)
  :: StableHlo.unary main_cst_17 main_v68 (broadcastInDim S20480x1 ![] bcast_S_S20480x1 : (⟨S_, .f32⟩ : BufTy).Contents (Elt F) → (⟨S20480x1, .f32⟩ : BufTy).Contents (Elt F))
  :: StableHlo.binary main_v68 main_v67 main_v69 (addf : (⟨S20480x1, .f32⟩ : BufTy).Contents (Elt F) → (⟨S20480x1, .f32⟩ : BufTy).Contents (Elt F) → (⟨S20480x1, .f32⟩ : BufTy).Contents (Elt F))
  :: StableHlo.nullary main_cst_18 (constant S_ .f32 0x3F800000#32)
  :: StableHlo.unary main_cst_18 main_v70 (broadcastInDim S20480x1 ![] bcast_S_S20480x1 : (⟨S_, .f32⟩ : BufTy).Contents (Elt F) → (⟨S20480x1, .f32⟩ : BufTy).Contents (Elt F))
  :: StableHlo.binary main_v70 main_v69 main_v71 (Host.divf : (⟨S20480x1, .f32⟩ : BufTy).Contents (Elt F) → (⟨S20480x1, .f32⟩ : BufTy).Contents (Elt F) → (⟨S20480x1, .f32⟩ : BufTy).Contents (Elt F))
  :: StableHlo.unary main_v0 main_v72 ((extractStridedSlice S20480x80 ![0, 5] · slices_S20480x85_S20480x80_0_5) : (⟨S20480x85, .f32⟩ : BufTy).Contents (Elt F) → (⟨S20480x80, .f32⟩ : BufTy).Contents (Elt F))
  :: StableHlo.nullary main_cst_19 (constant S_ .f32 0xFF800000#32)
  :: StableHlo.binary main_v72 main_cst_19 main_v73 ((fun x v => Host.reduce FloatOps.maximumf x v reducesTo_S20480x80_S20480_d1 h_S_) : (⟨S20480x80, .f32⟩ : BufTy).Contents (Elt F) → (⟨S_, .f32⟩ : BufTy).Contents (Elt F) → (⟨S20480, .f32⟩ : BufTy).Contents (Elt F))
  :: StableHlo.unary main_v73 main_v74 (broadcastInDim S20480x1 ![0] bcast_S20480_S20480x1_0 : (⟨S20480, .f32⟩ : BufTy).Contents (Elt F) → (⟨S20480x1, .f32⟩ : BufTy).Contents (Elt F))
  :: StableHlo.unary main_v74 main_v75 (broadcastInDim S20480x80 ![0, 1] bcast_S20480x1_S20480x80_0_1 : (⟨S20480x1, .f32⟩ : BufTy).Contents (Elt F) → (⟨S20480x80, .f32⟩ : BufTy).Contents (Elt F))
  :: StableHlo.binary main_v72 main_v75 main_v76 (subf : (⟨S20480x80, .f32⟩ : BufTy).Contents (Elt F) → (⟨S20480x80, .f32⟩ : BufTy).Contents (Elt F) → (⟨S20480x80, .f32⟩ : BufTy).Contents (Elt F))
  :: StableHlo.unary main_v76 main_v77 (Host.exp : (⟨S20480x80, .f32⟩ : BufTy).Contents (Elt F) → (⟨S20480x80, .f32⟩ : BufTy).Contents (Elt F))
  :: StableHlo.nullary main_cst_20 (constant S_ .f32 0x00000000#32)
  :: StableHlo.binary main_v77 main_cst_20 main_v78 ((fun x v => Host.reduceAdd x v reducesTo_S20480x80_S20480_d1 h_S_) : (⟨S20480x80, .f32⟩ : BufTy).Contents (Elt F) → (⟨S_, .f32⟩ : BufTy).Contents (Elt F) → (⟨S20480, .f32⟩ : BufTy).Contents (Elt F))
  :: StableHlo.unary main_v78 main_v79 (broadcastInDim S20480x1 ![0] bcast_S20480_S20480x1_0 : (⟨S20480, .f32⟩ : BufTy).Contents (Elt F) → (⟨S20480x1, .f32⟩ : BufTy).Contents (Elt F))
  :: StableHlo.unary main_v79 main_v80 (broadcastInDim S20480x80 ![0, 1] bcast_S20480x1_S20480x80_0_1 : (⟨S20480x1, .f32⟩ : BufTy).Contents (Elt F) → (⟨S20480x80, .f32⟩ : BufTy).Contents (Elt F))
  :: StableHlo.binary main_v77 main_v80 main_v81 (Host.divf : (⟨S20480x80, .f32⟩ : BufTy).Contents (Elt F) → (⟨S20480x80, .f32⟩ : BufTy).Contents (Elt F) → (⟨S20480x80, .f32⟩ : BufTy).Contents (Elt F))
  :: StableHlo.unary main_v71 main_v82 (broadcastInDim S20480x80 ![0, 1] bcast_S20480x1_S20480x80_0_1 : (⟨S20480x1, .f32⟩ : BufTy).Contents (Elt F) → (⟨S20480x80, .f32⟩ : BufTy).Contents (Elt F))
  :: StableHlo.binary main_v82 main_v81 main_v83 (mulf : (⟨S20480x80, .f32⟩ : BufTy).Contents (Elt F) → (⟨S20480x80, .f32⟩ : BufTy).Contents (Elt F) → (⟨S20480x80, .f32⟩ : BufTy).Contents (Elt F))
  :: StableHlo.nullary main_cst_21 (constant S_ .f32 0x40000000#32)
  :: StableHlo.unary main_cst_21 main_v84 (broadcastInDim S20480 ![] bcast_S_S20480 : (⟨S_, .f32⟩ : BufTy).Contents (Elt F) → (⟨S20480, .f32⟩ : BufTy).Contents (Elt F))
  :: StableHlo.binary main_v64 main_v84 main_v85 (Host.divf : (⟨S20480, .f32⟩ : BufTy).Contents (Elt F) → (⟨S20480, .f32⟩ : BufTy).Contents (Elt F) → (⟨S20480, .f32⟩ : BufTy).Contents (Elt F))
  :: StableHlo.binary main_v52 main_v85 main_v86 (subf : (⟨S20480, .f32⟩ : BufTy).Contents (Elt F) → (⟨S20480, .f32⟩ : BufTy).Contents (Elt F) → (⟨S20480, .f32⟩ : BufTy).Contents (Elt F))
  :: StableHlo.nullary main_cst_22 (constant S_ .f32 0x40000000#32)
  :: StableHlo.unary main_cst_22 main_v87 (broadcastInDim S20480 ![] bcast_S_S20480 : (⟨S_, .f32⟩ : BufTy).Contents (Elt F) → (⟨S20480, .f32⟩ : BufTy).Contents (Elt F))
  :: StableHlo.binary main_v58 main_v87 main_v88 (Host.divf : (⟨S20480, .f32⟩ : BufTy).Contents (Elt F) → (⟨S20480, .f32⟩ : BufTy).Contents (Elt F) → (⟨S20480, .f32⟩ : BufTy).Contents (Elt F))
  :: StableHlo.binary main_v41 main_v88 main_v89 (subf : (⟨S20480, .f32⟩ : BufTy).Contents (Elt F) → (⟨S20480, .f32⟩ : BufTy).Contents (Elt F) → (⟨S20480, .f32⟩ : BufTy).Contents (Elt F))
  :: StableHlo.nullary main_cst_23 (constant S_ .f32 0x40000000#32)
  :: StableHlo.unary main_cst_23 main_v90 (broadcastInDim S20480 ![] bcast_S_S20480 : (⟨S_, .f32⟩ : BufTy).Contents (Elt F) → (⟨S20480, .f32⟩ : BufTy).Contents (Elt F))
  :: StableHlo.binary main_v64 main_v90 main_v91 (Host.divf : (⟨S20480, .f32⟩ : BufTy).Contents (Elt F) → (⟨S20480, .f32⟩ : BufTy).Contents (Elt F) → (⟨S20480, .f32⟩ : BufTy).Contents (Elt F))
  :: StableHlo.binary main_v52 main_v91 main_v92 (addf : (⟨S20480, .f32⟩ : BufTy).Contents (Elt F) → (⟨S20480, .f32⟩ : BufTy).Contents (Elt F) → (⟨S20480, .f32⟩ : BufTy).Contents (Elt F))
  :: StableHlo.nullary main_cst_24 (constant S_ .f32 0x40000000#32)
  :: StableHlo.unary main_cst_24 main_v93 (broadcastInDim S20480 ![] bcast_S_S20480 : (⟨S_, .f32⟩ : BufTy).Contents (Elt F) → (⟨S20480, .f32⟩ : BufTy).Contents (Elt F))
  :: [] )
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub ..⟩
/-- Window 1 of `main` (`main_part1`, statements 61 … 120) is the chain of ITS items ending in the last
    (`Pipeline.chainK`: no closing `pure`, the window's last statement being in tail position), by `chain_rfl`. -/
theorem main_part1_chain (c : Dev nD) : main_part1 (F := F) c = (Pipeline.chainK
  [  ]
  (StableHlo.seq main_part1_ops0) : Prog (TpuEff nD τ sig (Elt F) (HostLoop.Sig (Pipeline.Sig Λ₀ (Fin 0) fun p => (pcfgs (F := F) p).Adm) 1) .tc) PUnit) := by
  chain_rfl

/-- 4 host operations of @main, window 2 (statements 121 … 162), in order. -/
abbrev main_part2_ops0 : List (HloOp τ sig (Elt F)) :=
  [ StableHlo.binary main_v58 main_v93 main_v94 (Host.divf : (⟨S20480, .f32⟩ : BufTy).Contents (Elt F) → (⟨S20480, .f32⟩ : BufTy).Contents (Elt F) → (⟨S20480, .f32⟩ : BufTy).Contents (Elt F)),
    StableHlo.binary main_v41 main_v94 main_v95 (addf : (⟨S20480, .f32⟩ : BufTy).Contents (Elt F) → (⟨S20480, .f32⟩ : BufTy).Contents (Elt F) → (⟨S20480, .f32⟩ : BufTy).Contents (Elt F)),
    StableHlo.nullary main_cst_25 (constant S_ .f32 0xFF800000#32),
    StableHlo.binary main_v83 main_cst_25 main_v96 ((fun x v => Host.reduce FloatOps.maximumf x v reducesTo_S20480x80_S20480_d1 h_S_) : (⟨S20480x80, .f32⟩ : BufTy).Contents (Elt F) → (⟨S_, .f32⟩ : BufTy).Contents (Elt F) → (⟨S20480, .f32⟩ : BufTy).Contents (Elt F)) ]
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub ..⟩
/-- 5 host operations of @argmax (main_call0), window 2 (statements 121 … 162), in order. -/
abbrev main_part2_ops1 : List (HloOp τ sig (Elt F)) :=
  [ StableHlo.TRef.nullary (.of main_call0_v0 : StableHlo.TRef sig ⟨S20480x80, .i32⟩) (iotaInDim S20480x80 32 1),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v83 : StableHlo.TRef sig ⟨S20480x80, .f32⟩) (.of main_call0_v0 : StableHlo.TRef sig ⟨S20480x80, .i32⟩) (.of main_call0_cst : StableHlo.TRef sig ⟨S_, .f32⟩) (.of main_call0_c : StableHlo.TRef sig ⟨S_, .i32⟩) (.of main_call0_v1_0 : StableHlo.TRef sig ⟨S20480, .f32⟩) (fun x y u v j => (Host.argReduce reducer_argmax_f32_i32 x y u v reducesTo_S20480x80_S20480_d1 h_S_ j).1),
    StableHlo.TRef.quaternary (.of main_v83 : StableHlo.TRef sig ⟨S20480x80, .f32⟩) (.of main_call0_v0 : StableHlo.TRef sig ⟨S20480x80, .i32⟩) (.of main_call0_cst : StableHlo.TRef sig ⟨S_, .f32⟩) (.of main_call0_c : StableHlo.TRef sig ⟨S_, .i32⟩) (.of main_v97 : StableHlo.TRef sig ⟨S20480, .i32⟩) (fun x y u v j => (Host.argReduce reducer_argmax_f32_i32 x y u v reducesTo_S20480x80_S20480_d1 h_S_ j).2) ]
/-- Each touches TensorCore references only (`HostSeg.ofOps` over `StableHlo.tcRefs`, or a subset by `sub_ucRefs`). -/
theorem main_part2_ops1_sub : (main_part2_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 4 host operations of @main, window 2 (statements 121 … 162), in order. -/
abbrev main_part2_ops2 : List (HloOp τ sig (Elt F)) :=
  [ StableHlo.nullary main_cst_26 (constant S_ .f32 0x3D4CCCCD#32),
    StableHlo.unary main_cst_26 main_v98 (broadcastInDim S20480 ![] bcast_S_S20480 : (⟨S_, .f32⟩ : BufTy).Contents (Elt F) → (⟨S20480, .f32⟩ : BufTy).Contents (Elt F)),
    StableHlo.binary main_v96 main_v98 main_v99 (cmpf .oge : (⟨S20480, .f32⟩ : BufTy).Contents (Elt F) → (⟨S20480, .f32⟩ : BufTy).Contents (Elt F) → (⟨S20480, .i1⟩ : BufTy).Contents (Elt F)),
    StableHlo.nullary main_cst_27 (constant S_ .f32 0xBF800000#32) ]
/-- Each touches TensorCore references only (`HostSeg.ofOps` over `StableHlo.tcRefs`, or a subset by `sub_ucRefs`). -/
theorem main_part2_ops2_sub : (main_part2_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 3 host operations of @_where (main_call1), window 2 (statements 121 … 162), in order. -/
abbrev main_part2_ops3 : List (HloOp τ sig (Elt F)) :=
  [ StableHlo.TRef.unary (.of main_cst_27 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S20480, .f32⟩) (broadcastInDim S20480 ![] bcast_S_S20480),
    StableHlo.TRef.ternary (.of main_v99 : StableHlo.TRef sig ⟨S20480, .i1⟩) (.of main_v96 : StableHlo.TRef sig ⟨S20480, .f32⟩) (.of main_call1_v1 : StableHlo.TRef sig ⟨S20480, .f32⟩) (.of main_v100 : StableHlo.TRef sig ⟨S20480, .f32⟩) select ]
/-- Each touches TensorCore references only (`HostSeg.ofOps` over `StableHlo.tcRefs`, or a subset by `sub_ucRefs`). -/
theorem main_part2_ops3_sub : (main_part2_ops3 : List (HloOp τ sig (Elt F))).Forall fun op => op.bufs ⊆ StableHlo.tcRefs τ sig :=
  ⟨StableHlo.unary_bufs_sub .., StableHlo.unary_bufs_sub .., StableHlo.ternary_bufs_sub ..⟩
/-- 23 host operations of @main, window 2 (statements 121 … 162), in order. -/
abbrev main_part2_ops4 : List (HloOp τ sig (Elt F)) :=
  [ StableHlo.unary main_v97 main_v101 (sitofp .f32 : (⟨S20480, .i32⟩ : BufTy).Contents (Elt F) → (⟨S20480, .f32⟩ : BufTy).Contents (Elt F)),
    StableHlo.unary main_v86 main_v102 (broadcastInDim S20480x1 ![0] bcast_S20480_S20480x1_0 : (⟨S20480, .f32⟩ : BufTy).Contents (Elt F) → (⟨S20480x1, .f32⟩ : BufTy).Contents (Elt F)),
    StableHlo.unary main_v89 main_v103 (broadcastInDim S20480x1 ![0] bcast_S20480_S20480x1_0 : (⟨S20480, .f32⟩ : BufTy).Contents (Elt F) → (⟨S20480x1, .f32⟩ : BufTy).Contents (Elt F)),
    StableHlo.unary main_v92 main_v104 (broadcastInDim S20480x1 ![0] bcast_S20480_S20480x1_0 : (⟨S20480, .f32⟩ : BufTy).Contents (Elt F) → (⟨S20480x1, .f32⟩ : BufTy).Contents (Elt F)),
    StableHlo.unary main_v95 main_v105 (broadcastInDim S20480x1 ![0] bcast_S20480_S20480x1_0 : (⟨S20480, .f32⟩ : BufTy).Contents (Elt F) → (⟨S20480x1, .f32⟩ : BufTy).Contents (Elt F)),
    StableHlo.unary main_v100 main_v106 (broadcastInDim S20480x1 ![0] bcast_S20480_S20480x1_0 : (⟨S20480, .f32⟩ : BufTy).Contents (Elt F) → (⟨S20480x1, .f32⟩ : BufTy).Contents (Elt F)),
    StableHlo.unary main_v101 main_v107 (broadcastInDim S20480x1 ![0] bcast_S20480_S20480x1_0 : (⟨S20480, .f32⟩ : BufTy).Contents (Elt F) → (⟨S20480x1, .f32⟩ : BufTy).Contents (Elt F)),
    StableHlo.nary ![main_v102, main_v103, main_v104, main_v105, main_v106, main_v107] main_v108 (fun u => (concatenate S20480x6 1 [⟨S20480x1, (u 0 : (⟨S20480x1, .f32⟩ : BufTy).Contents (Elt F))⟩, ⟨S20480x1, (u 1 : (⟨S20480x1, .f32⟩ : BufTy).Contents (Elt F))⟩, ⟨S20480x1, (u 2 : (⟨S20480x1, .f32⟩ : BufTy).Contents (Elt F))⟩, ⟨S20480x1, (u 3 : (⟨S20480x1, .f32⟩ : BufTy).Contents (Elt F))⟩, ⟨S20480x1, (u 4 : (⟨S20480x1, .f32⟩ : BufTy).Contents (Elt F))⟩, ⟨S20480x1, (u 5 : (⟨S20480x1, .f32⟩ : BufTy).Contents (Elt F))⟩] concatenates_S20480x1_S20480x1_S20480x1_S20480x1_S20480x1_S20480x1_S20480x6_d1 : (⟨S20480x6, .f32⟩ : BufTy).Contents (Elt F))),
    StableHlo.binary main_v92 main_v86 main_v109 (subf : (⟨S20480, .f32⟩ : BufTy).Contents (Elt F) → (⟨S20480, .f32⟩ : BufTy).Contents (Elt F) → (⟨S20480, .f32⟩ : BufTy).Contents (Elt F)),
    StableHlo.binary main_v95 main_v89 main_v110 (subf : (⟨S20480, .f32⟩ : BufTy).Contents (Elt F) → (⟨S20480, .f32⟩ : BufTy).Contents (Elt F) → (⟨S20480, .f32⟩ : BufTy).Contents (Elt F)),
    StableHlo.binary main_v109 main_v110 main_v111 (mulf : (⟨S20480, .f32⟩ : BufTy).Contents (Elt F) → (⟨S20480, .f32⟩ : BufTy).Contents (Elt F) → (⟨S20480, .f32⟩ : BufTy).Contents (Elt F)),
    StableHlo.nullary main_cst_28 (constant S_ .f32 0x00000000#32),
    StableHlo.unary main_cst_28 main_v112 (broadcastInDim S10x6 ![] bcast_S_S10x6 : (⟨S_, .f32⟩ : BufTy).Contents (Elt F) → (⟨S10x6, .f32⟩ : BufTy).Contents (Elt F)),
    StableHlo.nullary main_c (constantI S_ 32 0#32),
    StableHlo.unary main_v108 main_v113_0 id,
    StableHlo.unary main_v92 main_v113_1 id,
    StableHlo.unary main_v86 main_v113_2 id,
    StableHlo.unary main_v95 main_v113_3 id,
    StableHlo.unary main_v89 main_v113_4 id,
    StableHlo.unary main_v111 main_v113_5 id,
    StableHlo.unary main_c main_v113_6 id,
    StableHlo.unary main_v100 main_v113_7 id,
    StableHlo.unary main_v112 main_v113_8 id ]
/-- Each touches TensorCore references only (`HostSeg.ofOps` over `StableHlo.tcRefs`, or a subset by `sub_ucRefs`). -/
theorem main_part2_ops4_sub : (main_part2_ops4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 7 host operations of @main, window 2 (statements 121 … 162), in order. -/
abbrev main_part2_ops5 : List (HloOp τ sig (Elt F)) :=
  [ StableHlo.unary main_v113_8 main_v114 ((extractStridedSlice S10x1 ![0, 4] · slices_S10x6_S10x1_0_4) : (⟨S10x6, .f32⟩ : BufTy).Contents (Elt F) → (⟨S10x1, .f32⟩ : BufTy).Contents (Elt F)),
    StableHlo.nullary main_cst_29 (constant S_ .f32 0x3D4CCCCD#32),
    StableHlo.unary main_cst_29 main_v115 (broadcastInDim S10x1 ![] bcast_S_S10x1 : (⟨S_, .f32⟩ : BufTy).Contents (Elt F) → (⟨S10x1, .f32⟩ : BufTy).Contents (Elt F)),
    StableHlo.binary main_v114 main_v115 main_v116 (cmpf .oge : (⟨S10x1, .f32⟩ : BufTy).Contents (Elt F) → (⟨S10x1, .f32⟩ : BufTy).Contents (Elt F) → (⟨S10x1, .i1⟩ : BufTy).Contents (Elt F)),
    StableHlo.unary main_v116 main_v117 (uitofp .f32 : (⟨S10x1, .i1⟩ : BufTy).Contents (Elt F) → (⟨S10x1, .f32⟩ : BufTy).Contents (Elt F)),
    StableHlo.unary main_v117 main_v118 (broadcastInDim S10x6 ![0, 1] bcast_S10x1_S10x6_0_1 : (⟨S10x1, .f32⟩ : BufTy).Contents (Elt F) → (⟨S10x6, .f32⟩ : BufTy).Contents (Elt F)),
    StableHlo.binary main_v113_8 main_v118 main_v119 (mulf : (⟨S10x6, .f32⟩ : BufTy).Contents (Elt F) → (⟨S10x6, .f32⟩ : BufTy).Contents (Elt F) → (⟨S10x6, .f32⟩ : BufTy).Contents (Elt F)) ]
/-- Each touches TensorCore references only (`HostSeg.ofOps` over `StableHlo.tcRefs`, or a subset by `sub_ucRefs`). -/
theorem main_part2_ops5_sub : (main_part2_ops5 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.binary_bufs_sub ..⟩
/-- The last window of `main` (`main_part2`, statements 121 … 162) is the chain of ITS items, each item aligned with the window's
    statements, then `chain_rfl`. -/
theorem main_part2_chain (c : Dev nD) : main_part2 (F := F) c = (Pipeline.chain
  [ StableHlo.seq main_part2_ops0,
    StableHlo.seq main_part2_ops1,
    StableHlo.seq main_part2_ops2,
    StableHlo.seq main_part2_ops3,
    StableHlo.seq main_part2_ops4,
    HostLoop.enter 0,
    StableHlo.seq main_part2_ops5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part1_ops0,
    StableHlo.seq main_part2_ops0,
    StableHlo.seq main_part2_ops1,
    StableHlo.seq main_part2_ops2,
    StableHlo.seq main_part2_ops3,
    StableHlo.seq main_part2_ops4,
    HostLoop.enter 0,
    StableHlo.seq main_part2_ops5 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0, main_part1_ops0, main_part2_ops0],
    .ops [main_part2_ops1],
    .ops [main_part2_ops2],
    .ops [main_part2_ops3],
    .ops [main_part2_ops4],
    .prog (HostLoop.enter 0),
    .ops [main_part2_ops5] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part1_ops0,
    StableHlo.seq main_part2_ops0,
    StableHlo.seq main_part2_ops1,
    StableHlo.seq main_part2_ops2,
    StableHlo.seq main_part2_ops3,
    StableHlo.seq main_part2_ops4,
    HostLoop.enter 0,
    StableHlo.seq main_part2_ops5 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    HostLoop.enter 0,
    StableHlo.seq hostOps0_5 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 3 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    HostLoop.enter 0,
    StableHlo.seq hostOps0_5 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 5 host operations of @argmax_0 (main_while0b_call2), in order. -/
abbrev while0Ops0 : List (HloOp τ sig (Elt F)) :=
  [ StableHlo.TRef.nullary (.of main_while0b_call2_v0 : StableHlo.TRef sig ⟨S20480, .i32⟩) (iotaInDim S20480 32 0),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v113_7 : StableHlo.TRef sig ⟨S20480, .f32⟩) (.of main_while0b_call2_v0 : StableHlo.TRef sig ⟨S20480, .i32⟩) (.of main_while0b_call2_cst : StableHlo.TRef sig ⟨S_, .f32⟩) (.of main_while0b_call2_c : StableHlo.TRef sig ⟨S_, .i32⟩) (.of main_while0b_call2_v1_0 : StableHlo.TRef sig ⟨S_, .f32⟩) (fun x y u v j => (Host.argReduce reducer_argmax_f32_i32 x y u v reducesTo_S20480_S_d0 h_S_ j).1),
    StableHlo.TRef.quaternary (.of main_v113_7 : StableHlo.TRef sig ⟨S20480, .f32⟩) (.of main_while0b_call2_v0 : StableHlo.TRef sig ⟨S20480, .i32⟩) (.of main_while0b_call2_cst : StableHlo.TRef sig ⟨S_, .f32⟩) (.of main_while0b_call2_c : StableHlo.TRef sig ⟨S_, .i32⟩) (.of main_while0b_v120 : StableHlo.TRef sig ⟨S_, .i32⟩) (fun x y u v j => (Host.argReduce reducer_argmax_f32_i32 x y u v reducesTo_S20480_S_d0 h_S_ j).2) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 54 host operations of host loop 0's body region, in order. -/
abbrev while0Ops0_1 : List (HloOp τ sig (Elt F)) :=
  ( StableHlo.nullary main_while0b_c_38 (constantI S_ 32 0#32)
  :: StableHlo.binary main_while0b_v120 main_while0b_c_38 main_while0b_v121 (cmpi .slt : (⟨S_, .i32⟩ : BufTy).Contents (Elt F) → (⟨S_, .i32⟩ : BufTy).Contents (Elt F) → (⟨S_, .i1⟩ : BufTy).Contents (Elt F))
  :: StableHlo.nullary main_while0b_c_39 (constantI S_ 32 20480#32)
  :: StableHlo.binary main_while0b_v120 main_while0b_c_39 main_while0b_v122 (addi : (⟨S_, .i32⟩ : BufTy).Contents (Elt F) → (⟨S_, .i32⟩ : BufTy).Contents (Elt F) → (⟨S_, .i32⟩ : BufTy).Contents (Elt F))
  :: StableHlo.ternary main_while0b_v121 main_while0b_v122 main_while0b_v120 main_while0b_v123 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_40 (constantI S_ 32 0#32)
  :: StableHlo.nullary main_while0b_c_41 (constantI S_ 32 0#32)
  :: StableHlo.binary main_while0b_c_40 main_while0b_c_41 main_while0b_v124 (cmpi .slt : (⟨S_, .i32⟩ : BufTy).Contents (Elt F) → (⟨S_, .i32⟩ : BufTy).Contents (Elt F) → (⟨S_, .i1⟩ : BufTy).Contents (Elt F))
  :: StableHlo.nullary main_while0b_c_42 (constantI S_ 32 0#32)
  :: StableHlo.nullary main_while0b_c_43 (constantI S_ 32 6#32)
  :: StableHlo.binary main_while0b_c_42 main_while0b_c_43 main_while0b_v125 (addi : (⟨S_, .i32⟩ : BufTy).Contents (Elt F) → (⟨S_, .i32⟩ : BufTy).Contents (Elt F) → (⟨S_, .i32⟩ : BufTy).Contents (Elt F))
  :: StableHlo.nullary main_while0b_c_44 (constantI S_ 32 0#32)
  :: StableHlo.ternary main_while0b_v124 main_while0b_v125 main_while0b_c_44 main_while0b_v126 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v113_0 ![main_while0b_v123, main_while0b_v126] ⟨S_, .i32⟩ main_while0b_v127 ((fun x i => Host.dynamicSlice S1x6 x (fun k => (i k (Shape.Idx.first h_S_)).toInt) sliceFits_S20480x6_S1x6) : (⟨S20480x6, .f32⟩ : BufTy).Contents (Elt F) → (Fin 2 → (⟨S_, .i32⟩ : BufTy).Contents (Elt F)) → (⟨S1x6, .f32⟩ : BufTy).Contents (Elt F))
  :: StableHlo.reshape main_while0b_v127 main_while0b_v128 (rfl : (.f32 : EltTy) = .f32) shapeCasts_S1x6_S6
  :: StableHlo.unary main_while0b_v128 main_while0b_v129 ((extractStridedSlice S1 ![0] · slices_S6_S1_0) : (⟨S6, .f32⟩ : BufTy).Contents (Elt F) → (⟨S1, .f32⟩ : BufTy).Contents (Elt F))
  :: StableHlo.reshape main_while0b_v129 main_while0b_v130 (rfl : (.f32 : EltTy) = .f32) shapeCasts_S1_S_
  :: StableHlo.unary main_while0b_v128 main_while0b_v131 ((extractStridedSlice S1 ![1] · slices_S6_S1_1) : (⟨S6, .f32⟩ : BufTy).Contents (Elt F) → (⟨S1, .f32⟩ : BufTy).Contents (Elt F))
  :: StableHlo.reshape main_while0b_v131 main_while0b_v132 (rfl : (.f32 : EltTy) = .f32) shapeCasts_S1_S_
  :: StableHlo.unary main_while0b_v128 main_while0b_v133 ((extractStridedSlice S1 ![2] · slices_S6_S1_2) : (⟨S6, .f32⟩ : BufTy).Contents (Elt F) → (⟨S1, .f32⟩ : BufTy).Contents (Elt F))
  :: StableHlo.reshape main_while0b_v133 main_while0b_v134 (rfl : (.f32 : EltTy) = .f32) shapeCasts_S1_S_
  :: StableHlo.unary main_while0b_v128 main_while0b_v135 ((extractStridedSlice S1 ![3] · slices_S6_S1_3) : (⟨S6, .f32⟩ : BufTy).Contents (Elt F) → (⟨S1, .f32⟩ : BufTy).Contents (Elt F))
  :: StableHlo.reshape main_while0b_v135 main_while0b_v136 (rfl : (.f32 : EltTy) = .f32) shapeCasts_S1_S_
  :: StableHlo.unary main_while0b_v134 main_while0b_v137 (broadcastInDim S20480 ![] bcast_S_S20480 : (⟨S_, .f32⟩ : BufTy).Contents (Elt F) → (⟨S20480, .f32⟩ : BufTy).Contents (Elt F))
  :: StableHlo.binary main_while0b_v137 main_v113_1 main_while0b_v138 (minimumf : (⟨S20480, .f32⟩ : BufTy).Contents (Elt F) → (⟨S20480, .f32⟩ : BufTy).Contents (Elt F) → (⟨S20480, .f32⟩ : BufTy).Contents (Elt F))
  :: StableHlo.unary main_while0b_v130 main_while0b_v139 (broadcastInDim S20480 ![] bcast_S_S20480 : (⟨S_, .f32⟩ : BufTy).Contents (Elt F) → (⟨S20480, .f32⟩ : BufTy).Contents (Elt F))
  :: StableHlo.binary main_while0b_v139 main_v113_2 main_while0b_v140 (maximumf : (⟨S20480, .f32⟩ : BufTy).Contents (Elt F) → (⟨S20480, .f32⟩ : BufTy).Contents (Elt F) → (⟨S20480, .f32⟩ : BufTy).Contents (Elt F))
  :: StableHlo.binary main_while0b_v138 main_while0b_v140 main_while0b_v141 (subf : (⟨S20480, .f32⟩ : BufTy).Contents (Elt F) → (⟨S20480, .f32⟩ : BufTy).Contents (Elt F) → (⟨S20480, .f32⟩ : BufTy).Contents (Elt F))
  :: StableHlo.nullary main_while0b_cst_45 (constant S_ .f32 0x00000000#32)
  :: StableHlo.unary main_while0b_cst_45 main_while0b_v142 (broadcastInDim S20480 ![] bcast_S_S20480 : (⟨S_, .f32⟩ : BufTy).Contents (Elt F) → (⟨S20480, .f32⟩ : BufTy).Contents (Elt F))
  :: StableHlo.binary main_while0b_v141 main_while0b_v142 main_while0b_v143 (maximumf : (⟨S20480, .f32⟩ : BufTy).Contents (Elt F) → (⟨S20480, .f32⟩ : BufTy).Contents (Elt F) → (⟨S20480, .f32⟩ : BufTy).Contents (Elt F))
  :: StableHlo.unary main_while0b_v136 main_while0b_v144 (broadcastInDim S20480 ![] bcast_S_S20480 : (⟨S_, .f32⟩ : BufTy).Contents (Elt F) → (⟨S20480, .f32⟩ : BufTy).Contents (Elt F))
  :: StableHlo.binary main_while0b_v144 main_v113_3 main_while0b_v145 (minimumf : (⟨S20480, .f32⟩ : BufTy).Contents (Elt F) → (⟨S20480, .f32⟩ : BufTy).Contents (Elt F) → (⟨S20480, .f32⟩ : BufTy).Contents (Elt F))
  :: StableHlo.unary main_while0b_v132 main_while0b_v146 (broadcastInDim S20480 ![] bcast_S_S20480 : (⟨S_, .f32⟩ : BufTy).Contents (Elt F) → (⟨S20480, .f32⟩ : BufTy).Contents (Elt F))
  :: StableHlo.binary main_while0b_v146 main_v113_4 main_while0b_v147 (maximumf : (⟨S20480, .f32⟩ : BufTy).Contents (Elt F) → (⟨S20480, .f32⟩ : BufTy).Contents (Elt F) → (⟨S20480, .f32⟩ : BufTy).Contents (Elt F))
  :: StableHlo.binary main_while0b_v145 main_while0b_v147 main_while0b_v148 (subf : (⟨S20480, .f32⟩ : BufTy).Contents (Elt F) → (⟨S20480, .f32⟩ : BufTy).Contents (Elt F) → (⟨S20480, .f32⟩ : BufTy).Contents (Elt F))
  :: StableHlo.nullary main_while0b_cst_46 (constant S_ .f32 0x00000000#32)
  :: StableHlo.unary main_while0b_cst_46 main_while0b_v149 (broadcastInDim S20480 ![] bcast_S_S20480 : (⟨S_, .f32⟩ : BufTy).Contents (Elt F) → (⟨S20480, .f32⟩ : BufTy).Contents (Elt F))
  :: StableHlo.binary main_while0b_v148 main_while0b_v149 main_while0b_v150 (maximumf : (⟨S20480, .f32⟩ : BufTy).Contents (Elt F) → (⟨S20480, .f32⟩ : BufTy).Contents (Elt F) → (⟨S20480, .f32⟩ : BufTy).Contents (Elt F))
  :: StableHlo.binary main_while0b_v143 main_while0b_v150 main_while0b_v151 (mulf : (⟨S20480, .f32⟩ : BufTy).Contents (Elt F) → (⟨S20480, .f32⟩ : BufTy).Contents (Elt F) → (⟨S20480, .f32⟩ : BufTy).Contents (Elt F))
  :: StableHlo.binary main_while0b_v134 main_while0b_v130 main_while0b_v152 (subf : (⟨S_, .f32⟩ : BufTy).Contents (Elt F) → (⟨S_, .f32⟩ : BufTy).Contents (Elt F) → (⟨S_, .f32⟩ : BufTy).Contents (Elt F))
  :: StableHlo.binary main_while0b_v136 main_while0b_v132 main_while0b_v153 (subf : (⟨S_, .f32⟩ : BufTy).Contents (Elt F) → (⟨S_, .f32⟩ : BufTy).Contents (Elt F) → (⟨S_, .f32⟩ : BufTy).Contents (Elt F))
  :: StableHlo.binary main_while0b_v152 main_while0b_v153 main_while0b_v154 (mulf : (⟨S_, .f32⟩ : BufTy).Contents (Elt F) → (⟨S_, .f32⟩ : BufTy).Contents (Elt F) → (⟨S_, .f32⟩ : BufTy).Contents (Elt F))
  :: StableHlo.unary main_while0b_v154 main_while0b_v155 (broadcastInDim S20480 ![] bcast_S_S20480 : (⟨S_, .f32⟩ : BufTy).Contents (Elt F) → (⟨S20480, .f32⟩ : BufTy).Contents (Elt F))
  :: StableHlo.binary main_while0b_v155 main_v113_5 main_while0b_v156 (addf : (⟨S20480, .f32⟩ : BufTy).Contents (Elt F) → (⟨S20480, .f32⟩ : BufTy).Contents (Elt F) → (⟨S20480, .f32⟩ : BufTy).Contents (Elt F))
  :: StableHlo.binary main_while0b_v156 main_while0b_v151 main_while0b_v157 (subf : (⟨S20480, .f32⟩ : BufTy).Contents (Elt F) → (⟨S20480, .f32⟩ : BufTy).Contents (Elt F) → (⟨S20480, .f32⟩ : BufTy).Contents (Elt F))
  :: StableHlo.nullary main_while0b_cst_47 (constant S_ .f32 0x3089705F#32)
  :: StableHlo.unary main_while0b_cst_47 main_while0b_v158 (broadcastInDim S20480 ![] bcast_S_S20480 : (⟨S_, .f32⟩ : BufTy).Contents (Elt F) → (⟨S20480, .f32⟩ : BufTy).Contents (Elt F))
  :: StableHlo.binary main_while0b_v157 main_while0b_v158 main_while0b_v159 (addf : (⟨S20480, .f32⟩ : BufTy).Contents (Elt F) → (⟨S20480, .f32⟩ : BufTy).Contents (Elt F) → (⟨S20480, .f32⟩ : BufTy).Contents (Elt F))
  :: StableHlo.binary main_while0b_v151 main_while0b_v159 main_while0b_v160 (Host.divf : (⟨S20480, .f32⟩ : BufTy).Contents (Elt F) → (⟨S20480, .f32⟩ : BufTy).Contents (Elt F) → (⟨S20480, .f32⟩ : BufTy).Contents (Elt F))
  :: StableHlo.nullary main_while0b_cst_48 (constant S_ .f32 0x3F000000#32)
  :: StableHlo.unary main_while0b_cst_48 main_while0b_v161 (broadcastInDim S20480 ![] bcast_S_S20480 : (⟨S_, .f32⟩ : BufTy).Contents (Elt F) → (⟨S20480, .f32⟩ : BufTy).Contents (Elt F))
  :: StableHlo.binary main_while0b_v160 main_while0b_v161 main_while0b_v162 (cmpf .ogt : (⟨S20480, .f32⟩ : BufTy).Contents (Elt F) → (⟨S20480, .f32⟩ : BufTy).Contents (Elt F) → (⟨S20480, .i1⟩ : BufTy).Contents (Elt F))
  :: StableHlo.nullary main_while0b_cst_49 (constant S_ .f32 0xBF800000#32)
  :: [] )
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩
/-- 3 host operations of @_where_1 (main_while0b_call3), in order. -/
abbrev while0Ops0_2 : List (HloOp τ sig (Elt F)) :=
  [ StableHlo.TRef.unary (.of main_while0b_cst_49 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S20480, .f32⟩) (broadcastInDim S20480 ![] bcast_S_S20480),
    StableHlo.TRef.ternary (.of main_while0b_v162 : StableHlo.TRef sig ⟨S20480, .i1⟩) (.of main_while0b_call3_v1 : StableHlo.TRef sig ⟨S20480, .f32⟩) (.of main_v113_7 : StableHlo.TRef sig ⟨S20480, .f32⟩) (.of main_while0b_v163 : StableHlo.TRef sig ⟨S20480, .f32⟩) select ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.unary_bufs_sub .., StableHlo.ternary_bufs_sub ..⟩
/-- 8 host operations of host loop 0's body region, in order. -/
abbrev while0Ops0_3 : List (HloOp τ sig (Elt F)) :=
  [ StableHlo.nullary main_while0b_c_50 (constantI S_ 32 0#32),
    StableHlo.binary main_while0b_v120 main_while0b_c_50 main_while0b_v164 (cmpi .slt : (⟨S_, .i32⟩ : BufTy).Contents (Elt F) → (⟨S_, .i32⟩ : BufTy).Contents (Elt F) → (⟨S_, .i1⟩ : BufTy).Contents (Elt F)),
    StableHlo.nullary main_while0b_c_51 (constantI S_ 32 20480#32),
    StableHlo.binary main_while0b_v120 main_while0b_c_51 main_while0b_v165 (addi : (⟨S_, .i32⟩ : BufTy).Contents (Elt F) → (⟨S_, .i32⟩ : BufTy).Contents (Elt F) → (⟨S_, .i32⟩ : BufTy).Contents (Elt F)),
    StableHlo.ternary main_while0b_v164 main_while0b_v165 main_while0b_v120 main_while0b_v166 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v166 main_while0b_v167 (broadcastInDim S1 ![] bcast_S_S1 : (⟨S_, .i32⟩ : BufTy).Contents (Elt F) → (⟨S1, .i32⟩ : BufTy).Contents (Elt F)),
    StableHlo.nullary main_while0b_cst_52 (constant S_ .f32 0xBF800000#32),
    StableHlo.ternary main_while0b_v163 main_while0b_v167 main_while0b_cst_52 main_while0b_v168 ((fun x i u => Host.scatter scatter_S20480_S1_S__n_0_0_0 (fun _ b => b) x i u) : (⟨S20480, .f32⟩ : BufTy).Contents (Elt F) → (⟨S1, .i32⟩ : BufTy).Contents (Elt F) → (⟨S_, .f32⟩ : BufTy).Contents (Elt F) → (⟨S20480, .f32⟩ : BufTy).Contents (Elt F)) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub ..⟩
/-- 3 host operations of @dynamic_update_index_in_dim (main_while0b_call4), in order. -/
abbrev while0Ops0_4 : List (HloOp τ sig (Elt F)) :=
  [ StableHlo.TRef.unary (.of main_while0b_v128 : StableHlo.TRef sig ⟨S6, .f32⟩) (.of main_while0b_call4_v0 : StableHlo.TRef sig ⟨S1x6, .f32⟩) (broadcastInDim S1x6 ![1] bcast_S6_S1x6_1),
    StableHlo.TRef.nullary (.of main_while0b_call4_c : StableHlo.TRef sig ⟨S_, .i32⟩) (constantI S_ 32 0#32),
    StableHlo.TRef.binaryIndexed (.of main_v113_8 : StableHlo.TRef sig ⟨S10x6, .f32⟩) (.of main_while0b_call4_v0 : StableHlo.TRef sig ⟨S1x6, .f32⟩) ![(.of main_v113_6 : StableHlo.TRef sig ⟨S_, .i32⟩), (.of main_while0b_call4_c : StableHlo.TRef sig ⟨S_, .i32⟩)] (.of main_while0b_v169 : StableHlo.TRef sig ⟨S10x6, .f32⟩) (fun x u i => Host.dynamicUpdateSlice x u (fun k => (i k (Shape.Idx.first h_S_)).toInt) updateFits_S10x6_S1x6) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.binaryIndexed_bufs_sub ..⟩
/-- 5 host operations of host loop 0's body region, in order. -/
abbrev while0Ops0_5 : List (HloOp τ sig (Elt F)) :=
  [ StableHlo.nullary main_while0b_c_53 (constantI S_ 32 1#32),
    StableHlo.binary main_v113_6 main_while0b_c_53 main_while0b_v170 (addi : (⟨S_, .i32⟩ : BufTy).Contents (Elt F) → (⟨S_, .i32⟩ : BufTy).Contents (Elt F) → (⟨S_, .i32⟩ : BufTy).Contents (Elt F)),
    StableHlo.unary main_while0b_v170 main_v113_6 id,
    StableHlo.unary main_while0b_v168 main_v113_7 id,
    StableHlo.unary main_while0b_v169 main_v113_8 id ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, StableHlo.chain_seq_cons]
  chain_rfl

end Cert.ReferenceIdeal.Gen

end
-- ==== Proof.RefRun.lean ====
/- The reference's run: every execution ends with each buffer at the fold of the operations, the loop ten times; one trip's values, and the step the ten trips iterate. -/
module

public import proofs.«01_k».proof.Proof.RefOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 2480

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_v5, main_v6, main_cst, main_v7, main_cst_0, main_v8, main_cst_1, main_v9, main_cst_2, main_v10, main_cst_3, main_v11, main_v12, main_v13, main_v14, main_v15, main_v16, main_v17, main_v18, main_cst_4, main_v19, main_cst_5, main_v20, main_cst_6, main_v21, main_cst_7, main_v22, main_cst_8, main_v23, main_v24, main_v25, main_v26, main_v27, main_v28, main_v29, main_v30, main_v31, main_v32, main_v33, main_v34, main_cst_9, main_v35, main_v36, main_cst_10, main_v37, main_v38, main_v39, main_cst_11, main_v40, main_v41, main_v42, main_v43, main_v44, main_v45, main_cst_12, main_v46, main_v47, main_cst_13, main_v48, main_v49, main_v50, main_cst_14, main_v51, main_v52, main_v53, main_v54, main_v55, main_v56, main_cst_15, main_v57, main_v58, main_v59, main_v60, main_v61, main_v62, main_cst_16, main_v63, main_v64, main_v65, main_v66, main_v67, main_cst_17, main_v68, main_v69, main_cst_18, main_v70, main_v71, main_v72, main_cst_19, main_v73, main_v74, main_v75, main_v76, main_v77, main_cst_20, main_v78, main_v79, main_v80, main_v81, main_v82, main_v83, main_cst_21, main_v84, main_v85, main_v86, main_cst_22, main_v87, main_v88, main_v89, main_cst_23, main_v90, main_v91, main_v92, main_cst_24, main_v93, main_v94, main_v95, main_cst_25, main_v96]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_cst, main_call0_c, main_call0_v1_0, main_v97]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_cst_26, main_v98, main_v99, main_cst_27]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_v0, main_call1_v1, main_v100]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_v101, main_v102, main_v103, main_v104, main_v105, main_v106, main_v107, main_v108, main_v109, main_v110, main_v111, main_cst_28, main_v112, main_c, main_v113_0, main_v113_1, main_v113_2, main_v113_3, main_v113_4, main_v113_5, main_v113_6, main_v113_7, main_v113_8]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call2_v0, main_while0b_call2_cst, main_while0b_call2_c, main_while0b_call2_v1_0, main_while0b_v120]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_c_38, main_while0b_v121, main_while0b_c_39, main_while0b_v122, main_while0b_v123, main_while0b_c_40, main_while0b_c_41, main_while0b_v124, main_while0b_c_42, main_while0b_c_43, main_while0b_v125, main_while0b_c_44, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_cst_45, main_while0b_v142, main_while0b_v143, main_while0b_v144, main_while0b_v145, main_while0b_v146, main_while0b_v147, main_while0b_v148, main_while0b_cst_46, main_while0b_v149, main_while0b_v150, main_while0b_v151, main_while0b_v152, main_while0b_v153, main_while0b_v154, main_while0b_v155, main_while0b_v156, main_while0b_v157, main_while0b_cst_47, main_while0b_v158, main_while0b_v159, main_while0b_v160, main_while0b_cst_48, main_while0b_v161, main_while0b_v162, main_while0b_cst_49]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call3_v0, main_while0b_call3_v1, main_while0b_v163]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_c_50, main_while0b_v164, main_while0b_c_51, main_while0b_v165, main_while0b_v166, main_while0b_v167, main_while0b_cst_52, main_while0b_v168]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call4_v0, main_while0b_call4_c, main_while0b_v169]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_c_53, main_while0b_v170, main_v113_6, main_v113_7, main_v113_8]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_5` writes, in order. -/
abbrev hostOps0_5_W : List (Ref sig .tc) := [main_v114, main_cst_29, main_v115, main_v116, main_v117, main_v118, main_v119]
theorem hostOps0_5_writes : (hostOps0_5 : List (HloOp τ sig (Elt F))).Forall fun op => op.writes ⊆ (hostOps0_5_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_38 (constantI S_ 32 10#32),
    StableHlo.binary main_v113_6 main_while0c_c_38 main_while0c_v120 (cmpi .slt) ]

/-- @main's stretches before the loop, the loop body's, and @main's after the loop. -/
abbrev preI : List (List (HloOp τ sig (Elt F))) := [hostOps0, hostOps0_1, hostOps0_2, hostOps0_3, hostOps0_4]
abbrev bodyI : List (List (HloOp τ sig (Elt F))) := [while0Ops0, while0Ops0_1, while0Ops0_2, while0Ops0_3, while0Ops0_4, while0Ops0_5]
abbrev postI : List (List (HloOp τ sig (Elt F))) := [hostOps0_5]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.nil)))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.nil))))))
theorem hpost : Plain (postI (F := F)) := .cons hostOps0_5_sub (hf := List.forall_iff_forall_mem.mp hostOps0_5_fresh) (.nil)

/-- The reference each operation of `condOps` writes, in order. -/
abbrev condOps_W : List (Ref sig .tc) := [main_while0c_c_38, main_while0c_v120]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v113_6`) is written by one stretch of the body, `while0Ops0_5`: not by the condition, nor by the
    body's other stretches. -/
theorem ctr_cond (V : Valuation τ sig (Elt F)) : after condOps V (Proc.devRef .tc main_v113_6) = V (Proc.devRef .tc main_v113_6) :=
  after_of_writes_sub condOps V condOps_writes (by decide +kernel)
theorem ctr_while0Ops0 (V : Valuation τ sig (Elt F)) : after while0Ops0 V (Proc.devRef .tc main_v113_6) = V (Proc.devRef .tc main_v113_6) :=
  after_of_writes_sub while0Ops0 V while0Ops0_writes (by decide +kernel)
theorem ctr_while0Ops0_1 (V : Valuation τ sig (Elt F)) : after while0Ops0_1 V (Proc.devRef .tc main_v113_6) = V (Proc.devRef .tc main_v113_6) :=
  after_of_writes_sub while0Ops0_1 V while0Ops0_1_writes (by decide +kernel)
theorem ctr_while0Ops0_2 (V : Valuation τ sig (Elt F)) : after while0Ops0_2 V (Proc.devRef .tc main_v113_6) = V (Proc.devRef .tc main_v113_6) :=
  after_of_writes_sub while0Ops0_2 V while0Ops0_2_writes (by decide +kernel)
theorem ctr_while0Ops0_3 (V : Valuation τ sig (Elt F)) : after while0Ops0_3 V (Proc.devRef .tc main_v113_6) = V (Proc.devRef .tc main_v113_6) :=
  after_of_writes_sub while0Ops0_3 V while0Ops0_3_writes (by decide +kernel)
theorem ctr_while0Ops0_4 (V : Valuation τ sig (Elt F)) : after while0Ops0_4 V (Proc.devRef .tc main_v113_6) = V (Proc.devRef .tc main_v113_6) :=
  after_of_writes_sub while0Ops0_4 V while0Ops0_4_writes (by decide +kernel)

set_option maxRecDepth 100000 in
/-- `while0Ops0_5` leaves the counter one step on. -/
theorem ctr_step (X : Valuation τ sig (Elt F)) :
    after while0Ops0_5 X (Proc.devRef .tc main_v113_6) = addi (X (Proc.devRef .tc main_v113_6)) (constantI S_ 32 1#32) := by
  after_results
  rfl

/-- The counter is the loop's lower bound at the loop's entry: its last writer before the loop read back. -/
theorem ctr_entry (c : Dev nD) : entryContents preI m c (Proc.devRef .tc main_v113_6) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v113_6) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 10 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v113_6 HostLoop.idx0)
        (HloOp.result _ (atK m k c) main_while0c_c_38 HostLoop.idx0) = 1#1) (k < 10)
    rw [nullary_result_ne _ _ _ _ (by decide), nullary_result, hctr]
    exact Scf.cmpi_slt_iv_ub_iff (lb := 0#32) (ub := 10#32) (st := 1#32) (by decide) (show k ≤ Scf.trips 0#32 10#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 10 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 10 m ρ (cond_spec m)

/-! ## One trip's values -/

/-- The body's operations 1 … 5 of 78. -/
abbrev trip_w0 : List (HloOp τ sig (Elt F)) :=
  [ StableHlo.TRef.nullary (.of main_while0b_call2_v0 : StableHlo.TRef sig ⟨S20480, .i32⟩) (iotaInDim S20480 32 0),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v113_7 : StableHlo.TRef sig ⟨S20480, .f32⟩) (.of main_while0b_call2_v0 : StableHlo.TRef sig ⟨S20480, .i32⟩) (.of main_while0b_call2_cst : StableHlo.TRef sig ⟨S_, .f32⟩) (.of main_while0b_call2_c : StableHlo.TRef sig ⟨S_, .i32⟩) (.of main_while0b_call2_v1_0 : StableHlo.TRef sig ⟨S_, .f32⟩) (fun x y u v j => (Host.argReduce reducer_argmax_f32_i32 x y u v reducesTo_S20480_S_d0 h_S_ j).1),
    StableHlo.TRef.quaternary (.of main_v113_7 : StableHlo.TRef sig ⟨S20480, .f32⟩) (.of main_while0b_call2_v0 : StableHlo.TRef sig ⟨S20480, .i32⟩) (.of main_while0b_call2_cst : StableHlo.TRef sig ⟨S_, .f32⟩) (.of main_while0b_call2_c : StableHlo.TRef sig ⟨S_, .i32⟩) (.of main_while0b_v120 : StableHlo.TRef sig ⟨S_, .i32⟩) (fun x y u v j => (Host.argReduce reducer_argmax_f32_i32 x y u v reducesTo_S20480_S_d0 h_S_ j).2) ]

/-- The body's operations 6 … 19 of 78. -/
abbrev trip_w1 : List (HloOp τ sig (Elt F)) :=
  [ StableHlo.nullary main_while0b_c_38 (constantI S_ 32 0#32),
    StableHlo.binary main_while0b_v120 main_while0b_c_38 main_while0b_v121 (cmpi .slt : (⟨S_, .i32⟩ : BufTy).Contents (Elt F) → (⟨S_, .i32⟩ : BufTy).Contents (Elt F) → (⟨S_, .i1⟩ : BufTy).Contents (Elt F)),
    StableHlo.nullary main_while0b_c_39 (constantI S_ 32 20480#32),
    StableHlo.binary main_while0b_v120 main_while0b_c_39 main_while0b_v122 (addi : (⟨S_, .i32⟩ : BufTy).Contents (Elt F) → (⟨S_, .i32⟩ : BufTy).Contents (Elt F) → (⟨S_, .i32⟩ : BufTy).Contents (Elt F)),
    StableHlo.ternary main_while0b_v121 main_while0b_v122 main_while0b_v120 main_while0b_v123 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_40 (constantI S_ 32 0#32),
    StableHlo.nullary main_while0b_c_41 (constantI S_ 32 0#32),
    StableHlo.binary main_while0b_c_40 main_while0b_c_41 main_while0b_v124 (cmpi .slt : (⟨S_, .i32⟩ : BufTy).Contents (Elt F) → (⟨S_, .i32⟩ : BufTy).Contents (Elt F) → (⟨S_, .i1⟩ : BufTy).Contents (Elt F)),
    StableHlo.nullary main_while0b_c_42 (constantI S_ 32 0#32),
    StableHlo.nullary main_while0b_c_43 (constantI S_ 32 6#32),
    StableHlo.binary main_while0b_c_42 main_while0b_c_43 main_while0b_v125 (addi : (⟨S_, .i32⟩ : BufTy).Contents (Elt F) → (⟨S_, .i32⟩ : BufTy).Contents (Elt F) → (⟨S_, .i32⟩ : BufTy).Contents (Elt F)),
    StableHlo.nullary main_while0b_c_44 (constantI S_ 32 0#32),
    StableHlo.ternary main_while0b_v124 main_while0b_v125 main_while0b_c_44 main_while0b_v126 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v113_0 ![main_while0b_v123, main_while0b_v126] ⟨S_, .i32⟩ main_while0b_v127 ((fun x i => Host.dynamicSlice S1x6 x (fun k => (i k (Shape.Idx.first h_S_)).toInt) sliceFits_S20480x6_S1x6) : (⟨S20480x6, .f32⟩ : BufTy).Contents (Elt F) → (Fin 2 → (⟨S_, .i32⟩ : BufTy).Contents (Elt F)) → (⟨S1x6, .f32⟩ : BufTy).Contents (Elt F)) ]

/-- The body's operations 20 … 43 of 78. -/
abbrev trip_w2 : List (HloOp τ sig (Elt F)) :=
  [ StableHlo.reshape main_while0b_v127 main_while0b_v128 (rfl : (.f32 : EltTy) = .f32) shapeCasts_S1x6_S6,
    StableHlo.unary main_while0b_v128 main_while0b_v129 ((extractStridedSlice S1 ![0] · slices_S6_S1_0) : (⟨S6, .f32⟩ : BufTy).Contents (Elt F) → (⟨S1, .f32⟩ : BufTy).Contents (Elt F)),
    StableHlo.reshape main_while0b_v129 main_while0b_v130 (rfl : (.f32 : EltTy) = .f32) shapeCasts_S1_S_,
    StableHlo.unary main_while0b_v128 main_while0b_v131 ((extractStridedSlice S1 ![1] · slices_S6_S1_1) : (⟨S6, .f32⟩ : BufTy).Contents (Elt F) → (⟨S1, .f32⟩ : BufTy).Contents (Elt F)),
    StableHlo.reshape main_while0b_v131 main_while0b_v132 (rfl : (.f32 : EltTy) = .f32) shapeCasts_S1_S_,
    StableHlo.unary main_while0b_v128 main_while0b_v133 ((extractStridedSlice S1 ![2] · slices_S6_S1_2) : (⟨S6, .f32⟩ : BufTy).Contents (Elt F) → (⟨S1, .f32⟩ : BufTy).Contents (Elt F)),
    StableHlo.reshape main_while0b_v133 main_while0b_v134 (rfl : (.f32 : EltTy) = .f32) shapeCasts_S1_S_,
    StableHlo.unary main_while0b_v128 main_while0b_v135 ((extractStridedSlice S1 ![3] · slices_S6_S1_3) : (⟨S6, .f32⟩ : BufTy).Contents (Elt F) → (⟨S1, .f32⟩ : BufTy).Contents (Elt F)),
    StableHlo.reshape main_while0b_v135 main_while0b_v136 (rfl : (.f32 : EltTy) = .f32) shapeCasts_S1_S_,
    StableHlo.unary main_while0b_v134 main_while0b_v137 (broadcastInDim S20480 ![] bcast_S_S20480 : (⟨S_, .f32⟩ : BufTy).Contents (Elt F) → (⟨S20480, .f32⟩ : BufTy).Contents (Elt F)),
    StableHlo.binary main_while0b_v137 main_v113_1 main_while0b_v138 (minimumf : (⟨S20480, .f32⟩ : BufTy).Contents (Elt F) → (⟨S20480, .f32⟩ : BufTy).Contents (Elt F) → (⟨S20480, .f32⟩ : BufTy).Contents (Elt F)),
    StableHlo.unary main_while0b_v130 main_while0b_v139 (broadcastInDim S20480 ![] bcast_S_S20480 : (⟨S_, .f32⟩ : BufTy).Contents (Elt F) → (⟨S20480, .f32⟩ : BufTy).Contents (Elt F)),
    StableHlo.binary main_while0b_v139 main_v113_2 main_while0b_v140 (maximumf : (⟨S20480, .f32⟩ : BufTy).Contents (Elt F) → (⟨S20480, .f32⟩ : BufTy).Contents (Elt F) → (⟨S20480, .f32⟩ : BufTy).Contents (Elt F)),
    StableHlo.binary main_while0b_v138 main_while0b_v140 main_while0b_v141 (subf : (⟨S20480, .f32⟩ : BufTy).Contents (Elt F) → (⟨S20480, .f32⟩ : BufTy).Contents (Elt F) → (⟨S20480, .f32⟩ : BufTy).Contents (Elt F)),
    StableHlo.nullary main_while0b_cst_45 (constant S_ .f32 0x00000000#32),
    StableHlo.unary main_while0b_cst_45 main_while0b_v142 (broadcastInDim S20480 ![] bcast_S_S20480 : (⟨S_, .f32⟩ : BufTy).Contents (Elt F) → (⟨S20480, .f32⟩ : BufTy).Contents (Elt F)),
    StableHlo.binary main_while0b_v141 main_while0b_v142 main_while0b_v143 (maximumf : (⟨S20480, .f32⟩ : BufTy).Contents (Elt F) → (⟨S20480, .f32⟩ : BufTy).Contents (Elt F) → (⟨S20480, .f32⟩ : BufTy).Contents (Elt F)),
    StableHlo.unary main_while0b_v136 main_while0b_v144 (broadcastInDim S20480 ![] bcast_S_S20480 : (⟨S_, .f32⟩ : BufTy).Contents (Elt F) → (⟨S20480, .f32⟩ : BufTy).Contents (Elt F)),
    StableHlo.binary main_while0b_v144 main_v113_3 main_while0b_v145 (minimumf : (⟨S20480, .f32⟩ : BufTy).Contents (Elt F) → (⟨S20480, .f32⟩ : BufTy).Contents (Elt F) → (⟨S20480, .f32⟩ : BufTy).Contents (Elt F)),
    StableHlo.unary main_while0b_v132 main_while0b_v146 (broadcastInDim S20480 ![] bcast_S_S20480 : (⟨S_, .f32⟩ : BufTy).Contents (Elt F) → (⟨S20480, .f32⟩ : BufTy).Contents (Elt F)),
    StableHlo.binary main_while0b_v146 main_v113_4 main_while0b_v147 (maximumf : (⟨S20480, .f32⟩ : BufTy).Contents (Elt F) → (⟨S20480, .f32⟩ : BufTy).Contents (Elt F) → (⟨S20480, .f32⟩ : BufTy).Contents (Elt F)),
    StableHlo.binary main_while0b_v145 main_while0b_v147 main_while0b_v148 (subf : (⟨S20480, .f32⟩ : BufTy).Contents (Elt F) → (⟨S20480, .f32⟩ : BufTy).Contents (Elt F) → (⟨S20480, .f32⟩ : BufTy).Contents (Elt F)),
    StableHlo.nullary main_while0b_cst_46 (constant S_ .f32 0x00000000#32),
    StableHlo.unary main_while0b_cst_46 main_while0b_v149 (broadcastInDim S20480 ![] bcast_S_S20480 : (⟨S_, .f32⟩ : BufTy).Contents (Elt F) → (⟨S20480, .f32⟩ : BufTy).Contents (Elt F)) ]

/-- The body's operations 44 … 59 of 78. -/
abbrev trip_w3 : List (HloOp τ sig (Elt F)) :=
  [ StableHlo.binary main_while0b_v148 main_while0b_v149 main_while0b_v150 (maximumf : (⟨S20480, .f32⟩ : BufTy).Contents (Elt F) → (⟨S20480, .f32⟩ : BufTy).Contents (Elt F) → (⟨S20480, .f32⟩ : BufTy).Contents (Elt F)),
    StableHlo.binary main_while0b_v143 main_while0b_v150 main_while0b_v151 (mulf : (⟨S20480, .f32⟩ : BufTy).Contents (Elt F) → (⟨S20480, .f32⟩ : BufTy).Contents (Elt F) → (⟨S20480, .f32⟩ : BufTy).Contents (Elt F)),
    StableHlo.binary main_while0b_v134 main_while0b_v130 main_while0b_v152 (subf : (⟨S_, .f32⟩ : BufTy).Contents (Elt F) → (⟨S_, .f32⟩ : BufTy).Contents (Elt F) → (⟨S_, .f32⟩ : BufTy).Contents (Elt F)),
    StableHlo.binary main_while0b_v136 main_while0b_v132 main_while0b_v153 (subf : (⟨S_, .f32⟩ : BufTy).Contents (Elt F) → (⟨S_, .f32⟩ : BufTy).Contents (Elt F) → (⟨S_, .f32⟩ : BufTy).Contents (Elt F)),
    StableHlo.binary main_while0b_v152 main_while0b_v153 main_while0b_v154 (mulf : (⟨S_, .f32⟩ : BufTy).Contents (Elt F) → (⟨S_, .f32⟩ : BufTy).Contents (Elt F) → (⟨S_, .f32⟩ : BufTy).Contents (Elt F)),
    StableHlo.unary main_while0b_v154 main_while0b_v155 (broadcastInDim S20480 ![] bcast_S_S20480 : (⟨S_, .f32⟩ : BufTy).Contents (Elt F) → (⟨S20480, .f32⟩ : BufTy).Contents (Elt F)),
    StableHlo.binary main_while0b_v155 main_v113_5 main_while0b_v156 (addf : (⟨S20480, .f32⟩ : BufTy).Contents (Elt F) → (⟨S20480, .f32⟩ : BufTy).Contents (Elt F) → (⟨S20480, .f32⟩ : BufTy).Contents (Elt F)),
    StableHlo.binary main_while0b_v156 main_while0b_v151 main_while0b_v157 (subf : (⟨S20480, .f32⟩ : BufTy).Contents (Elt F) → (⟨S20480, .f32⟩ : BufTy).Contents (Elt F) → (⟨S20480, .f32⟩ : BufTy).Contents (Elt F)),
    StableHlo.nullary main_while0b_cst_47 (constant S_ .f32 0x3089705F#32),
    StableHlo.unary main_while0b_cst_47 main_while0b_v158 (broadcastInDim S20480 ![] bcast_S_S20480 : (⟨S_, .f32⟩ : BufTy).Contents (Elt F) → (⟨S20480, .f32⟩ : BufTy).Contents (Elt F)),
    StableHlo.binary main_while0b_v157 main_while0b_v158 main_while0b_v159 (addf : (⟨S20480, .f32⟩ : BufTy).Contents (Elt F) → (⟨S20480, .f32⟩ : BufTy).Contents (Elt F) → (⟨S20480, .f32⟩ : BufTy).Contents (Elt F)),
    StableHlo.binary main_while0b_v151 main_while0b_v159 main_while0b_v160 (Host.divf : (⟨S20480, .f32⟩ : BufTy).Contents (Elt F) → (⟨S20480, .f32⟩ : BufTy).Contents (Elt F) → (⟨S20480, .f32⟩ : BufTy).Contents (Elt F)),
    StableHlo.nullary main_while0b_cst_48 (constant S_ .f32 0x3F000000#32),
    StableHlo.unary main_while0b_cst_48 main_while0b_v161 (broadcastInDim S20480 ![] bcast_S_S20480 : (⟨S_, .f32⟩ : BufTy).Contents (Elt F) → (⟨S20480, .f32⟩ : BufTy).Contents (Elt F)),
    StableHlo.binary main_while0b_v160 main_while0b_v161 main_while0b_v162 (cmpf .ogt : (⟨S20480, .f32⟩ : BufTy).Contents (Elt F) → (⟨S20480, .f32⟩ : BufTy).Contents (Elt F) → (⟨S20480, .i1⟩ : BufTy).Contents (Elt F)),
    StableHlo.nullary main_while0b_cst_49 (constant S_ .f32 0xBF800000#32) ]

/-- The body's operations 60 … 62 of 78. -/
abbrev trip_w4 : List (HloOp τ sig (Elt F)) :=
  [ StableHlo.TRef.unary (.of main_while0b_cst_49 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S20480, .f32⟩) (broadcastInDim S20480 ![] bcast_S_S20480),
    StableHlo.TRef.ternary (.of main_while0b_v162 : StableHlo.TRef sig ⟨S20480, .i1⟩) (.of main_while0b_call3_v1 : StableHlo.TRef sig ⟨S20480, .f32⟩) (.of main_v113_7 : StableHlo.TRef sig ⟨S20480, .f32⟩) (.of main_while0b_v163 : StableHlo.TRef sig ⟨S20480, .f32⟩) select ]

/-- The body's operations 63 … 70 of 78. -/
abbrev trip_w5 : List (HloOp τ sig (Elt F)) :=
  [ StableHlo.nullary main_while0b_c_50 (constantI S_ 32 0#32),
    StableHlo.binary main_while0b_v120 main_while0b_c_50 main_while0b_v164 (cmpi .slt : (⟨S_, .i32⟩ : BufTy).Contents (Elt F) → (⟨S_, .i32⟩ : BufTy).Contents (Elt F) → (⟨S_, .i1⟩ : BufTy).Contents (Elt F)),
    StableHlo.nullary main_while0b_c_51 (constantI S_ 32 20480#32),
    StableHlo.binary main_while0b_v120 main_while0b_c_51 main_while0b_v165 (addi : (⟨S_, .i32⟩ : BufTy).Contents (Elt F) → (⟨S_, .i32⟩ : BufTy).Contents (Elt F) → (⟨S_, .i32⟩ : BufTy).Contents (Elt F)),
    StableHlo.ternary main_while0b_v164 main_while0b_v165 main_while0b_v120 main_while0b_v166 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v166 main_while0b_v167 (broadcastInDim S1 ![] bcast_S_S1 : (⟨S_, .i32⟩ : BufTy).Contents (Elt F) → (⟨S1, .i32⟩ : BufTy).Contents (Elt F)),
    StableHlo.nullary main_while0b_cst_52 (constant S_ .f32 0xBF800000#32),
    StableHlo.ternary main_while0b_v163 main_while0b_v167 main_while0b_cst_52 main_while0b_v168 ((fun x i u => Host.scatter scatter_S20480_S1_S__n_0_0_0 (fun _ b => b) x i u) : (⟨S20480, .f32⟩ : BufTy).Contents (Elt F) → (⟨S1, .i32⟩ : BufTy).Contents (Elt F) → (⟨S_, .f32⟩ : BufTy).Contents (Elt F) → (⟨S20480, .f32⟩ : BufTy).Contents (Elt F)) ]

/-- The body's operations 71 … 73 of 78. -/
abbrev trip_w6 : List (HloOp τ sig (Elt F)) :=
  [ StableHlo.TRef.unary (.of main_while0b_v128 : StableHlo.TRef sig ⟨S6, .f32⟩) (.of main_while0b_call4_v0 : StableHlo.TRef sig ⟨S1x6, .f32⟩) (broadcastInDim S1x6 ![1] bcast_S6_S1x6_1),
    StableHlo.TRef.nullary (.of main_while0b_call4_c : StableHlo.TRef sig ⟨S_, .i32⟩) (constantI S_ 32 0#32),
    StableHlo.TRef.binaryIndexed (.of main_v113_8 : StableHlo.TRef sig ⟨S10x6, .f32⟩) (.of main_while0b_call4_v0 : StableHlo.TRef sig ⟨S1x6, .f32⟩) ![(.of main_v113_6 : StableHlo.TRef sig ⟨S_, .i32⟩), (.of main_while0b_call4_c : StableHlo.TRef sig ⟨S_, .i32⟩)] (.of main_while0b_v169 : StableHlo.TRef sig ⟨S10x6, .f32⟩) (fun x u i => Host.dynamicUpdateSlice x u (fun k => (i k (Shape.Idx.first h_S_)).toInt) updateFits_S10x6_S1x6) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 ++ (trip_w2 ++ (trip_w3)) := rfl
set_option maxRecDepth 5000 in
/-- `while0Ops0_2` is its windows in order. -/
theorem while0Ops0_2_cut : (while0Ops0_2 : List (HloOp τ sig (Elt F))) = trip_w4 := rfl
set_option maxRecDepth 5000 in
/-- `while0Ops0_3` is its windows in order. -/
theorem while0Ops0_3_cut : (while0Ops0_3 : List (HloOp τ sig (Elt F))) = trip_w5 := rfl
set_option maxRecDepth 5000 in
/-- `while0Ops0_4` is its windows in order. -/
theorem while0Ops0_4_cut : (while0Ops0_4 : List (HloOp τ sig (Elt F))) = trip_w6 := rfl

set_option maxRecDepth 8192 in
/-- `main_while0b_call2_v0`'s composed term of the carried buffers (named: it is used 2 times). -/
def res_main_while0b_call2_v0 (V0 : Valuation τ sig (Elt F)) : (Proc.devRef .tc main_while0b_call2_v0 : DevRef τ sig).ty.Contents (Elt F) :=
  iotaInDim S20480 32 0

set_option maxRecDepth 8192 in
/-- `main_while0b_call2_cst`'s composed term of the carried buffers (named: it is used 2 times). -/
def res_main_while0b_call2_cst (V0 : Valuation τ sig (Elt F)) : (Proc.devRef .tc main_while0b_call2_cst : DevRef τ sig).ty.Contents (Elt F) :=
  constant S_ .f32 0xFF800000#32

set_option maxRecDepth 8192 in
/-- `main_while0b_call2_c`'s composed term of the carried buffers (named: it is used 2 times). -/
def res_main_while0b_call2_c (V0 : Valuation τ sig (Elt F)) : (Proc.devRef .tc main_while0b_call2_c : DevRef τ sig).ty.Contents (Elt F) :=
  constantI S_ 32 0#32

set_option maxRecDepth 8192 in
/-- `main_while0b_v120`'s composed term of the carried buffers (named: it is used 6 times). -/
def res_main_while0b_v120 (V0 : Valuation τ sig (Elt F)) : (Proc.devRef .tc main_while0b_v120 : DevRef τ sig).ty.Contents (Elt F) :=
  ((fun x y u v j => (Host.argReduce reducer_argmax_f32_i32 x y u v reducesTo_S20480_S_d0 h_S_ j).2)) (V0 (Proc.devRef .tc main_v113_7)) (res_main_while0b_call2_v0 V0) (res_main_while0b_call2_cst V0) (res_main_while0b_call2_c V0)

set_option maxRecDepth 8192 in
/-- `main_while0b_v128`'s composed term of the carried buffers (named: it is used 5 times). -/
def res_main_while0b_v128 (V0 : Valuation τ sig (Elt F)) : (Proc.devRef .tc main_while0b_v128 : DevRef τ sig).ty.Contents (Elt F) :=
  shapeCast S6 (Host.dynamicSlice S1x6 (V0 (Proc.devRef .tc main_v113_0)) (fun k => (((![select (cmpi .slt (res_main_while0b_v120 V0) (constantI S_ 32 0#32)) (addi (res_main_while0b_v120 V0) (constantI S_ 32 20480#32)) (res_main_while0b_v120 V0), select (cmpi .slt (constantI S_ 32 0#32) (constantI S_ 32 0#32)) (addi (constantI S_ 32 0#32) (constantI S_ 32 6#32)) (constantI S_ 32 0#32)] : Fin 2 → (⟨S_, .i32⟩ : BufTy).Contents (Elt F))) k (Shape.Idx.first h_S_)).toInt) sliceFits_S20480x6_S1x6) shapeCasts_S1x6_S6

set_option maxRecDepth 8192 in
/-- `main_while0b_v130`'s composed term of the carried buffers (named: it is used 2 times). -/
def res_main_while0b_v130 (V0 : Valuation τ sig (Elt F)) : (Proc.devRef .tc main_while0b_v130 : DevRef τ sig).ty.Contents (Elt F) :=
  shapeCast S_ (extractStridedSlice S1 ![0] (res_main_while0b_v128 V0) slices_S6_S1_0) shapeCasts_S1_S_

set_option maxRecDepth 8192 in
/-- `main_while0b_v132`'s composed term of the carried buffers (named: it is used 2 times). -/
def res_main_while0b_v132 (V0 : Valuation τ sig (Elt F)) : (Proc.devRef .tc main_while0b_v132 : DevRef τ sig).ty.Contents (Elt F) :=
  shapeCast S_ (extractStridedSlice S1 ![1] (res_main_while0b_v128 V0) slices_S6_S1_1) shapeCasts_S1_S_

set_option maxRecDepth 8192 in
/-- `main_while0b_v134`'s composed term of the carried buffers (named: it is used 2 times). -/
def res_main_while0b_v134 (V0 : Valuation τ sig (Elt F)) : (Proc.devRef .tc main_while0b_v134 : DevRef τ sig).ty.Contents (Elt F) :=
  shapeCast S_ (extractStridedSlice S1 ![2] (res_main_while0b_v128 V0) slices_S6_S1_2) shapeCasts_S1_S_

set_option maxRecDepth 8192 in
/-- `main_while0b_v136`'s composed term of the carried buffers (named: it is used 2 times). -/
def res_main_while0b_v136 (V0 : Valuation τ sig (Elt F)) : (Proc.devRef .tc main_while0b_v136 : DevRef τ sig).ty.Contents (Elt F) :=
  shapeCast S_ (extractStridedSlice S1 ![3] (res_main_while0b_v128 V0) slices_S6_S1_3) shapeCasts_S1_S_

set_option maxRecDepth 8192 in
/-- `main_while0b_v151`'s composed term of the carried buffers (named: it is used 2 times). -/
def res_main_while0b_v151 (V0 : Valuation τ sig (Elt F)) : (Proc.devRef .tc main_while0b_v151 : DevRef τ sig).ty.Contents (Elt F) :=
  mulf (maximumf (subf (minimumf (broadcastInDim S20480 ![] bcast_S_S20480 (res_main_while0b_v134 V0)) (V0 (Proc.devRef .tc main_v113_1))) (maximumf (broadcastInDim S20480 ![] bcast_S_S20480 (res_main_while0b_v130 V0)) (V0 (Proc.devRef .tc main_v113_2)))) (broadcastInDim S20480 ![] bcast_S_S20480 (constant S_ .f32 0x00000000#32))) (maximumf (subf (minimumf (broadcastInDim S20480 ![] bcast_S_S20480 (res_main_while0b_v136 V0)) (V0 (Proc.devRef .tc main_v113_3))) (maximumf (broadcastInDim S20480 ![] bcast_S_S20480 (res_main_while0b_v132 V0)) (V0 (Proc.devRef .tc main_v113_4)))) (broadcastInDim S20480 ![] bcast_S_S20480 (constant S_ .f32 0x00000000#32)))

/-- The device's buffer contents before the body's first window. -/
def val0 (V0 : Valuation τ sig (Elt F)) : Valuation τ sig (Elt F) := V0
theorem val0_main_v113_7 (V0 : Valuation τ sig (Elt F)) : val0 V0 (no_index (Proc.devRef .tc main_v113_7)) = V0 (Proc.devRef .tc main_v113_7) := rfl
theorem val0_main_v113_0 (V0 : Valuation τ sig (Elt F)) : val0 V0 (no_index (Proc.devRef .tc main_v113_0)) = V0 (Proc.devRef .tc main_v113_0) := rfl
theorem val0_main_v113_1 (V0 : Valuation τ sig (Elt F)) : val0 V0 (no_index (Proc.devRef .tc main_v113_1)) = V0 (Proc.devRef .tc main_v113_1) := rfl
theorem val0_main_v113_2 (V0 : Valuation τ sig (Elt F)) : val0 V0 (no_index (Proc.devRef .tc main_v113_2)) = V0 (Proc.devRef .tc main_v113_2) := rfl
theorem val0_main_v113_3 (V0 : Valuation τ sig (Elt F)) : val0 V0 (no_index (Proc.devRef .tc main_v113_3)) = V0 (Proc.devRef .tc main_v113_3) := rfl
theorem val0_main_v113_4 (V0 : Valuation τ sig (Elt F)) : val0 V0 (no_index (Proc.devRef .tc main_v113_4)) = V0 (Proc.devRef .tc main_v113_4) := rfl
theorem val0_main_v113_5 (V0 : Valuation τ sig (Elt F)) : val0 V0 (no_index (Proc.devRef .tc main_v113_5)) = V0 (Proc.devRef .tc main_v113_5) := rfl
theorem val0_main_v113_8 (V0 : Valuation τ sig (Elt F)) : val0 V0 (no_index (Proc.devRef .tc main_v113_8)) = V0 (Proc.devRef .tc main_v113_8) := rfl
theorem val0_main_v113_6 (V0 : Valuation τ sig (Elt F)) : val0 V0 (no_index (Proc.devRef .tc main_v113_6)) = V0 (Proc.devRef .tc main_v113_6) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call2_v0, main_while0b_call2_cst, main_while0b_call2_c, main_while0b_call2_v1_0, main_while0b_v120]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v113_7 (V0 : Valuation τ sig (Elt F)) : val1 V0 (no_index (Proc.devRef .tc main_v113_7)) = V0 (Proc.devRef .tc main_v113_7) :=
  (val1_keep V0 main_v113_7 (by decide)).trans (val0_main_v113_7 V0)
theorem val1_main_v113_0 (V0 : Valuation τ sig (Elt F)) : val1 V0 (no_index (Proc.devRef .tc main_v113_0)) = V0 (Proc.devRef .tc main_v113_0) :=
  (val1_keep V0 main_v113_0 (by decide)).trans (val0_main_v113_0 V0)
theorem val1_main_v113_1 (V0 : Valuation τ sig (Elt F)) : val1 V0 (no_index (Proc.devRef .tc main_v113_1)) = V0 (Proc.devRef .tc main_v113_1) :=
  (val1_keep V0 main_v113_1 (by decide)).trans (val0_main_v113_1 V0)
theorem val1_main_v113_2 (V0 : Valuation τ sig (Elt F)) : val1 V0 (no_index (Proc.devRef .tc main_v113_2)) = V0 (Proc.devRef .tc main_v113_2) :=
  (val1_keep V0 main_v113_2 (by decide)).trans (val0_main_v113_2 V0)
theorem val1_main_v113_3 (V0 : Valuation τ sig (Elt F)) : val1 V0 (no_index (Proc.devRef .tc main_v113_3)) = V0 (Proc.devRef .tc main_v113_3) :=
  (val1_keep V0 main_v113_3 (by decide)).trans (val0_main_v113_3 V0)
theorem val1_main_v113_4 (V0 : Valuation τ sig (Elt F)) : val1 V0 (no_index (Proc.devRef .tc main_v113_4)) = V0 (Proc.devRef .tc main_v113_4) :=
  (val1_keep V0 main_v113_4 (by decide)).trans (val0_main_v113_4 V0)
theorem val1_main_v113_5 (V0 : Valuation τ sig (Elt F)) : val1 V0 (no_index (Proc.devRef .tc main_v113_5)) = V0 (Proc.devRef .tc main_v113_5) :=
  (val1_keep V0 main_v113_5 (by decide)).trans (val0_main_v113_5 V0)
theorem val1_main_v113_8 (V0 : Valuation τ sig (Elt F)) : val1 V0 (no_index (Proc.devRef .tc main_v113_8)) = V0 (Proc.devRef .tc main_v113_8) :=
  (val1_keep V0 main_v113_8 (by decide)).trans (val0_main_v113_8 V0)
theorem val1_main_v113_6 (V0 : Valuation τ sig (Elt F)) : val1 V0 (no_index (Proc.devRef .tc main_v113_6)) = V0 (Proc.devRef .tc main_v113_6) :=
  (val1_keep V0 main_v113_6 (by decide)).trans (val0_main_v113_6 V0)
set_option maxRecDepth 8192 in
theorem val1_main_while0b_v120 (V0 : Valuation τ sig (Elt F)) : val1 V0 (no_index (Proc.devRef .tc main_while0b_v120)) = res_main_while0b_v120 V0 := by
  unfold val1
  simp only [trip_w0]
  after_results_entrywise [val0_main_v113_7, res_main_while0b_call2_v0, res_main_while0b_call2_cst, res_main_while0b_call2_c, res_main_while0b_v120, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_c_38, main_while0b_v121, main_while0b_c_39, main_while0b_v122, main_while0b_v123, main_while0b_c_40, main_while0b_c_41, main_while0b_v124, main_while0b_c_42, main_while0b_c_43, main_while0b_v125, main_while0b_c_44, main_while0b_v126, main_while0b_v127]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v113_7 (V0 : Valuation τ sig (Elt F)) : val2 V0 (no_index (Proc.devRef .tc main_v113_7)) = V0 (Proc.devRef .tc main_v113_7) :=
  (val2_keep V0 main_v113_7 (by decide)).trans (val1_main_v113_7 V0)
theorem val2_main_v113_0 (V0 : Valuation τ sig (Elt F)) : val2 V0 (no_index (Proc.devRef .tc main_v113_0)) = V0 (Proc.devRef .tc main_v113_0) :=
  (val2_keep V0 main_v113_0 (by decide)).trans (val1_main_v113_0 V0)
theorem val2_main_v113_1 (V0 : Valuation τ sig (Elt F)) : val2 V0 (no_index (Proc.devRef .tc main_v113_1)) = V0 (Proc.devRef .tc main_v113_1) :=
  (val2_keep V0 main_v113_1 (by decide)).trans (val1_main_v113_1 V0)
theorem val2_main_v113_2 (V0 : Valuation τ sig (Elt F)) : val2 V0 (no_index (Proc.devRef .tc main_v113_2)) = V0 (Proc.devRef .tc main_v113_2) :=
  (val2_keep V0 main_v113_2 (by decide)).trans (val1_main_v113_2 V0)
theorem val2_main_v113_3 (V0 : Valuation τ sig (Elt F)) : val2 V0 (no_index (Proc.devRef .tc main_v113_3)) = V0 (Proc.devRef .tc main_v113_3) :=
  (val2_keep V0 main_v113_3 (by decide)).trans (val1_main_v113_3 V0)
theorem val2_main_v113_4 (V0 : Valuation τ sig (Elt F)) : val2 V0 (no_index (Proc.devRef .tc main_v113_4)) = V0 (Proc.devRef .tc main_v113_4) :=
  (val2_keep V0 main_v113_4 (by decide)).trans (val1_main_v113_4 V0)
theorem val2_main_v113_5 (V0 : Valuation τ sig (Elt F)) : val2 V0 (no_index (Proc.devRef .tc main_v113_5)) = V0 (Proc.devRef .tc main_v113_5) :=
  (val2_keep V0 main_v113_5 (by decide)).trans (val1_main_v113_5 V0)
theorem val2_main_v113_8 (V0 : Valuation τ sig (Elt F)) : val2 V0 (no_index (Proc.devRef .tc main_v113_8)) = V0 (Proc.devRef .tc main_v113_8) :=
  (val2_keep V0 main_v113_8 (by decide)).trans (val1_main_v113_8 V0)
theorem val2_main_v113_6 (V0 : Valuation τ sig (Elt F)) : val2 V0 (no_index (Proc.devRef .tc main_v113_6)) = V0 (Proc.devRef .tc main_v113_6) :=
  (val2_keep V0 main_v113_6 (by decide)).trans (val1_main_v113_6 V0)
theorem val2_main_while0b_v120 (V0 : Valuation τ sig (Elt F)) : val2 V0 (no_index (Proc.devRef .tc main_while0b_v120)) = res_main_while0b_v120 V0 :=
  (val2_keep V0 main_while0b_v120 (by decide)).trans (val1_main_while0b_v120 V0)
set_option maxRecDepth 8192 in
set_option maxHeartbeats 1400000 in
theorem val2_main_while0b_v127 (V0 : Valuation τ sig (Elt F)) : val2 V0 (no_index (Proc.devRef .tc main_while0b_v127)) = Host.dynamicSlice S1x6 (V0 (Proc.devRef .tc main_v113_0)) (fun k => (((![select (cmpi .slt (res_main_while0b_v120 V0) (constantI S_ 32 0#32)) (addi (res_main_while0b_v120 V0) (constantI S_ 32 20480#32)) (res_main_while0b_v120 V0), select (cmpi .slt (constantI S_ 32 0#32) (constantI S_ 32 0#32)) (addi (constantI S_ 32 0#32) (constantI S_ 32 6#32)) (constantI S_ 32 0#32)] : Fin 2 → (⟨S_, .i32⟩ : BufTy).Contents (Elt F))) k (Shape.Idx.first h_S_)).toInt) sliceFits_S20480x6_S1x6 := by
  unfold val2
  simp only [trip_w1]
  after_results_entrywise [val1_main_while0b_v120, val1_main_v113_0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_cst_45, main_while0b_v142, main_while0b_v143, main_while0b_v144, main_while0b_v145, main_while0b_v146, main_while0b_v147, main_while0b_v148, main_while0b_cst_46, main_while0b_v149]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v113_7 (V0 : Valuation τ sig (Elt F)) : val3 V0 (no_index (Proc.devRef .tc main_v113_7)) = V0 (Proc.devRef .tc main_v113_7) :=
  (val3_keep V0 main_v113_7 (by decide)).trans (val2_main_v113_7 V0)
theorem val3_main_v113_0 (V0 : Valuation τ sig (Elt F)) : val3 V0 (no_index (Proc.devRef .tc main_v113_0)) = V0 (Proc.devRef .tc main_v113_0) :=
  (val3_keep V0 main_v113_0 (by decide)).trans (val2_main_v113_0 V0)
theorem val3_main_v113_1 (V0 : Valuation τ sig (Elt F)) : val3 V0 (no_index (Proc.devRef .tc main_v113_1)) = V0 (Proc.devRef .tc main_v113_1) :=
  (val3_keep V0 main_v113_1 (by decide)).trans (val2_main_v113_1 V0)
theorem val3_main_v113_2 (V0 : Valuation τ sig (Elt F)) : val3 V0 (no_index (Proc.devRef .tc main_v113_2)) = V0 (Proc.devRef .tc main_v113_2) :=
  (val3_keep V0 main_v113_2 (by decide)).trans (val2_main_v113_2 V0)
theorem val3_main_v113_3 (V0 : Valuation τ sig (Elt F)) : val3 V0 (no_index (Proc.devRef .tc main_v113_3)) = V0 (Proc.devRef .tc main_v113_3) :=
  (val3_keep V0 main_v113_3 (by decide)).trans (val2_main_v113_3 V0)
theorem val3_main_v113_4 (V0 : Valuation τ sig (Elt F)) : val3 V0 (no_index (Proc.devRef .tc main_v113_4)) = V0 (Proc.devRef .tc main_v113_4) :=
  (val3_keep V0 main_v113_4 (by decide)).trans (val2_main_v113_4 V0)
theorem val3_main_v113_5 (V0 : Valuation τ sig (Elt F)) : val3 V0 (no_index (Proc.devRef .tc main_v113_5)) = V0 (Proc.devRef .tc main_v113_5) :=
  (val3_keep V0 main_v113_5 (by decide)).trans (val2_main_v113_5 V0)
theorem val3_main_v113_8 (V0 : Valuation τ sig (Elt F)) : val3 V0 (no_index (Proc.devRef .tc main_v113_8)) = V0 (Proc.devRef .tc main_v113_8) :=
  (val3_keep V0 main_v113_8 (by decide)).trans (val2_main_v113_8 V0)
theorem val3_main_v113_6 (V0 : Valuation τ sig (Elt F)) : val3 V0 (no_index (Proc.devRef .tc main_v113_6)) = V0 (Proc.devRef .tc main_v113_6) :=
  (val3_keep V0 main_v113_6 (by decide)).trans (val2_main_v113_6 V0)
theorem val3_main_while0b_v120 (V0 : Valuation τ sig (Elt F)) : val3 V0 (no_index (Proc.devRef .tc main_while0b_v120)) = res_main_while0b_v120 V0 :=
  (val3_keep V0 main_while0b_v120 (by decide)).trans (val2_main_while0b_v120 V0)
set_option maxRecDepth 8192 in
set_option maxHeartbeats 2000000 in
theorem val3_main_while0b_v128 (V0 : Valuation τ sig (Elt F)) : val3 V0 (no_index (Proc.devRef .tc main_while0b_v128)) = res_main_while0b_v128 V0 := by
  unfold val3
  simp only [trip_w2]
  after_results_entrywise [val2_main_while0b_v127, res_main_while0b_v128, cast_eq]
set_option maxRecDepth 8192 in
set_option maxHeartbeats 2000000 in
theorem val3_main_while0b_v130 (V0 : Valuation τ sig (Elt F)) : val3 V0 (no_index (Proc.devRef .tc main_while0b_v130)) = res_main_while0b_v130 V0 := by
  unfold val3
  simp only [trip_w2]
  after_results_entrywise [val2_main_while0b_v127, res_main_while0b_v128, res_main_while0b_v130, cast_eq]
set_option maxRecDepth 8192 in
set_option maxHeartbeats 2000000 in
theorem val3_main_while0b_v132 (V0 : Valuation τ sig (Elt F)) : val3 V0 (no_index (Proc.devRef .tc main_while0b_v132)) = res_main_while0b_v132 V0 := by
  unfold val3
  simp only [trip_w2]
  after_results_entrywise [val2_main_while0b_v127, res_main_while0b_v128, res_main_while0b_v132, cast_eq]
set_option maxRecDepth 8192 in
set_option maxHeartbeats 2000000 in
theorem val3_main_while0b_v134 (V0 : Valuation τ sig (Elt F)) : val3 V0 (no_index (Proc.devRef .tc main_while0b_v134)) = res_main_while0b_v134 V0 := by
  unfold val3
  simp only [trip_w2]
  after_results_entrywise [val2_main_while0b_v127, res_main_while0b_v128, res_main_while0b_v134, cast_eq]
set_option maxRecDepth 8192 in
set_option maxHeartbeats 2000000 in
theorem val3_main_while0b_v136 (V0 : Valuation τ sig (Elt F)) : val3 V0 (no_index (Proc.devRef .tc main_while0b_v136)) = res_main_while0b_v136 V0 := by
  unfold val3
  simp only [trip_w2]
  after_results_entrywise [val2_main_while0b_v127, res_main_while0b_v128, res_main_while0b_v136, cast_eq]
set_option maxRecDepth 8192 in
set_option maxHeartbeats 2000000 in
theorem val3_main_while0b_v143 (V0 : Valuation τ sig (Elt F)) : val3 V0 (no_index (Proc.devRef .tc main_while0b_v143)) = maximumf (subf (minimumf (broadcastInDim S20480 ![] bcast_S_S20480 (res_main_while0b_v134 V0)) (V0 (Proc.devRef .tc main_v113_1))) (maximumf (broadcastInDim S20480 ![] bcast_S_S20480 (res_main_while0b_v130 V0)) (V0 (Proc.devRef .tc main_v113_2)))) (broadcastInDim S20480 ![] bcast_S_S20480 (constant S_ .f32 0x00000000#32)) := by
  unfold val3
  simp only [trip_w2]
  after_results_entrywise [val2_main_v113_2, val2_main_while0b_v127, val2_main_v113_1, res_main_while0b_v128, res_main_while0b_v130, res_main_while0b_v134, cast_eq]
set_option maxRecDepth 8192 in
set_option maxHeartbeats 2000000 in
theorem val3_main_while0b_v148 (V0 : Valuation τ sig (Elt F)) : val3 V0 (no_index (Proc.devRef .tc main_while0b_v148)) = subf (minimumf (broadcastInDim S20480 ![] bcast_S_S20480 (res_main_while0b_v136 V0)) (V0 (Proc.devRef .tc main_v113_3))) (maximumf (broadcastInDim S20480 ![] bcast_S_S20480 (res_main_while0b_v132 V0)) (V0 (Proc.devRef .tc main_v113_4))) := by
  unfold val3
  simp only [trip_w2]
  after_results_entrywise [val2_main_v113_4, val2_main_while0b_v127, val2_main_v113_3, res_main_while0b_v128, res_main_while0b_v132, res_main_while0b_v136, cast_eq]
set_option maxRecDepth 8192 in
set_option maxHeartbeats 2000000 in
theorem val3_main_while0b_v149 (V0 : Valuation τ sig (Elt F)) : val3 V0 (no_index (Proc.devRef .tc main_while0b_v149)) = broadcastInDim S20480 ![] bcast_S_S20480 (constant S_ .f32 0x00000000#32) := by
  unfold val3
  simp only [trip_w2]
  after_results_entrywise [cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v150, main_while0b_v151, main_while0b_v152, main_while0b_v153, main_while0b_v154, main_while0b_v155, main_while0b_v156, main_while0b_v157, main_while0b_cst_47, main_while0b_v158, main_while0b_v159, main_while0b_v160, main_while0b_cst_48, main_while0b_v161, main_while0b_v162, main_while0b_cst_49]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v113_7 (V0 : Valuation τ sig (Elt F)) : val4 V0 (no_index (Proc.devRef .tc main_v113_7)) = V0 (Proc.devRef .tc main_v113_7) :=
  (val4_keep V0 main_v113_7 (by decide)).trans (val3_main_v113_7 V0)
theorem val4_main_v113_0 (V0 : Valuation τ sig (Elt F)) : val4 V0 (no_index (Proc.devRef .tc main_v113_0)) = V0 (Proc.devRef .tc main_v113_0) :=
  (val4_keep V0 main_v113_0 (by decide)).trans (val3_main_v113_0 V0)
theorem val4_main_v113_1 (V0 : Valuation τ sig (Elt F)) : val4 V0 (no_index (Proc.devRef .tc main_v113_1)) = V0 (Proc.devRef .tc main_v113_1) :=
  (val4_keep V0 main_v113_1 (by decide)).trans (val3_main_v113_1 V0)
theorem val4_main_v113_2 (V0 : Valuation τ sig (Elt F)) : val4 V0 (no_index (Proc.devRef .tc main_v113_2)) = V0 (Proc.devRef .tc main_v113_2) :=
  (val4_keep V0 main_v113_2 (by decide)).trans (val3_main_v113_2 V0)
theorem val4_main_v113_3 (V0 : Valuation τ sig (Elt F)) : val4 V0 (no_index (Proc.devRef .tc main_v113_3)) = V0 (Proc.devRef .tc main_v113_3) :=
  (val4_keep V0 main_v113_3 (by decide)).trans (val3_main_v113_3 V0)
theorem val4_main_v113_4 (V0 : Valuation τ sig (Elt F)) : val4 V0 (no_index (Proc.devRef .tc main_v113_4)) = V0 (Proc.devRef .tc main_v113_4) :=
  (val4_keep V0 main_v113_4 (by decide)).trans (val3_main_v113_4 V0)
theorem val4_main_v113_5 (V0 : Valuation τ sig (Elt F)) : val4 V0 (no_index (Proc.devRef .tc main_v113_5)) = V0 (Proc.devRef .tc main_v113_5) :=
  (val4_keep V0 main_v113_5 (by decide)).trans (val3_main_v113_5 V0)
theorem val4_main_v113_8 (V0 : Valuation τ sig (Elt F)) : val4 V0 (no_index (Proc.devRef .tc main_v113_8)) = V0 (Proc.devRef .tc main_v113_8) :=
  (val4_keep V0 main_v113_8 (by decide)).trans (val3_main_v113_8 V0)
theorem val4_main_v113_6 (V0 : Valuation τ sig (Elt F)) : val4 V0 (no_index (Proc.devRef .tc main_v113_6)) = V0 (Proc.devRef .tc main_v113_6) :=
  (val4_keep V0 main_v113_6 (by decide)).trans (val3_main_v113_6 V0)
theorem val4_main_while0b_v120 (V0 : Valuation τ sig (Elt F)) : val4 V0 (no_index (Proc.devRef .tc main_while0b_v120)) = res_main_while0b_v120 V0 :=
  (val4_keep V0 main_while0b_v120 (by decide)).trans (val3_main_while0b_v120 V0)
theorem val4_main_while0b_v128 (V0 : Valuation τ sig (Elt F)) : val4 V0 (no_index (Proc.devRef .tc main_while0b_v128)) = res_main_while0b_v128 V0 :=
  (val4_keep V0 main_while0b_v128 (by decide)).trans (val3_main_while0b_v128 V0)
set_option maxRecDepth 8192 in
set_option maxHeartbeats 1600000 in
theorem val4_main_while0b_v162 (V0 : Valuation τ sig (Elt F)) : val4 V0 (no_index (Proc.devRef .tc main_while0b_v162)) = cmpf .ogt (Host.divf (res_main_while0b_v151 V0) (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32)))) (broadcastInDim S20480 ![] bcast_S_S20480 (constant S_ .f32 0x3F000000#32)) := by
  unfold val4
  simp only [trip_w3]
  after_results_entrywise [val3_main_v113_5, val3_main_while0b_v132, val3_main_while0b_v136, val3_main_while0b_v130, val3_main_while0b_v134, val3_main_while0b_v149, val3_main_while0b_v148, val3_main_while0b_v143, res_main_while0b_v151, cast_eq]
set_option maxRecDepth 8192 in
set_option maxHeartbeats 1600000 in
theorem val4_main_while0b_cst_49 (V0 : Valuation τ sig (Elt F)) : val4 V0 (no_index (Proc.devRef .tc main_while0b_cst_49)) = constant S_ .f32 0xBF800000#32 := by
  unfold val4
  simp only [trip_w3]
  after_results_entrywise [cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_call3_v0, main_while0b_call3_v1, main_while0b_v163]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v113_7 (V0 : Valuation τ sig (Elt F)) : val5 V0 (no_index (Proc.devRef .tc main_v113_7)) = V0 (Proc.devRef .tc main_v113_7) :=
  (val5_keep V0 main_v113_7 (by decide)).trans (val4_main_v113_7 V0)
theorem val5_main_v113_0 (V0 : Valuation τ sig (Elt F)) : val5 V0 (no_index (Proc.devRef .tc main_v113_0)) = V0 (Proc.devRef .tc main_v113_0) :=
  (val5_keep V0 main_v113_0 (by decide)).trans (val4_main_v113_0 V0)
theorem val5_main_v113_1 (V0 : Valuation τ sig (Elt F)) : val5 V0 (no_index (Proc.devRef .tc main_v113_1)) = V0 (Proc.devRef .tc main_v113_1) :=
  (val5_keep V0 main_v113_1 (by decide)).trans (val4_main_v113_1 V0)
theorem val5_main_v113_2 (V0 : Valuation τ sig (Elt F)) : val5 V0 (no_index (Proc.devRef .tc main_v113_2)) = V0 (Proc.devRef .tc main_v113_2) :=
  (val5_keep V0 main_v113_2 (by decide)).trans (val4_main_v113_2 V0)
theorem val5_main_v113_3 (V0 : Valuation τ sig (Elt F)) : val5 V0 (no_index (Proc.devRef .tc main_v113_3)) = V0 (Proc.devRef .tc main_v113_3) :=
  (val5_keep V0 main_v113_3 (by decide)).trans (val4_main_v113_3 V0)
theorem val5_main_v113_4 (V0 : Valuation τ sig (Elt F)) : val5 V0 (no_index (Proc.devRef .tc main_v113_4)) = V0 (Proc.devRef .tc main_v113_4) :=
  (val5_keep V0 main_v113_4 (by decide)).trans (val4_main_v113_4 V0)
theorem val5_main_v113_5 (V0 : Valuation τ sig (Elt F)) : val5 V0 (no_index (Proc.devRef .tc main_v113_5)) = V0 (Proc.devRef .tc main_v113_5) :=
  (val5_keep V0 main_v113_5 (by decide)).trans (val4_main_v113_5 V0)
theorem val5_main_v113_8 (V0 : Valuation τ sig (Elt F)) : val5 V0 (no_index (Proc.devRef .tc main_v113_8)) = V0 (Proc.devRef .tc main_v113_8) :=
  (val5_keep V0 main_v113_8 (by decide)).trans (val4_main_v113_8 V0)
theorem val5_main_v113_6 (V0 : Valuation τ sig (Elt F)) : val5 V0 (no_index (Proc.devRef .tc main_v113_6)) = V0 (Proc.devRef .tc main_v113_6) :=
  (val5_keep V0 main_v113_6 (by decide)).trans (val4_main_v113_6 V0)
theorem val5_main_while0b_v120 (V0 : Valuation τ sig (Elt F)) : val5 V0 (no_index (Proc.devRef .tc main_while0b_v120)) = res_main_while0b_v120 V0 :=
  (val5_keep V0 main_while0b_v120 (by decide)).trans (val4_main_while0b_v120 V0)
theorem val5_main_while0b_v128 (V0 : Valuation τ sig (Elt F)) : val5 V0 (no_index (Proc.devRef .tc main_while0b_v128)) = res_main_while0b_v128 V0 :=
  (val5_keep V0 main_while0b_v128 (by decide)).trans (val4_main_while0b_v128 V0)
set_option maxRecDepth 8192 in
theorem val5_main_while0b_v163 (V0 : Valuation τ sig (Elt F)) : val5 V0 (no_index (Proc.devRef .tc main_while0b_v163)) = select (cmpf .ogt (Host.divf (res_main_while0b_v151 V0) (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32)))) (broadcastInDim S20480 ![] bcast_S_S20480 (constant S_ .f32 0x3F000000#32))) (broadcastInDim S20480 ![] bcast_S_S20480 (id (constant S_ .f32 0xBF800000#32))) (V0 (Proc.devRef .tc main_v113_7)) := by
  unfold val5
  simp only [trip_w4]
  after_results_entrywise [val4_main_v113_7, val4_main_while0b_cst_49, val4_main_while0b_v162, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_c_50, main_while0b_v164, main_while0b_c_51, main_while0b_v165, main_while0b_v166, main_while0b_v167, main_while0b_cst_52, main_while0b_v168]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v113_7 (V0 : Valuation τ sig (Elt F)) : val6 V0 (no_index (Proc.devRef .tc main_v113_7)) = V0 (Proc.devRef .tc main_v113_7) :=
  (val6_keep V0 main_v113_7 (by decide)).trans (val5_main_v113_7 V0)
theorem val6_main_v113_0 (V0 : Valuation τ sig (Elt F)) : val6 V0 (no_index (Proc.devRef .tc main_v113_0)) = V0 (Proc.devRef .tc main_v113_0) :=
  (val6_keep V0 main_v113_0 (by decide)).trans (val5_main_v113_0 V0)
theorem val6_main_v113_1 (V0 : Valuation τ sig (Elt F)) : val6 V0 (no_index (Proc.devRef .tc main_v113_1)) = V0 (Proc.devRef .tc main_v113_1) :=
  (val6_keep V0 main_v113_1 (by decide)).trans (val5_main_v113_1 V0)
theorem val6_main_v113_2 (V0 : Valuation τ sig (Elt F)) : val6 V0 (no_index (Proc.devRef .tc main_v113_2)) = V0 (Proc.devRef .tc main_v113_2) :=
  (val6_keep V0 main_v113_2 (by decide)).trans (val5_main_v113_2 V0)
theorem val6_main_v113_3 (V0 : Valuation τ sig (Elt F)) : val6 V0 (no_index (Proc.devRef .tc main_v113_3)) = V0 (Proc.devRef .tc main_v113_3) :=
  (val6_keep V0 main_v113_3 (by decide)).trans (val5_main_v113_3 V0)
theorem val6_main_v113_4 (V0 : Valuation τ sig (Elt F)) : val6 V0 (no_index (Proc.devRef .tc main_v113_4)) = V0 (Proc.devRef .tc main_v113_4) :=
  (val6_keep V0 main_v113_4 (by decide)).trans (val5_main_v113_4 V0)
theorem val6_main_v113_5 (V0 : Valuation τ sig (Elt F)) : val6 V0 (no_index (Proc.devRef .tc main_v113_5)) = V0 (Proc.devRef .tc main_v113_5) :=
  (val6_keep V0 main_v113_5 (by decide)).trans (val5_main_v113_5 V0)
theorem val6_main_v113_8 (V0 : Valuation τ sig (Elt F)) : val6 V0 (no_index (Proc.devRef .tc main_v113_8)) = V0 (Proc.devRef .tc main_v113_8) :=
  (val6_keep V0 main_v113_8 (by decide)).trans (val5_main_v113_8 V0)
theorem val6_main_v113_6 (V0 : Valuation τ sig (Elt F)) : val6 V0 (no_index (Proc.devRef .tc main_v113_6)) = V0 (Proc.devRef .tc main_v113_6) :=
  (val6_keep V0 main_v113_6 (by decide)).trans (val5_main_v113_6 V0)
theorem val6_main_while0b_v128 (V0 : Valuation τ sig (Elt F)) : val6 V0 (no_index (Proc.devRef .tc main_while0b_v128)) = res_main_while0b_v128 V0 :=
  (val6_keep V0 main_while0b_v128 (by decide)).trans (val5_main_while0b_v128 V0)
set_option maxRecDepth 8192 in
theorem val6_main_while0b_v168 (V0 : Valuation τ sig (Elt F)) : val6 V0 (no_index (Proc.devRef .tc main_while0b_v168)) = Host.scatter scatter_S20480_S1_S__n_0_0_0 (fun _ b => b) (select (cmpf .ogt (Host.divf (res_main_while0b_v151 V0) (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32)))) (broadcastInDim S20480 ![] bcast_S_S20480 (constant S_ .f32 0x3F000000#32))) (broadcastInDim S20480 ![] bcast_S_S20480 (id (constant S_ .f32 0xBF800000#32))) (V0 (Proc.devRef .tc main_v113_7))) (broadcastInDim S1 ![] bcast_S_S1 (select (cmpi .slt (res_main_while0b_v120 V0) (constantI S_ 32 0#32)) (addi (res_main_while0b_v120 V0) (constantI S_ 32 20480#32)) (res_main_while0b_v120 V0))) (constant S_ .f32 0xBF800000#32) := by
  unfold val6
  simp only [trip_w5]
  after_results_entrywise [val5_main_while0b_v120, val5_main_while0b_v163, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_call4_v0, main_while0b_call4_c, main_while0b_v169]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v113_7 (V0 : Valuation τ sig (Elt F)) : val7 V0 (no_index (Proc.devRef .tc main_v113_7)) = V0 (Proc.devRef .tc main_v113_7) :=
  (val7_keep V0 main_v113_7 (by decide)).trans (val6_main_v113_7 V0)
theorem val7_main_v113_0 (V0 : Valuation τ sig (Elt F)) : val7 V0 (no_index (Proc.devRef .tc main_v113_0)) = V0 (Proc.devRef .tc main_v113_0) :=
  (val7_keep V0 main_v113_0 (by decide)).trans (val6_main_v113_0 V0)
theorem val7_main_v113_1 (V0 : Valuation τ sig (Elt F)) : val7 V0 (no_index (Proc.devRef .tc main_v113_1)) = V0 (Proc.devRef .tc main_v113_1) :=
  (val7_keep V0 main_v113_1 (by decide)).trans (val6_main_v113_1 V0)
theorem val7_main_v113_2 (V0 : Valuation τ sig (Elt F)) : val7 V0 (no_index (Proc.devRef .tc main_v113_2)) = V0 (Proc.devRef .tc main_v113_2) :=
  (val7_keep V0 main_v113_2 (by decide)).trans (val6_main_v113_2 V0)
theorem val7_main_v113_3 (V0 : Valuation τ sig (Elt F)) : val7 V0 (no_index (Proc.devRef .tc main_v113_3)) = V0 (Proc.devRef .tc main_v113_3) :=
  (val7_keep V0 main_v113_3 (by decide)).trans (val6_main_v113_3 V0)
theorem val7_main_v113_4 (V0 : Valuation τ sig (Elt F)) : val7 V0 (no_index (Proc.devRef .tc main_v113_4)) = V0 (Proc.devRef .tc main_v113_4) :=
  (val7_keep V0 main_v113_4 (by decide)).trans (val6_main_v113_4 V0)
theorem val7_main_v113_5 (V0 : Valuation τ sig (Elt F)) : val7 V0 (no_index (Proc.devRef .tc main_v113_5)) = V0 (Proc.devRef .tc main_v113_5) :=
  (val7_keep V0 main_v113_5 (by decide)).trans (val6_main_v113_5 V0)
theorem val7_main_v113_8 (V0 : Valuation τ sig (Elt F)) : val7 V0 (no_index (Proc.devRef .tc main_v113_8)) = V0 (Proc.devRef .tc main_v113_8) :=
  (val7_keep V0 main_v113_8 (by decide)).trans (val6_main_v113_8 V0)
theorem val7_main_v113_6 (V0 : Valuation τ sig (Elt F)) : val7 V0 (no_index (Proc.devRef .tc main_v113_6)) = V0 (Proc.devRef .tc main_v113_6) :=
  (val7_keep V0 main_v113_6 (by decide)).trans (val6_main_v113_6 V0)
theorem val7_main_while0b_v168 (V0 : Valuation τ sig (Elt F)) : val7 V0 (no_index (Proc.devRef .tc main_while0b_v168)) = Host.scatter scatter_S20480_S1_S__n_0_0_0 (fun _ b => b) (select (cmpf .ogt (Host.divf (res_main_while0b_v151 V0) (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32)))) (broadcastInDim S20480 ![] bcast_S_S20480 (constant S_ .f32 0x3F000000#32))) (broadcastInDim S20480 ![] bcast_S_S20480 (id (constant S_ .f32 0xBF800000#32))) (V0 (Proc.devRef .tc main_v113_7))) (broadcastInDim S1 ![] bcast_S_S1 (select (cmpi .slt (res_main_while0b_v120 V0) (constantI S_ 32 0#32)) (addi (res_main_while0b_v120 V0) (constantI S_ 32 20480#32)) (res_main_while0b_v120 V0))) (constant S_ .f32 0xBF800000#32) :=
  (val7_keep V0 main_while0b_v168 (by decide)).trans (val6_main_while0b_v168 V0)
set_option maxRecDepth 8192 in
theorem val7_main_while0b_v169 (V0 : Valuation τ sig (Elt F)) : val7 V0 (no_index (Proc.devRef .tc main_while0b_v169)) = Host.dynamicUpdateSlice (V0 (Proc.devRef .tc main_v113_8)) (broadcastInDim S1x6 ![1] bcast_S6_S1x6_1 (res_main_while0b_v128 V0)) (fun k => (((![V0 (Proc.devRef .tc main_v113_6), constantI S_ 32 0#32] : Fin 2 → (⟨S_, .i32⟩ : BufTy).Contents (Elt F))) k (Shape.Idx.first h_S_)).toInt) updateFits_S10x6_S1x6 := by
  unfold val7
  simp only [trip_w6]
  after_results_entrywise [val6_main_v113_6, val6_main_while0b_v128, val6_main_v113_8, cast_eq]

set_option maxRecDepth 8192 in
/-- The body's stretches before `while0Ops0_5`, from any contents: their windows in order. -/
theorem trip_windows (V0 : Valuation τ sig (Elt F)) : after while0Ops0_4 (after while0Ops0_3 (after while0Ops0_2 (after while0Ops0_1 (after while0Ops0 (V0))))) = val7 V0 := by
  simp only [while0Ops0_cut, while0Ops0_1_cut, while0Ops0_2_cut, while0Ops0_3_cut, while0Ops0_4_cut, after_append]
  rfl

set_option maxRecDepth 8192 in
set_option maxHeartbeats 2000000 in
/-- `main_v113_0` after one trip's body, from any contents. -/
theorem trip_main_v113_0 (V0 : Valuation τ sig (Elt F)) : afterL bodyI V0 (no_index (Proc.devRef .tc main_v113_0)) = V0 (Proc.devRef .tc main_v113_0) := by
  simp only [bodyI, afterL_cons, afterL_nil, trip_windows]
  after_results
  all_goals (try simp only [val7_main_while0b_v168, val7_main_while0b_v169, val7_main_v113_0, val7_main_v113_1, val7_main_v113_2, val7_main_v113_3, val7_main_v113_4, val7_main_v113_5, val7_main_v113_6, val7_main_v113_7, val7_main_v113_8]) <;> rfl
set_option maxRecDepth 8192 in
set_option maxHeartbeats 2000000 in
/-- `main_v113_1` after one trip's body, from any contents. -/
theorem trip_main_v113_1 (V0 : Valuation τ sig (Elt F)) : afterL bodyI V0 (no_index (Proc.devRef .tc main_v113_1)) = V0 (Proc.devRef .tc main_v113_1) := by
  simp only [bodyI, afterL_cons, afterL_nil, trip_windows]
  after_results
  all_goals (try simp only [val7_main_while0b_v168, val7_main_while0b_v169, val7_main_v113_0, val7_main_v113_1, val7_main_v113_2, val7_main_v113_3, val7_main_v113_4, val7_main_v113_5, val7_main_v113_6, val7_main_v113_7, val7_main_v113_8]) <;> rfl
set_option maxRecDepth 8192 in
set_option maxHeartbeats 2000000 in
/-- `main_v113_2` after one trip's body, from any contents. -/
theorem trip_main_v113_2 (V0 : Valuation τ sig (Elt F)) : afterL bodyI V0 (no_index (Proc.devRef .tc main_v113_2)) = V0 (Proc.devRef .tc main_v113_2) := by
  simp only [bodyI, afterL_cons, afterL_nil, trip_windows]
  after_results
  all_goals (try simp only [val7_main_while0b_v168, val7_main_while0b_v169, val7_main_v113_0, val7_main_v113_1, val7_main_v113_2, val7_main_v113_3, val7_main_v113_4, val7_main_v113_5, val7_main_v113_6, val7_main_v113_7, val7_main_v113_8]) <;> rfl
set_option maxRecDepth 8192 in
set_option maxHeartbeats 2000000 in
/-- `main_v113_3` after one trip's body, from any contents. -/
theorem trip_main_v113_3 (V0 : Valuation τ sig (Elt F)) : afterL bodyI V0 (no_index (Proc.devRef .tc main_v113_3)) = V0 (Proc.devRef .tc main_v113_3) := by
  simp only [bodyI, afterL_cons, afterL_nil, trip_windows]
  after_results
  all_goals (try simp only [val7_main_while0b_v168, val7_main_while0b_v169, val7_main_v113_0, val7_main_v113_1, val7_main_v113_2, val7_main_v113_3, val7_main_v113_4, val7_main_v113_5, val7_main_v113_6, val7_main_v113_7, val7_main_v113_8]) <;> rfl
set_option maxRecDepth 8192 in
set_option maxHeartbeats 2000000 in
/-- `main_v113_4` after one trip's body, from any contents. -/
theorem trip_main_v113_4 (V0 : Valuation τ sig (Elt F)) : afterL bodyI V0 (no_index (Proc.devRef .tc main_v113_4)) = V0 (Proc.devRef .tc main_v113_4) := by
  simp only [bodyI, afterL_cons, afterL_nil, trip_windows]
  after_results
  all_goals (try simp only [val7_main_while0b_v168, val7_main_while0b_v169, val7_main_v113_0, val7_main_v113_1, val7_main_v113_2, val7_main_v113_3, val7_main_v113_4, val7_main_v113_5, val7_main_v113_6, val7_main_v113_7, val7_main_v113_8]) <;> rfl
set_option maxRecDepth 8192 in
set_option maxHeartbeats 2000000 in
/-- `main_v113_5` after one trip's body, from any contents. -/
theorem trip_main_v113_5 (V0 : Valuation τ sig (Elt F)) : afterL bodyI V0 (no_index (Proc.devRef .tc main_v113_5)) = V0 (Proc.devRef .tc main_v113_5) := by
  simp only [bodyI, afterL_cons, afterL_nil, trip_windows]
  after_results
  all_goals (try simp only [val7_main_while0b_v168, val7_main_while0b_v169, val7_main_v113_0, val7_main_v113_1, val7_main_v113_2, val7_main_v113_3, val7_main_v113_4, val7_main_v113_5, val7_main_v113_6, val7_main_v113_7, val7_main_v113_8]) <;> rfl
set_option maxRecDepth 8192 in
set_option maxHeartbeats 2000000 in
/-- `main_v113_6` after one trip's body, from any contents. -/
theorem trip_main_v113_6 (V0 : Valuation τ sig (Elt F)) : afterL bodyI V0 (no_index (Proc.devRef .tc main_v113_6)) = id (addi (V0 (Proc.devRef .tc main_v113_6)) (constantI S_ 32 1#32)) := by
  simp only [bodyI, afterL_cons, afterL_nil, trip_windows]
  after_results
  all_goals (try simp only [val7_main_while0b_v168, val7_main_while0b_v169, val7_main_v113_0, val7_main_v113_1, val7_main_v113_2, val7_main_v113_3, val7_main_v113_4, val7_main_v113_5, val7_main_v113_6, val7_main_v113_7, val7_main_v113_8]) <;> rfl
set_option maxRecDepth 8192 in
set_option maxHeartbeats 2000000 in
/-- `main_v113_7` after one trip's body, from any contents. -/
theorem trip_main_v113_7 (V0 : Valuation τ sig (Elt F)) : afterL bodyI V0 (no_index (Proc.devRef .tc main_v113_7)) = id (Host.scatter scatter_S20480_S1_S__n_0_0_0 (fun _ b => b) (select (cmpf .ogt (Host.divf (res_main_while0b_v151 V0) (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32)))) (broadcastInDim S20480 ![] bcast_S_S20480 (constant S_ .f32 0x3F000000#32))) (broadcastInDim S20480 ![] bcast_S_S20480 (id (constant S_ .f32 0xBF800000#32))) (V0 (Proc.devRef .tc main_v113_7))) (broadcastInDim S1 ![] bcast_S_S1 (select (cmpi .slt (res_main_while0b_v120 V0) (constantI S_ 32 0#32)) (addi (res_main_while0b_v120 V0) (constantI S_ 32 20480#32)) (res_main_while0b_v120 V0))) (constant S_ .f32 0xBF800000#32)) := by
  simp only [bodyI, afterL_cons, afterL_nil, trip_windows]
  after_results
  all_goals (try simp only [val7_main_while0b_v168, val7_main_while0b_v169, val7_main_v113_0, val7_main_v113_1, val7_main_v113_2, val7_main_v113_3, val7_main_v113_4, val7_main_v113_5, val7_main_v113_6, val7_main_v113_7, val7_main_v113_8]) <;> rfl
set_option maxRecDepth 8192 in
set_option maxHeartbeats 2000000 in
/-- `main_v113_8` after one trip's body, from any contents. -/
theorem trip_main_v113_8 (V0 : Valuation τ sig (Elt F)) : afterL bodyI V0 (no_index (Proc.devRef .tc main_v113_8)) = id (Host.dynamicUpdateSlice (V0 (Proc.devRef .tc main_v113_8)) (broadcastInDim S1x6 ![1] bcast_S6_S1x6_1 (res_main_while0b_v128 V0)) (fun k => (((![V0 (Proc.devRef .tc main_v113_6), constantI S_ 32 0#32] : Fin 2 → (⟨S_, .i32⟩ : BufTy).Contents (Elt F))) k (Shape.Idx.first h_S_)).toInt) updateFits_S10x6_S1x6) := by
  simp only [bodyI, afterL_cons, afterL_nil, trip_windows]
  after_results
  all_goals (try simp only [val7_main_while0b_v168, val7_main_while0b_v169, val7_main_v113_0, val7_main_v113_1, val7_main_v113_2, val7_main_v113_3, val7_main_v113_4, val7_main_v113_5, val7_main_v113_6, val7_main_v113_7, val7_main_v113_8]) <;> rfl

/-- The loop's carried buffers. -/
abbrev carriedRefs : List (Ref sig .tc) := [main_v113_0, main_v113_1, main_v113_2, main_v113_3, main_v113_4, main_v113_5, main_v113_6, main_v113_7, main_v113_8]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_call2_v0_congr {V0 V0' : Valuation τ sig (Elt F)} (h : Agree V0 V0') : res_main_while0b_call2_v0 V0 = res_main_while0b_call2_v0 V0' := by
  unfold res_main_while0b_call2_v0
  rfl
set_option maxRecDepth 8192 in
theorem res_main_while0b_call2_cst_congr {V0 V0' : Valuation τ sig (Elt F)} (h : Agree V0 V0') : res_main_while0b_call2_cst V0 = res_main_while0b_call2_cst V0' := by
  unfold res_main_while0b_call2_cst
  rfl
set_option maxRecDepth 8192 in
theorem res_main_while0b_call2_c_congr {V0 V0' : Valuation τ sig (Elt F)} (h : Agree V0 V0') : res_main_while0b_call2_c V0 = res_main_while0b_call2_c V0' := by
  unfold res_main_while0b_call2_c
  rfl
set_option maxRecDepth 8192 in
theorem res_main_while0b_v120_congr {V0 V0' : Valuation τ sig (Elt F)} (h : Agree V0 V0') : res_main_while0b_v120 V0 = res_main_while0b_v120 V0' := by
  unfold res_main_while0b_v120
  rw [res_main_while0b_call2_v0_congr h, res_main_while0b_call2_cst_congr h, res_main_while0b_call2_c_congr h, h main_v113_7 (by decide)]
set_option maxRecDepth 8192 in
theorem res_main_while0b_v128_congr {V0 V0' : Valuation τ sig (Elt F)} (h : Agree V0 V0') : res_main_while0b_v128 V0 = res_main_while0b_v128 V0' := by
  unfold res_main_while0b_v128
  rw [res_main_while0b_v120_congr h, h main_v113_0 (by decide)]
set_option maxRecDepth 8192 in
theorem res_main_while0b_v130_congr {V0 V0' : Valuation τ sig (Elt F)} (h : Agree V0 V0') : res_main_while0b_v130 V0 = res_main_while0b_v130 V0' := by
  unfold res_main_while0b_v130
  rw [res_main_while0b_v128_congr h]
set_option maxRecDepth 8192 in
theorem res_main_while0b_v132_congr {V0 V0' : Valuation τ sig (Elt F)} (h : Agree V0 V0') : res_main_while0b_v132 V0 = res_main_while0b_v132 V0' := by
  unfold res_main_while0b_v132
  rw [res_main_while0b_v128_congr h]
set_option maxRecDepth 8192 in
theorem res_main_while0b_v134_congr {V0 V0' : Valuation τ sig (Elt F)} (h : Agree V0 V0') : res_main_while0b_v134 V0 = res_main_while0b_v134 V0' := by
  unfold res_main_while0b_v134
  rw [res_main_while0b_v128_congr h]
set_option maxRecDepth 8192 in
theorem res_main_while0b_v136_congr {V0 V0' : Valuation τ sig (Elt F)} (h : Agree V0 V0') : res_main_while0b_v136 V0 = res_main_while0b_v136 V0' := by
  unfold res_main_while0b_v136
  rw [res_main_while0b_v128_congr h]
set_option maxRecDepth 8192 in
theorem res_main_while0b_v151_congr {V0 V0' : Valuation τ sig (Elt F)} (h : Agree V0 V0') : res_main_while0b_v151 V0 = res_main_while0b_v151 V0' := by
  unfold res_main_while0b_v151
  rw [res_main_while0b_v134_congr h, res_main_while0b_v130_congr h, res_main_while0b_v136_congr h, res_main_while0b_v132_congr h, h main_v113_1 (by decide), h main_v113_2 (by decide), h main_v113_3 (by decide), h main_v113_4 (by decide)]

set_option maxRecDepth 8192 in
/-- `main_v113_6` after one trip, of the contents before it. -/
def step_main_v113_6 (V0 : Valuation τ sig (Elt F)) : (Proc.devRef .tc main_v113_6 : DevRef τ sig).ty.Contents (Elt F) :=
  id (addi (V0 (Proc.devRef .tc main_v113_6)) (constantI S_ 32 1#32))
set_option maxRecDepth 8192 in
theorem step_main_v113_6_congr {V0 V0' : Valuation τ sig (Elt F)} (h : Agree V0 V0') : step_main_v113_6 V0 = step_main_v113_6 V0' := by
  unfold step_main_v113_6
  rw [h main_v113_6 (by decide)]
set_option maxRecDepth 8192 in
/-- `main_v113_7` after one trip, of the contents before it. -/
def step_main_v113_7 (V0 : Valuation τ sig (Elt F)) : (Proc.devRef .tc main_v113_7 : DevRef τ sig).ty.Contents (Elt F) :=
  id (Host.scatter scatter_S20480_S1_S__n_0_0_0 (fun _ b => b) (select (cmpf .ogt (Host.divf (res_main_while0b_v151 V0) (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32)))) (broadcastInDim S20480 ![] bcast_S_S20480 (constant S_ .f32 0x3F000000#32))) (broadcastInDim S20480 ![] bcast_S_S20480 (id (constant S_ .f32 0xBF800000#32))) (V0 (Proc.devRef .tc main_v113_7))) (broadcastInDim S1 ![] bcast_S_S1 (select (cmpi .slt (res_main_while0b_v120 V0) (constantI S_ 32 0#32)) (addi (res_main_while0b_v120 V0) (constantI S_ 32 20480#32)) (res_main_while0b_v120 V0))) (constant S_ .f32 0xBF800000#32))
set_option maxRecDepth 8192 in
theorem step_main_v113_7_congr {V0 V0' : Valuation τ sig (Elt F)} (h : Agree V0 V0') : step_main_v113_7 V0 = step_main_v113_7 V0' := by
  unfold step_main_v113_7
  rw [res_main_while0b_v151_congr h, res_main_while0b_v134_congr h, res_main_while0b_v130_congr h, res_main_while0b_v136_congr h, res_main_while0b_v132_congr h, res_main_while0b_v120_congr h, h main_v113_5 (by decide), h main_v113_7 (by decide)]
set_option maxRecDepth 8192 in
/-- `main_v113_8` after one trip, of the contents before it. -/
def step_main_v113_8 (V0 : Valuation τ sig (Elt F)) : (Proc.devRef .tc main_v113_8 : DevRef τ sig).ty.Contents (Elt F) :=
  id (Host.dynamicUpdateSlice (V0 (Proc.devRef .tc main_v113_8)) (broadcastInDim S1x6 ![1] bcast_S6_S1x6_1 (res_main_while0b_v128 V0)) (fun k => (((![V0 (Proc.devRef .tc main_v113_6), constantI S_ 32 0#32] : Fin 2 → (⟨S_, .i32⟩ : BufTy).Contents (Elt F))) k (Shape.Idx.first h_S_)).toInt) updateFits_S10x6_S1x6)
set_option maxRecDepth 8192 in
theorem step_main_v113_8_congr {V0 V0' : Valuation τ sig (Elt F)} (h : Agree V0 V0') : step_main_v113_8 V0 = step_main_v113_8 V0' := by
  unfold step_main_v113_8
  rw [res_main_while0b_v128_congr h, h main_v113_8 (by decide), h main_v113_6 (by decide)]

/-- ONE TRIP on the carried buffers: the buffers the body writes step, everything else is as it was. -/
def STEP (V0 : Valuation τ sig (Elt F)) : Valuation τ sig (Elt F) :=
  Function.update (Function.update (Function.update (V0) (Proc.devRef .tc main_v113_6) (step_main_v113_6 V0)) (Proc.devRef .tc main_v113_7) (step_main_v113_7 V0)) (Proc.devRef .tc main_v113_8) (step_main_v113_8 V0)

theorem STEP_main_v113_0 (V0 : Valuation τ sig (Elt F)) : STEP V0 (Proc.devRef .tc main_v113_0) = V0 (Proc.devRef .tc main_v113_0) := by
  unfold STEP; rw [Function.update_of_ne (devRef_ne_of_ne (by decide))]; rw [Function.update_of_ne (devRef_ne_of_ne (by decide))]; rw [Function.update_of_ne (devRef_ne_of_ne (by decide))]
theorem STEP_main_v113_1 (V0 : Valuation τ sig (Elt F)) : STEP V0 (Proc.devRef .tc main_v113_1) = V0 (Proc.devRef .tc main_v113_1) := by
  unfold STEP; rw [Function.update_of_ne (devRef_ne_of_ne (by decide))]; rw [Function.update_of_ne (devRef_ne_of_ne (by decide))]; rw [Function.update_of_ne (devRef_ne_of_ne (by decide))]
theorem STEP_main_v113_2 (V0 : Valuation τ sig (Elt F)) : STEP V0 (Proc.devRef .tc main_v113_2) = V0 (Proc.devRef .tc main_v113_2) := by
  unfold STEP; rw [Function.update_of_ne (devRef_ne_of_ne (by decide))]; rw [Function.update_of_ne (devRef_ne_of_ne (by decide))]; rw [Function.update_of_ne (devRef_ne_of_ne (by decide))]
theorem STEP_main_v113_3 (V0 : Valuation τ sig (Elt F)) : STEP V0 (Proc.devRef .tc main_v113_3) = V0 (Proc.devRef .tc main_v113_3) := by
  unfold STEP; rw [Function.update_of_ne (devRef_ne_of_ne (by decide))]; rw [Function.update_of_ne (devRef_ne_of_ne (by decide))]; rw [Function.update_of_ne (devRef_ne_of_ne (by decide))]
theorem STEP_main_v113_4 (V0 : Valuation τ sig (Elt F)) : STEP V0 (Proc.devRef .tc main_v113_4) = V0 (Proc.devRef .tc main_v113_4) := by
  unfold STEP; rw [Function.update_of_ne (devRef_ne_of_ne (by decide))]; rw [Function.update_of_ne (devRef_ne_of_ne (by decide))]; rw [Function.update_of_ne (devRef_ne_of_ne (by decide))]
theorem STEP_main_v113_5 (V0 : Valuation τ sig (Elt F)) : STEP V0 (Proc.devRef .tc main_v113_5) = V0 (Proc.devRef .tc main_v113_5) := by
  unfold STEP; rw [Function.update_of_ne (devRef_ne_of_ne (by decide))]; rw [Function.update_of_ne (devRef_ne_of_ne (by decide))]; rw [Function.update_of_ne (devRef_ne_of_ne (by decide))]
theorem STEP_main_v113_6 (V0 : Valuation τ sig (Elt F)) : STEP V0 (Proc.devRef .tc main_v113_6) = step_main_v113_6 V0 := by
  unfold STEP; rw [Function.update_of_ne (devRef_ne_of_ne (by decide))]; rw [Function.update_of_ne (devRef_ne_of_ne (by decide))]; rw [Function.update_self]
theorem STEP_main_v113_7 (V0 : Valuation τ sig (Elt F)) : STEP V0 (Proc.devRef .tc main_v113_7) = step_main_v113_7 V0 := by
  unfold STEP; rw [Function.update_of_ne (devRef_ne_of_ne (by decide))]; rw [Function.update_self]
theorem STEP_main_v113_8 (V0 : Valuation τ sig (Elt F)) : STEP V0 (Proc.devRef .tc main_v113_8) = step_main_v113_8 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v113_0 (after condOps X)).trans ((hc main_v113_0 (by decide)).trans (STEP_main_v113_0 X).symm)
  · exact (trip_main_v113_1 (after condOps X)).trans ((hc main_v113_1 (by decide)).trans (STEP_main_v113_1 X).symm)
  · exact (trip_main_v113_2 (after condOps X)).trans ((hc main_v113_2 (by decide)).trans (STEP_main_v113_2 X).symm)
  · exact (trip_main_v113_3 (after condOps X)).trans ((hc main_v113_3 (by decide)).trans (STEP_main_v113_3 X).symm)
  · exact (trip_main_v113_4 (after condOps X)).trans ((hc main_v113_4 (by decide)).trans (STEP_main_v113_4 X).symm)
  · exact (trip_main_v113_5 (after condOps X)).trans ((hc main_v113_5 (by decide)).trans (STEP_main_v113_5 X).symm)
  · exact (trip_main_v113_6 (after condOps X)).trans ((step_main_v113_6_congr hc).trans (STEP_main_v113_6 X).symm)
  · exact (trip_main_v113_7 (after condOps X)).trans ((step_main_v113_7_congr hc).trans (STEP_main_v113_7 X).symm)
  · exact (trip_main_v113_8 (after condOps X)).trans ((step_main_v113_8_congr hc).trans (STEP_main_v113_8 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v113_0, STEP_main_v113_0]; exact h main_v113_0 (by decide)
  · rw [STEP_main_v113_1, STEP_main_v113_1]; exact h main_v113_1 (by decide)
  · rw [STEP_main_v113_2, STEP_main_v113_2]; exact h main_v113_2 (by decide)
  · rw [STEP_main_v113_3, STEP_main_v113_3]; exact h main_v113_3 (by decide)
  · rw [STEP_main_v113_4, STEP_main_v113_4]; exact h main_v113_4 (by decide)
  · rw [STEP_main_v113_5, STEP_main_v113_5]; exact h main_v113_5 (by decide)
  · rw [STEP_main_v113_6, STEP_main_v113_6]; exact step_main_v113_6_congr h
  · rw [STEP_main_v113_7, STEP_main_v113_7]; exact step_main_v113_7_congr h
  · rw [STEP_main_v113_8, STEP_main_v113_8]; exact step_main_v113_8_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0_4, keep_main_arg0_hostOps0_3, keep_main_arg0_hostOps0_2, keep_main_arg0_hostOps0_1, keep_main_arg0_hostOps0]
  | k + 1 => by
    rw [show atK m (k + 1) c = afterL bodyI (after condOps (atK m k c)) from rfl]
    simp only [afterL_cons, afterL_nil]
    rw [keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_5]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg0 c k
set_option maxRecDepth 8192 in
/-- `main_v119`, which the operations after the loop make, of the contents they start from. -/
def out_main_v119 (V0 : Valuation τ sig (Elt F)) : (Proc.devRef .tc main_v119 : DevRef τ sig).ty.Contents (Elt F) :=
  mulf (V0 (Proc.devRef .tc main_v113_8)) (broadcastInDim S10x6 ![0, 1] bcast_S10x1_S10x6_0_1 (uitofp .f32 (cmpf .oge (extractStridedSlice S10x1 ![0, 4] (V0 (Proc.devRef .tc main_v113_8)) slices_S10x6_S10x1_0_4) (broadcastInDim S10x1 ![] bcast_S_S10x1 (constant S_ .f32 0x3D4CCCCD#32)))))
set_option maxRecDepth 8192 in
set_option maxHeartbeats 2000000 in
theorem post_main_v119 (V0 : Valuation τ sig (Elt F)) : afterL postI V0 (no_index (Proc.devRef .tc main_v119)) = out_main_v119 V0 := by
  unfold out_main_v119
  simp only [postI, afterL_cons, afterL_nil, hostOps0_5]
  after_results_entrywise []
set_option maxRecDepth 8192 in
theorem out_main_v119_congr {V0 V0' : Valuation τ sig (Elt F)} (h : Agree V0 V0') : out_main_v119 V0 = out_main_v119 V0' := by
  unfold out_main_v119
  rw [h main_v113_8 (by decide)]
/-- THE RUN: on every device, for any float values, from any memory with zero counters, every weakly fair execution
    of @main terminates with each result at its component of `STEP` iterated 10 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v119) = out_main_v119 (STEP^[10] (entryContents preI m c))
      ∧ r.2.mem ((c.tc : Thread nD τ).loc main_arg0) = m ((c.tc : Thread nD τ).loc main_arg0) :=
  (θ_run defs _ _).mono (fun _ h c => ⟨(h c main_v119 rfl).trans ((post_main_v119 _).trans (out_main_v119_congr (fun j hj => (cond_keeps _ j hj).trans (atK_agree m c 10 j hj)))),
      (h c main_arg0 rfl).trans ((post_keeps_main_arg0 _).trans ((keep_main_arg0_condOps _).trans (atK_main_arg0 m c 10)))⟩) (run_fold m ρ)

end Cert.ReferenceIdeal.Value

end
-- ==== Proof.RefStep.lean ====
/- One trip of the reference's loop as plain functions: what @main computes before the loop, the values of one trip, the initial state and the step. -/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v113_7 : (⟨S20480, .f32⟩ : BufTy).Contents (Elt F)
  main_v113_8 : (⟨S10x6, .f32⟩ : BufTy).Contents (Elt F)
  main_v113_0 : (⟨S20480x6, .f32⟩ : BufTy).Contents (Elt F)
  main_v113_1 : (⟨S20480, .f32⟩ : BufTy).Contents (Elt F)
  main_v113_2 : (⟨S20480, .f32⟩ : BufTy).Contents (Elt F)
  main_v113_3 : (⟨S20480, .f32⟩ : BufTy).Contents (Elt F)
  main_v113_4 : (⟨S20480, .f32⟩ : BufTy).Contents (Elt F)
  main_v113_5 : (⟨S20480, .f32⟩ : BufTy).Contents (Elt F)

/-! What @main computes before the loop without reading an argument. -/

def K_main_v1 : (⟨S64x64x5, .i32⟩ : BufTy).Contents (Elt F) := iotaInDim S64x64x5 32 0
def K_main_v2 : (⟨S20480, .i32⟩ : BufTy).Contents (Elt F) := shapeCast _ ((K_main_v1 (F := F))) shapeCasts_S64x64x5_S20480
def K_main_v3 : (⟨S20480, .f32⟩ : BufTy).Contents (Elt F) := sitofp .f32 ((K_main_v2 (F := F)))
def K_main_v4 : (⟨S64x64x5, .i32⟩ : BufTy).Contents (Elt F) := iotaInDim S64x64x5 32 1
def K_main_v5 : (⟨S20480, .i32⟩ : BufTy).Contents (Elt F) := shapeCast _ ((K_main_v4 (F := F))) shapeCasts_S64x64x5_S20480
def K_main_v6 : (⟨S20480, .f32⟩ : BufTy).Contents (Elt F) := sitofp .f32 ((K_main_v5 (F := F)))
def K_main_cst : (⟨S_, .f32⟩ : BufTy).Contents (Elt F) := constant S_ .f32 0x3F8A3D71#32
def K_main_v7 : (⟨S64x64, .f32⟩ : BufTy).Contents (Elt F) := broadcastInDim S64x64 ![] bcast_S_S64x64 ((K_main_cst (F := F)))
def K_main_cst_0 : (⟨S_, .f32⟩ : BufTy).Contents (Elt F) := constant S_ .f32 0x405AE148#32
def K_main_v8 : (⟨S64x64, .f32⟩ : BufTy).Contents (Elt F) := broadcastInDim S64x64 ![] bcast_S_S64x64 ((K_main_cst_0 (F := F)))
def K_main_cst_1 : (⟨S_, .f32⟩ : BufTy).Contents (Elt F) := constant S_ .f32 0x40D428F6#32
def K_main_v9 : (⟨S64x64, .f32⟩ : BufTy).Contents (Elt F) := broadcastInDim S64x64 ![] bcast_S_S64x64 ((K_main_cst_1 (F := F)))
def K_main_cst_2 : (⟨S_, .f32⟩ : BufTy).Contents (Elt F) := constant S_ .f32 0x4116B852#32
def K_main_v10 : (⟨S64x64, .f32⟩ : BufTy).Contents (Elt F) := broadcastInDim S64x64 ![] bcast_S_S64x64 ((K_main_cst_2 (F := F)))
def K_main_cst_3 : (⟨S_, .f32⟩ : BufTy).Contents (Elt F) := constant S_ .f32 0x4184F5C3#32
def K_main_v11 : (⟨S64x64, .f32⟩ : BufTy).Contents (Elt F) := broadcastInDim S64x64 ![] bcast_S_S64x64 ((K_main_cst_3 (F := F)))
def K_main_v12 : (⟨S64x64x1, .f32⟩ : BufTy).Contents (Elt F) := broadcastInDim S64x64x1 ![0, 1] bcast_S64x64_S64x64x1_0_1 ((K_main_v7 (F := F)))
def K_main_v13 : (⟨S64x64x1, .f32⟩ : BufTy).Contents (Elt F) := broadcastInDim S64x64x1 ![0, 1] bcast_S64x64_S64x64x1_0_1 ((K_main_v8 (F := F)))
def K_main_v14 : (⟨S64x64x1, .f32⟩ : BufTy).Contents (Elt F) := broadcastInDim S64x64x1 ![0, 1] bcast_S64x64_S64x64x1_0_1 ((K_main_v9 (F := F)))
def K_main_v15 : (⟨S64x64x1, .f32⟩ : BufTy).Contents (Elt F) := broadcastInDim S64x64x1 ![0, 1] bcast_S64x64_S64x64x1_0_1 ((K_main_v10 (F := F)))
def K_main_v16 : (⟨S64x64x1, .f32⟩ : BufTy).Contents (Elt F) := broadcastInDim S64x64x1 ![0, 1] bcast_S64x64_S64x64x1_0_1 ((K_main_v11 (F := F)))
def K_main_v17 : (⟨S64x64x5, .f32⟩ : BufTy).Contents (Elt F) := (concatenate S64x64x5 2 [⟨S64x64x1, (((K_main_v12 (F := F))) : (⟨S64x64x1, .f32⟩ : BufTy).Contents (Elt F))⟩, ⟨S64x64x1, (((K_main_v13 (F := F))) : (⟨S64x64x1, .f32⟩ : BufTy).Contents (Elt F))⟩, ⟨S64x64x1, (((K_main_v14 (F := F))) : (⟨S64x64x1, .f32⟩ : BufTy).Contents (Elt F))⟩, ⟨S64x64x1, (((K_main_v15 (F := F))) : (⟨S64x64x1, .f32⟩ : BufTy).Contents (Elt F))⟩, ⟨S64x64x1, (((K_main_v16 (F := F))) : (⟨S64x64x1, .f32⟩ : BufTy).Contents (Elt F))⟩] concatenates_S64x64x1_S64x64x1_S64x64x1_S64x64x1_S64x64x1_S64x64x5_d2 : (⟨S64x64x5, .f32⟩ : BufTy).Contents (Elt F))
def K_main_v18 : (⟨S20480, .f32⟩ : BufTy).Contents (Elt F) := shapeCast _ ((K_main_v17 (F := F))) shapeCasts_S64x64x5_S20480
def K_main_cst_4 : (⟨S_, .f32⟩ : BufTy).Contents (Elt F) := constant S_ .f32 0x3F9851EC#32
def K_main_v19 : (⟨S64x64, .f32⟩ : BufTy).Contents (Elt F) := broadcastInDim S64x64 ![] bcast_S_S64x64 ((K_main_cst_4 (F := F)))
def K_main_cst_5 : (⟨S_, .f32⟩ : BufTy).Contents (Elt F) := constant S_ .f32 0x408D1EB8#32
def K_main_v20 : (⟨S64x64, .f32⟩ : BufTy).Contents (Elt F) := broadcastInDim S64x64 ![] bcast_S_S64x64 ((K_main_cst_5 (F := F)))
def K_main_cst_6 : (⟨S_, .f32⟩ : BufTy).Contents (Elt F) := constant S_ .f32 0x4136147B#32
def K_main_v21 : (⟨S64x64, .f32⟩ : BufTy).Contents (Elt F) := broadcastInDim S64x64 ![] bcast_S_S64x64 ((K_main_cst_6 (F := F)))
def K_main_cst_7 : (⟨S_, .f32⟩ : BufTy).Contents (Elt F) := constant S_ .f32 0x40A3851F#32
def K_main_v22 : (⟨S64x64, .f32⟩ : BufTy).Contents (Elt F) := broadcastInDim S64x64 ![] bcast_S_S64x64 ((K_main_cst_7 (F := F)))
def K_main_cst_8 : (⟨S_, .f32⟩ : BufTy).Contents (Elt F) := constant S_ .f32 0x412851EC#32
def K_main_v23 : (⟨S64x64, .f32⟩ : BufTy).Contents (Elt F) := broadcastInDim S64x64 ![] bcast_S_S64x64 ((K_main_cst_8 (F := F)))
def K_main_v24 : (⟨S64x64x1, .f32⟩ : BufTy).Contents (Elt F) := broadcastInDim S64x64x1 ![0, 1] bcast_S64x64_S64x64x1_0_1 ((K_main_v19 (F := F)))
def K_main_v25 : (⟨S64x64x1, .f32⟩ : BufTy).Contents (Elt F) := broadcastInDim S64x64x1 ![0, 1] bcast_S64x64_S64x64x1_0_1 ((K_main_v20 (F := F)))
def K_main_v26 : (⟨S64x64x1, .f32⟩ : BufTy).Contents (Elt F) := broadcastInDim S64x64x1 ![0, 1] bcast_S64x64_S64x64x1_0_1 ((K_main_v21 (F := F)))
def K_main_v27 : (⟨S64x64x1, .f32⟩ : BufTy).Contents (Elt F) := broadcastInDim S64x64x1 ![0, 1] bcast_S64x64_S64x64x1_0_1 ((K_main_v22 (F := F)))
def K_main_v28 : (⟨S64x64x1, .f32⟩ : BufTy).Contents (Elt F) := broadcastInDim S64x64x1 ![0, 1] bcast_S64x64_S64x64x1_0_1 ((K_main_v23 (F := F)))
def K_main_v29 : (⟨S64x64x5, .f32⟩ : BufTy).Contents (Elt F) := (concatenate S64x64x5 2 [⟨S64x64x1, (((K_main_v24 (F := F))) : (⟨S64x64x1, .f32⟩ : BufTy).Contents (Elt F))⟩, ⟨S64x64x1, (((K_main_v25 (F := F))) : (⟨S64x64x1, .f32⟩ : BufTy).Contents (Elt F))⟩, ⟨S64x64x1, (((K_main_v26 (F := F))) : (⟨S64x64x1, .f32⟩ : BufTy).Contents (Elt F))⟩, ⟨S64x64x1, (((K_main_v27 (F := F))) : (⟨S64x64x1, .f32⟩ : BufTy).Contents (Elt F))⟩, ⟨S64x64x1, (((K_main_v28 (F := F))) : (⟨S64x64x1, .f32⟩ : BufTy).Contents (Elt F))⟩] concatenates_S64x64x1_S64x64x1_S64x64x1_S64x64x1_S64x64x1_S64x64x5_d2 : (⟨S64x64x5, .f32⟩ : BufTy).Contents (Elt F))
def K_main_v30 : (⟨S20480, .f32⟩ : BufTy).Contents (Elt F) := shapeCast _ ((K_main_v29 (F := F))) shapeCasts_S64x64x5_S20480
def K_main_cst_9 : (⟨S_, .f32⟩ : BufTy).Contents (Elt F) := constant S_ .f32 0x3F800000#32
def K_main_v35 : (⟨S20480, .f32⟩ : BufTy).Contents (Elt F) := broadcastInDim S20480 ![] bcast_S_S20480 ((K_main_cst_9 (F := F)))
def K_main_cst_10 : (⟨S_, .f32⟩ : BufTy).Contents (Elt F) := constant S_ .f32 0x3F800000#32
def K_main_v37 : (⟨S20480, .f32⟩ : BufTy).Contents (Elt F) := broadcastInDim S20480 ![] bcast_S_S20480 ((K_main_cst_10 (F := F)))
def K_main_cst_11 : (⟨S_, .f32⟩ : BufTy).Contents (Elt F) := constant S_ .f32 0x42800000#32
def K_main_v40 : (⟨S20480, .f32⟩ : BufTy).Contents (Elt F) := broadcastInDim S20480 ![] bcast_S_S20480 ((K_main_cst_11 (F := F)))
def K_main_cst_12 : (⟨S_, .f32⟩ : BufTy).Contents (Elt F) := constant S_ .f32 0x3F800000#32
def K_main_v46 : (⟨S20480, .f32⟩ : BufTy).Contents (Elt F) := broadcastInDim S20480 ![] bcast_S_S20480 ((K_main_cst_12 (F := F)))
def K_main_cst_13 : (⟨S_, .f32⟩ : BufTy).Contents (Elt F) := constant S_ .f32 0x3F800000#32
def K_main_v48 : (⟨S20480, .f32⟩ : BufTy).Contents (Elt F) := broadcastInDim S20480 ![] bcast_S_S20480 ((K_main_cst_13 (F := F)))
def K_main_cst_14 : (⟨S_, .f32⟩ : BufTy).Contents (Elt F) := constant S_ .f32 0x42800000#32
def K_main_v51 : (⟨S20480, .f32⟩ : BufTy).Contents (Elt F) := broadcastInDim S20480 ![] bcast_S_S20480 ((K_main_cst_14 (F := F)))
def K_main_cst_15 : (⟨S_, .f32⟩ : BufTy).Contents (Elt F) := constant S_ .f32 0x42800000#32
def K_main_v57 : (⟨S20480, .f32⟩ : BufTy).Contents (Elt F) := broadcastInDim S20480 ![] bcast_S_S20480 ((K_main_cst_15 (F := F)))
def K_main_cst_16 : (⟨S_, .f32⟩ : BufTy).Contents (Elt F) := constant S_ .f32 0x42800000#32
def K_main_v63 : (⟨S20480, .f32⟩ : BufTy).Contents (Elt F) := broadcastInDim S20480 ![] bcast_S_S20480 ((K_main_cst_16 (F := F)))
def K_main_cst_17 : (⟨S_, .f32⟩ : BufTy).Contents (Elt F) := constant S_ .f32 0x3F800000#32
def K_main_v68 : (⟨S20480x1, .f32⟩ : BufTy).Contents (Elt F) := broadcastInDim S20480x1 ![] bcast_S_S20480x1 ((K_main_cst_17 (F := F)))
def K_main_cst_18 : (⟨S_, .f32⟩ : BufTy).Contents (Elt F) := constant S_ .f32 0x3F800000#32
def K_main_v70 : (⟨S20480x1, .f32⟩ : BufTy).Contents (Elt F) := broadcastInDim S20480x1 ![] bcast_S_S20480x1 ((K_main_cst_18 (F := F)))
def K_main_cst_19 : (⟨S_, .f32⟩ : BufTy).Contents (Elt F) := constant S_ .f32 0xFF800000#32
def K_main_cst_20 : (⟨S_, .f32⟩ : BufTy).Contents (Elt F) := constant S_ .f32 0x00000000#32
def K_main_cst_21 : (⟨S_, .f32⟩ : BufTy).Contents (Elt F) := constant S_ .f32 0x40000000#32
def K_main_v84 : (⟨S20480, .f32⟩ : BufTy).Contents (Elt F) := broadcastInDim S20480 ![] bcast_S_S20480 ((K_main_cst_21 (F := F)))
def K_main_cst_22 : (⟨S_, .f32⟩ : BufTy).Contents (Elt F) := constant S_ .f32 0x40000000#32
def K_main_v87 : (⟨S20480, .f32⟩ : BufTy).Contents (Elt F) := broadcastInDim S20480 ![] bcast_S_S20480 ((K_main_cst_22 (F := F)))
def K_main_cst_23 : (⟨S_, .f32⟩ : BufTy).Contents (Elt F) := constant S_ .f32 0x40000000#32
def K_main_v90 : (⟨S20480, .f32⟩ : BufTy).Contents (Elt F) := broadcastInDim S20480 ![] bcast_S_S20480 ((K_main_cst_23 (F := F)))
def K_main_cst_24 : (⟨S_, .f32⟩ : BufTy).Contents (Elt F) := constant S_ .f32 0x40000000#32
def K_main_v93 : (⟨S20480, .f32⟩ : BufTy).Contents (Elt F) := broadcastInDim S20480 ![] bcast_S_S20480 ((K_main_cst_24 (F := F)))
def K_main_cst_25 : (⟨S_, .f32⟩ : BufTy).Contents (Elt F) := constant S_ .f32 0xFF800000#32
def K_main_call0_v0 : (⟨S20480x80, .i32⟩ : BufTy).Contents (Elt F) := iotaInDim S20480x80 32 1
def K_main_call0_cst : (⟨S_, .f32⟩ : BufTy).Contents (Elt F) := constant S_ .f32 0xFF800000#32
def K_main_call0_c : (⟨S_, .i32⟩ : BufTy).Contents (Elt F) := constantI S_ 32 0#32
def K_main_cst_26 : (⟨S_, .f32⟩ : BufTy).Contents (Elt F) := constant S_ .f32 0x3D4CCCCD#32
def K_main_v98 : (⟨S20480, .f32⟩ : BufTy).Contents (Elt F) := broadcastInDim S20480 ![] bcast_S_S20480 ((K_main_cst_26 (F := F)))
def K_main_cst_27 : (⟨S_, .f32⟩ : BufTy).Contents (Elt F) := constant S_ .f32 0xBF800000#32
def K_main_call1_v0 : (⟨S_, .f32⟩ : BufTy).Contents (Elt F) := id ((K_main_cst_27 (F := F)))
def K_main_call1_v1 : (⟨S20480, .f32⟩ : BufTy).Contents (Elt F) := broadcastInDim S20480 ![] bcast_S_S20480 ((K_main_call1_v0 (F := F)))
def K_main_cst_28 : (⟨S_, .f32⟩ : BufTy).Contents (Elt F) := constant S_ .f32 0x00000000#32
def K_main_v112 : (⟨S10x6, .f32⟩ : BufTy).Contents (Elt F) := broadcastInDim S10x6 ![] bcast_S_S10x6 ((K_main_cst_28 (F := F)))
def K_main_c : (⟨S_, .i32⟩ : BufTy).Contents (Elt F) := constantI S_ 32 0#32

/-! What @main computes before the loop from its arguments, as functions of them. -/

def A_main_v0 (main_arg0 : (⟨S1x64x64x425, .f32⟩ : BufTy).Contents (Elt F)) : (⟨S20480x85, .f32⟩ : BufTy).Contents (Elt F) := shapeCast _ (main_arg0) shapeCasts_S1x64x64x425_S20480x85
def A_main_v31 (main_arg0 : (⟨S1x64x64x425, .f32⟩ : BufTy).Contents (Elt F)) : (⟨S20480x1, .f32⟩ : BufTy).Contents (Elt F) := extractStridedSlice S20480x1 ![0, 0] ((A_main_v0 main_arg0)) slices_S20480x85_S20480x1_0_0
def A_main_v32 (main_arg0 : (⟨S1x64x64x425, .f32⟩ : BufTy).Contents (Elt F)) : (⟨S20480, .f32⟩ : BufTy).Contents (Elt F) := shapeCast _ ((A_main_v31 main_arg0)) shapeCasts_S20480x1_S20480
def A_main_v33 (main_arg0 : (⟨S1x64x64x425, .f32⟩ : BufTy).Contents (Elt F)) : (⟨S20480, .f32⟩ : BufTy).Contents (Elt F) := Host.negf ((A_main_v32 main_arg0))
def A_main_v34 (main_arg0 : (⟨S1x64x64x425, .f32⟩ : BufTy).Contents (Elt F)) : (⟨S20480, .f32⟩ : BufTy).Contents (Elt F) := Host.exp ((A_main_v33 main_arg0))
def A_main_v36 (main_arg0 : (⟨S1x64x64x425, .f32⟩ : BufTy).Contents (Elt F)) : (⟨S20480, .f32⟩ : BufTy).Contents (Elt F) := addf ((K_main_v35 (F := F))) ((A_main_v34 main_arg0))
def A_main_v38 (main_arg0 : (⟨S1x64x64x425, .f32⟩ : BufTy).Contents (Elt F)) : (⟨S20480, .f32⟩ : BufTy).Contents (Elt F) := Host.divf ((K_main_v37 (F := F))) ((A_main_v36 main_arg0))
def A_main_v39 (main_arg0 : (⟨S1x64x64x425, .f32⟩ : BufTy).Contents (Elt F)) : (⟨S20480, .f32⟩ : BufTy).Contents (Elt F) := addf ((A_main_v38 main_arg0)) ((K_main_v6 (F := F)))
def A_main_v41 (main_arg0 : (⟨S1x64x64x425, .f32⟩ : BufTy).Contents (Elt F)) : (⟨S20480, .f32⟩ : BufTy).Contents (Elt F) := Host.divf ((A_main_v39 main_arg0)) ((K_main_v40 (F := F)))
def A_main_v42 (main_arg0 : (⟨S1x64x64x425, .f32⟩ : BufTy).Contents (Elt F)) : (⟨S20480x1, .f32⟩ : BufTy).Contents (Elt F) := extractStridedSlice S20480x1 ![0, 1] ((A_main_v0 main_arg0)) slices_S20480x85_S20480x1_0_1
def A_main_v43 (main_arg0 : (⟨S1x64x64x425, .f32⟩ : BufTy).Contents (Elt F)) : (⟨S20480, .f32⟩ : BufTy).Contents (Elt F) := shapeCast _ ((A_main_v42 main_arg0)) shapeCasts_S20480x1_S20480
def A_main_v44 (main_arg0 : (⟨S1x64x64x425, .f32⟩ : BufTy).Contents (Elt F)) : (⟨S20480, .f32⟩ : BufTy).Contents (Elt F) := Host.negf ((A_main_v43 main_arg0))
def A_main_v45 (main_arg0 : (⟨S1x64x64x425, .f32⟩ : BufTy).Contents (Elt F)) : (⟨S20480, .f32⟩ : BufTy).Contents (Elt F) := Host.exp ((A_main_v44 main_arg0))
def A_main_v47 (main_arg0 : (⟨S1x64x64x425, .f32⟩ : BufTy).Contents (Elt F)) : (⟨S20480, .f32⟩ : BufTy).Contents (Elt F) := addf ((K_main_v46 (F := F))) ((A_main_v45 main_arg0))
def A_main_v49 (main_arg0 : (⟨S1x64x64x425, .f32⟩ : BufTy).Contents (Elt F)) : (⟨S20480, .f32⟩ : BufTy).Contents (Elt F) := Host.divf ((K_main_v48 (F := F))) ((A_main_v47 main_arg0))
def A_main_v50 (main_arg0 : (⟨S1x64x64x425, .f32⟩ : BufTy).Contents (Elt F)) : (⟨S20480, .f32⟩ : BufTy).Contents (Elt F) := addf ((A_main_v49 main_arg0)) ((K_main_v3 (F := F)))
def A_main_v52 (main_arg0 : (⟨S1x64x64x425, .f32⟩ : BufTy).Contents (Elt F)) : (⟨S20480, .f32⟩ : BufTy).Contents (Elt F) := Host.divf ((A_main_v50 main_arg0)) ((K_main_v51 (F := F)))
def A_main_v53 (main_arg0 : (⟨S1x64x64x425, .f32⟩ : BufTy).Contents (Elt F)) : (⟨S20480x1, .f32⟩ : BufTy).Contents (Elt F) := extractStridedSlice S20480x1 ![0, 2] ((A_main_v0 main_arg0)) slices_S20480x85_S20480x1_0_2
def A_main_v54 (main_arg0 : (⟨S1x64x64x425, .f32⟩ : BufTy).Contents (Elt F)) : (⟨S20480, .f32⟩ : BufTy).Contents (Elt F) := shapeCast _ ((A_main_v53 main_arg0)) shapeCasts_S20480x1_S20480
def A_main_v55 (main_arg0 : (⟨S1x64x64x425, .f32⟩ : BufTy).Contents (Elt F)) : (⟨S20480, .f32⟩ : BufTy).Contents (Elt F) := Host.exp ((A_main_v54 main_arg0))
def A_main_v56 (main_arg0 : (⟨S1x64x64x425, .f32⟩ : BufTy).Contents (Elt F)) : (⟨S20480, .f32⟩ : BufTy).Contents (Elt F) := mulf ((A_main_v55 main_arg0)) ((K_main_v18 (F := F)))
def A_main_v58 (main_arg0 : (⟨S1x64x64x425, .f32⟩ : BufTy).Contents (Elt F)) : (⟨S20480, .f32⟩ : BufTy).Contents (Elt F) := Host.divf ((A_main_v56 main_arg0)) ((K_main_v57 (F := F)))
def A_main_v59 (main_arg0 : (⟨S1x64x64x425, .f32⟩ : BufTy).Contents (Elt F)) : (⟨S20480x1, .f32⟩ : BufTy).Contents (Elt F) := extractStridedSlice S20480x1 ![0, 3] ((A_main_v0 main_arg0)) slices_S20480x85_S20480x1_0_3
def A_main_v60 (main_arg0 : (⟨S1x64x64x425, .f32⟩ : BufTy).Contents (Elt F)) : (⟨S20480, .f32⟩ : BufTy).Contents (Elt F) := shapeCast _ ((A_main_v59 main_arg0)) shapeCasts_S20480x1_S20480
def A_main_v61 (main_arg0 : (⟨S1x64x64x425, .f32⟩ : BufTy).Contents (Elt F)) : (⟨S20480, .f32⟩ : BufTy).Contents (Elt F) := Host.exp ((A_main_v60 main_arg0))
def A_main_v62 (main_arg0 : (⟨S1x64x64x425, .f32⟩ : BufTy).Contents (Elt F)) : (⟨S20480, .f32⟩ : BufTy).Contents (Elt F) := mulf ((A_main_v61 main_arg0)) ((K_main_v30 (F := F)))
def A_main_v64 (main_arg0 : (⟨S1x64x64x425, .f32⟩ : BufTy).Contents (Elt F)) : (⟨S20480, .f32⟩ : BufTy).Contents (Elt F) := Host.divf ((A_main_v62 main_arg0)) ((K_main_v63 (F := F)))
def A_main_v65 (main_arg0 : (⟨S1x64x64x425, .f32⟩ : BufTy).Contents (Elt F)) : (⟨S20480x1, .f32⟩ : BufTy).Contents (Elt F) := extractStridedSlice S20480x1 ![0, 4] ((A_main_v0 main_arg0)) slices_S20480x85_S20480x1_0_4
def A_main_v66 (main_arg0 : (⟨S1x64x64x425, .f32⟩ : BufTy).Contents (Elt F)) : (⟨S20480x1, .f32⟩ : BufTy).Contents (Elt F) := Host.negf ((A_main_v65 main_arg0))
def A_main_v67 (main_arg0 : (⟨S1x64x64x425, .f32⟩ : BufTy).Contents (Elt F)) : (⟨S20480x1, .f32⟩ : BufTy).Contents (Elt F) := Host.exp ((A_main_v66 main_arg0))
def A_main_v69 (main_arg0 : (⟨S1x64x64x425, .f32⟩ : BufTy).Contents (Elt F)) : (⟨S20480x1, .f32⟩ : BufTy).Contents (Elt F) := addf ((K_main_v68 (F := F))) ((A_main_v67 main_arg0))
def A_main_v71 (main_arg0 : (⟨S1x64x64x425, .f32⟩ : BufTy).Contents (Elt F)) : (⟨S20480x1, .f32⟩ : BufTy).Contents (Elt F) := Host.divf ((K_main_v70 (F := F))) ((A_main_v69 main_arg0))
def A_main_v72 (main_arg0 : (⟨S1x64x64x425, .f32⟩ : BufTy).Contents (Elt F)) : (⟨S20480x80, .f32⟩ : BufTy).Contents (Elt F) := extractStridedSlice S20480x80 ![0, 5] ((A_main_v0 main_arg0)) slices_S20480x85_S20480x80_0_5
def A_main_v73 (main_arg0 : (⟨S1x64x64x425, .f32⟩ : BufTy).Contents (Elt F)) : (⟨S20480, .f32⟩ : BufTy).Contents (Elt F) := Host.reduce FloatOps.maximumf ((A_main_v72 main_arg0)) ((K_main_cst_19 (F := F))) reducesTo_S20480x80_S20480_d1 h_S_
def A_main_v74 (main_arg0 : (⟨S1x64x64x425, .f32⟩ : BufTy).Contents (Elt F)) : (⟨S20480x1, .f32⟩ : BufTy).Contents (Elt F) := broadcastInDim S20480x1 ![0] bcast_S20480_S20480x1_0 ((A_main_v73 main_arg0))
def A_main_v75 (main_arg0 : (⟨S1x64x64x425, .f32⟩ : BufTy).Contents (Elt F)) : (⟨S20480x80, .f32⟩ : BufTy).Contents (Elt F) := broadcastInDim S20480x80 ![0, 1] bcast_S20480x1_S20480x80_0_1 ((A_main_v74 main_arg0))
def A_main_v76 (main_arg0 : (⟨S1x64x64x425, .f32⟩ : BufTy).Contents (Elt F)) : (⟨S20480x80, .f32⟩ : BufTy).Contents (Elt F) := subf ((A_main_v72 main_arg0)) ((A_main_v75 main_arg0))
def A_main_v77 (main_arg0 : (⟨S1x64x64x425, .f32⟩ : BufTy).Contents (Elt F)) : (⟨S20480x80, .f32⟩ : BufTy).Contents (Elt F) := Host.exp ((A_main_v76 main_arg0))
def A_main_v78 (main_arg0 : (⟨S1x64x64x425, .f32⟩ : BufTy).Contents (Elt F)) : (⟨S20480, .f32⟩ : BufTy).Contents (Elt F) := Host.reduceAdd ((A_main_v77 main_arg0)) ((K_main_cst_20 (F := F))) reducesTo_S20480x80_S20480_d1 h_S_
def A_main_v79 (main_arg0 : (⟨S1x64x64x425, .f32⟩ : BufTy).Contents (Elt F)) : (⟨S20480x1, .f32⟩ : BufTy).Contents (Elt F) := broadcastInDim S20480x1 ![0] bcast_S20480_S20480x1_0 ((A_main_v78 main_arg0))
def A_main_v80 (main_arg0 : (⟨S1x64x64x425, .f32⟩ : BufTy).Contents (Elt F)) : (⟨S20480x80, .f32⟩ : BufTy).Contents (Elt F) := broadcastInDim S20480x80 ![0, 1] bcast_S20480x1_S20480x80_0_1 ((A_main_v79 main_arg0))
def A_main_v81 (main_arg0 : (⟨S1x64x64x425, .f32⟩ : BufTy).Contents (Elt F)) : (⟨S20480x80, .f32⟩ : BufTy).Contents (Elt F) := Host.divf ((A_main_v77 main_arg0)) ((A_main_v80 main_arg0))
def A_main_v82 (main_arg0 : (⟨S1x64x64x425, .f32⟩ : BufTy).Contents (Elt F)) : (⟨S20480x80, .f32⟩ : BufTy).Contents (Elt F) := broadcastInDim S20480x80 ![0, 1] bcast_S20480x1_S20480x80_0_1 ((A_main_v71 main_arg0))
def A_main_v83 (main_arg0 : (⟨S1x64x64x425, .f32⟩ : BufTy).Contents (Elt F)) : (⟨S20480x80, .f32⟩ : BufTy).Contents (Elt F) := mulf ((A_main_v82 main_arg0)) ((A_main_v81 main_arg0))
def A_main_v85 (main_arg0 : (⟨S1x64x64x425, .f32⟩ : BufTy).Contents (Elt F)) : (⟨S20480, .f32⟩ : BufTy).Contents (Elt F) := Host.divf ((A_main_v64 main_arg0)) ((K_main_v84 (F := F)))
def A_main_v86 (main_arg0 : (⟨S1x64x64x425, .f32⟩ : BufTy).Contents (Elt F)) : (⟨S20480, .f32⟩ : BufTy).Contents (Elt F) := subf ((A_main_v52 main_arg0)) ((A_main_v85 main_arg0))
def A_main_v88 (main_arg0 : (⟨S1x64x64x425, .f32⟩ : BufTy).Contents (Elt F)) : (⟨S20480, .f32⟩ : BufTy).Contents (Elt F) := Host.divf ((A_main_v58 main_arg0)) ((K_main_v87 (F := F)))
def A_main_v89 (main_arg0 : (⟨S1x64x64x425, .f32⟩ : BufTy).Contents (Elt F)) : (⟨S20480, .f32⟩ : BufTy).Contents (Elt F) := subf ((A_main_v41 main_arg0)) ((A_main_v88 main_arg0))
def A_main_v91 (main_arg0 : (⟨S1x64x64x425, .f32⟩ : BufTy).Contents (Elt F)) : (⟨S20480, .f32⟩ : BufTy).Contents (Elt F) := Host.divf ((A_main_v64 main_arg0)) ((K_main_v90 (F := F)))
def A_main_v92 (main_arg0 : (⟨S1x64x64x425, .f32⟩ : BufTy).Contents (Elt F)) : (⟨S20480, .f32⟩ : BufTy).Contents (Elt F) := addf ((A_main_v52 main_arg0)) ((A_main_v91 main_arg0))
def A_main_v94 (main_arg0 : (⟨S1x64x64x425, .f32⟩ : BufTy).Contents (Elt F)) : (⟨S20480, .f32⟩ : BufTy).Contents (Elt F) := Host.divf ((A_main_v58 main_arg0)) ((K_main_v93 (F := F)))
def A_main_v95 (main_arg0 : (⟨S1x64x64x425, .f32⟩ : BufTy).Contents (Elt F)) : (⟨S20480, .f32⟩ : BufTy).Contents (Elt F) := addf ((A_main_v41 main_arg0)) ((A_main_v94 main_arg0))
def A_main_v96 (main_arg0 : (⟨S1x64x64x425, .f32⟩ : BufTy).Contents (Elt F)) : (⟨S20480, .f32⟩ : BufTy).Contents (Elt F) := Host.reduce FloatOps.maximumf ((A_main_v83 main_arg0)) ((K_main_cst_25 (F := F))) reducesTo_S20480x80_S20480_d1 h_S_
def A_main_v97 (main_arg0 : (⟨S1x64x64x425, .f32⟩ : BufTy).Contents (Elt F)) : (⟨S20480, .i32⟩ : BufTy).Contents (Elt F) := ((fun x y u v j => (Host.argReduce reducer_argmax_f32_i32 x y u v reducesTo_S20480x80_S20480_d1 h_S_ j).2)) ((A_main_v83 main_arg0)) ((K_main_call0_v0 (F := F))) ((K_main_call0_cst (F := F))) ((K_main_call0_c (F := F)))
def A_main_v99 (main_arg0 : (⟨S1x64x64x425, .f32⟩ : BufTy).Contents (Elt F)) : (⟨S20480, .i1⟩ : BufTy).Contents (Elt F) := cmpf .oge ((A_main_v96 main_arg0)) ((K_main_v98 (F := F)))
def A_main_v100 (main_arg0 : (⟨S1x64x64x425, .f32⟩ : BufTy).Contents (Elt F)) : (⟨S20480, .f32⟩ : BufTy).Contents (Elt F) := select ((A_main_v99 main_arg0)) ((A_main_v96 main_arg0)) ((K_main_call1_v1 (F := F)))
def A_main_v101 (main_arg0 : (⟨S1x64x64x425, .f32⟩ : BufTy).Contents (Elt F)) : (⟨S20480, .f32⟩ : BufTy).Contents (Elt F) := sitofp .f32 ((A_main_v97 main_arg0))
def A_main_v102 (main_arg0 : (⟨S1x64x64x425, .f32⟩ : BufTy).Contents (Elt F)) : (⟨S20480x1, .f32⟩ : BufTy).Contents (Elt F) := broadcastInDim S20480x1 ![0] bcast_S20480_S20480x1_0 ((A_main_v86 main_arg0))
def A_main_v103 (main_arg0 : (⟨S1x64x64x425, .f32⟩ : BufTy).Contents (Elt F)) : (⟨S20480x1, .f32⟩ : BufTy).Contents (Elt F) := broadcastInDim S20480x1 ![0] bcast_S20480_S20480x1_0 ((A_main_v89 main_arg0))
def A_main_v104 (main_arg0 : (⟨S1x64x64x425, .f32⟩ : BufTy).Contents (Elt F)) : (⟨S20480x1, .f32⟩ : BufTy).Contents (Elt F) := broadcastInDim S20480x1 ![0] bcast_S20480_S20480x1_0 ((A_main_v92 main_arg0))
def A_main_v105 (main_arg0 : (⟨S1x64x64x425, .f32⟩ : BufTy).Contents (Elt F)) : (⟨S20480x1, .f32⟩ : BufTy).Contents (Elt F) := broadcastInDim S20480x1 ![0] bcast_S20480_S20480x1_0 ((A_main_v95 main_arg0))
def A_main_v106 (main_arg0 : (⟨S1x64x64x425, .f32⟩ : BufTy).Contents (Elt F)) : (⟨S20480x1, .f32⟩ : BufTy).Contents (Elt F) := broadcastInDim S20480x1 ![0] bcast_S20480_S20480x1_0 ((A_main_v100 main_arg0))
def A_main_v107 (main_arg0 : (⟨S1x64x64x425, .f32⟩ : BufTy).Contents (Elt F)) : (⟨S20480x1, .f32⟩ : BufTy).Contents (Elt F) := broadcastInDim S20480x1 ![0] bcast_S20480_S20480x1_0 ((A_main_v101 main_arg0))
def A_main_v108 (main_arg0 : (⟨S1x64x64x425, .f32⟩ : BufTy).Contents (Elt F)) : (⟨S20480x6, .f32⟩ : BufTy).Contents (Elt F) := (concatenate S20480x6 1 [⟨S20480x1, (((A_main_v102 main_arg0)) : (⟨S20480x1, .f32⟩ : BufTy).Contents (Elt F))⟩, ⟨S20480x1, (((A_main_v103 main_arg0)) : (⟨S20480x1, .f32⟩ : BufTy).Contents (Elt F))⟩, ⟨S20480x1, (((A_main_v104 main_arg0)) : (⟨S20480x1, .f32⟩ : BufTy).Contents (Elt F))⟩, ⟨S20480x1, (((A_main_v105 main_arg0)) : (⟨S20480x1, .f32⟩ : BufTy).Contents (Elt F))⟩, ⟨S20480x1, (((A_main_v106 main_arg0)) : (⟨S20480x1, .f32⟩ : BufTy).Contents (Elt F))⟩, ⟨S20480x1, (((A_main_v107 main_arg0)) : (⟨S20480x1, .f32⟩ : BufTy).Contents (Elt F))⟩] concatenates_S20480x1_S20480x1_S20480x1_S20480x1_S20480x1_S20480x1_S20480x6_d1 : (⟨S20480x6, .f32⟩ : BufTy).Contents (Elt F))
def A_main_v109 (main_arg0 : (⟨S1x64x64x425, .f32⟩ : BufTy).Contents (Elt F)) : (⟨S20480, .f32⟩ : BufTy).Contents (Elt F) := subf ((A_main_v92 main_arg0)) ((A_main_v86 main_arg0))
def A_main_v110 (main_arg0 : (⟨S1x64x64x425, .f32⟩ : BufTy).Contents (Elt F)) : (⟨S20480, .f32⟩ : BufTy).Contents (Elt F) := subf ((A_main_v95 main_arg0)) ((A_main_v89 main_arg0))
def A_main_v111 (main_arg0 : (⟨S1x64x64x425, .f32⟩ : BufTy).Contents (Elt F)) : (⟨S20480, .f32⟩ : BufTy).Contents (Elt F) := mulf ((A_main_v109 main_arg0)) ((A_main_v110 main_arg0))

/-! One trip's values, in the body's order. -/

def b0 (j : ℕ) (s : State F) : (⟨S20480, .i32⟩ : BufTy).Contents (Elt F) :=
  iotaInDim S20480 32 0
def b1 (j : ℕ) (s : State F) : (⟨S_, .f32⟩ : BufTy).Contents (Elt F) :=
  constant S_ .f32 0xFF800000#32
def b2 (j : ℕ) (s : State F) : (⟨S_, .i32⟩ : BufTy).Contents (Elt F) :=
  constantI S_ 32 0#32
def b3 (j : ℕ) (s : State F) : (⟨S_, .f32⟩ : BufTy).Contents (Elt F) :=
  ((fun x y u v j => (Host.argReduce reducer_argmax_f32_i32 x y u v reducesTo_S20480_S_d0 h_S_ j).1)) (s.main_v113_7) ((b0 j s)) ((b1 j s)) ((b2 j s))
def b4 (j : ℕ) (s : State F) : (⟨S_, .i32⟩ : BufTy).Contents (Elt F) :=
  ((fun x y u v j => (Host.argReduce reducer_argmax_f32_i32 x y u v reducesTo_S20480_S_d0 h_S_ j).2)) (s.main_v113_7) ((b0 j s)) ((b1 j s)) ((b2 j s))
def b5 (j : ℕ) (s : State F) : (⟨S_, .i32⟩ : BufTy).Contents (Elt F) :=
  constantI S_ 32 0#32
def b6 (j : ℕ) (s : State F) : (⟨S_, .i1⟩ : BufTy).Contents (Elt F) :=
  cmpi .slt ((b4 j s)) ((b5 j s))
def b7 (j : ℕ) (s : State F) : (⟨S_, .i32⟩ : BufTy).Contents (Elt F) :=
  constantI S_ 32 20480#32
def b8 (j : ℕ) (s : State F) : (⟨S_, .i32⟩ : BufTy).Contents (Elt F) :=
  addi ((b4 j s)) ((b7 j s))
def b9 (j : ℕ) (s : State F) : (⟨S_, .i32⟩ : BufTy).Contents (Elt F) :=
  select ((b6 j s)) ((b8 j s)) ((b4 j s))
def b10 (j : ℕ) (s : State F) : (⟨S_, .i32⟩ : BufTy).Contents (Elt F) :=
  constantI S_ 32 0#32
def b11 (j : ℕ) (s : State F) : (⟨S_, .i32⟩ : BufTy).Contents (Elt F) :=
  constantI S_ 32 0#32
def b12 (j : ℕ) (s : State F) : (⟨S_, .i1⟩ : BufTy).Contents (Elt F) :=
  cmpi .slt ((b10 j s)) ((b11 j s))
def b13 (j : ℕ) (s : State F) : (⟨S_, .i32⟩ : BufTy).Contents (Elt F) :=
  constantI S_ 32 0#32
def b14 (j : ℕ) (s : State F) : (⟨S_, .i32⟩ : BufTy).Contents (Elt F) :=
  constantI S_ 32 6#32
def b15 (j : ℕ) (s : State F) : (⟨S_, .i32⟩ : BufTy).Contents (Elt F) :=
  addi ((b13 j s)) ((b14 j s))
def b16 (j : ℕ) (s : State F) : (⟨S_, .i32⟩ : BufTy).Contents (Elt F) :=
  constantI S_ 32 0#32
def b17 (j : ℕ) (s : State F) : (⟨S_, .i32⟩ : BufTy).Contents (Elt F) :=
  select ((b12 j s)) ((b15 j s)) ((b16 j s))
def b18 (j : ℕ) (s : State F) : (⟨S1x6, .f32⟩ : BufTy).Contents (Elt F) :=
  Host.dynamicSlice S1x6 (s.main_v113_0) (fun k => (((![(b9 j s), (b17 j s)] : Fin 2 → (⟨S_, .i32⟩ : BufTy).Contents (Elt F))) k (Shape.Idx.first h_S_)).toInt) sliceFits_S20480x6_S1x6
def b19 (j : ℕ) (s : State F) : (⟨S6, .f32⟩ : BufTy).Contents (Elt F) :=
  shapeCast S6 ((b18 j s)) shapeCasts_S1x6_S6
def b20 (j : ℕ) (s : State F) : (⟨S1, .f32⟩ : BufTy).Contents (Elt F) :=
  extractStridedSlice S1 ![0] ((b19 j s)) slices_S6_S1_0
def b21 (j : ℕ) (s : State F) : (⟨S_, .f32⟩ : BufTy).Contents (Elt F) :=
  shapeCast S_ ((b20 j s)) shapeCasts_S1_S_
def b22 (j : ℕ) (s : State F) : (⟨S1, .f32⟩ : BufTy).Contents (Elt F) :=
  extractStridedSlice S1 ![1] ((b19 j s)) slices_S6_S1_1
def b23 (j : ℕ) (s : State F) : (⟨S_, .f32⟩ : BufTy).Contents (Elt F) :=
  shapeCast S_ ((b22 j s)) shapeCasts_S1_S_
def b24 (j : ℕ) (s : State F) : (⟨S1, .f32⟩ : BufTy).Contents (Elt F) :=
  extractStridedSlice S1 ![2] ((b19 j s)) slices_S6_S1_2
def b25 (j : ℕ) (s : State F) : (⟨S_, .f32⟩ : BufTy).Contents (Elt F) :=
  shapeCast S_ ((b24 j s)) shapeCasts_S1_S_
def b26 (j : ℕ) (s : State F) : (⟨S1, .f32⟩ : BufTy).Contents (Elt F) :=
  extractStridedSlice S1 ![3] ((b19 j s)) slices_S6_S1_3
def b27 (j : ℕ) (s : State F) : (⟨S_, .f32⟩ : BufTy).Contents (Elt F) :=
  shapeCast S_ ((b26 j s)) shapeCasts_S1_S_
def b28 (j : ℕ) (s : State F) : (⟨S20480, .f32⟩ : BufTy).Contents (Elt F) :=
  broadcastInDim S20480 ![] bcast_S_S20480 ((b25 j s))
def b29 (j : ℕ) (s : State F) : (⟨S20480, .f32⟩ : BufTy).Contents (Elt F) :=
  minimumf ((b28 j s)) (s.main_v113_1)
def b30 (j : ℕ) (s : State F) : (⟨S20480, .f32⟩ : BufTy).Contents (Elt F) :=
  broadcastInDim S20480 ![] bcast_S_S20480 ((b21 j s))
def b31 (j : ℕ) (s : State F) : (⟨S20480, .f32⟩ : BufTy).Contents (Elt F) :=
  maximumf ((b30 j s)) (s.main_v113_2)
def b32 (j : ℕ) (s : State F) : (⟨S20480, .f32⟩ : BufTy).Contents (Elt F) :=
  subf ((b29 j s)) ((b31 j s))
def b33 (j : ℕ) (s : State F) : (⟨S_, .f32⟩ : BufTy).Contents (Elt F) :=
  constant S_ .f32 0x00000000#32
def b34 (j : ℕ) (s : State F) : (⟨S20480, .f32⟩ : BufTy).Contents (Elt F) :=
  broadcastInDim S20480 ![] bcast_S_S20480 ((b33 j s))
def b35 (j : ℕ) (s : State F) : (⟨S20480, .f32⟩ : BufTy).Contents (Elt F) :=
  maximumf ((b32 j s)) ((b34 j s))
def b36 (j : ℕ) (s : State F) : (⟨S20480, .f32⟩ : BufTy).Contents (Elt F) :=
  broadcastInDim S20480 ![] bcast_S_S20480 ((b27 j s))
def b37 (j : ℕ) (s : State F) : (⟨S20480, .f32⟩ : BufTy).Contents (Elt F) :=
  minimumf ((b36 j s)) (s.main_v113_3)
def b38 (j : ℕ) (s : State F) : (⟨S20480, .f32⟩ : BufTy).Contents (Elt F) :=
  broadcastInDim S20480 ![] bcast_S_S20480 ((b23 j s))
def b39 (j : ℕ) (s : State F) : (⟨S20480, .f32⟩ : BufTy).Contents (Elt F) :=
  maximumf ((b38 j s)) (s.main_v113_4)
def b40 (j : ℕ) (s : State F) : (⟨S20480, .f32⟩ : BufTy).Contents (Elt F) :=
  subf ((b37 j s)) ((b39 j s))
def b41 (j : ℕ) (s : State F) : (⟨S_, .f32⟩ : BufTy).Contents (Elt F) :=
  constant S_ .f32 0x00000000#32
def b42 (j : ℕ) (s : State F) : (⟨S20480, .f32⟩ : BufTy).Contents (Elt F) :=
  broadcastInDim S20480 ![] bcast_S_S20480 ((b41 j s))
def b43 (j : ℕ) (s : State F) : (⟨S20480, .f32⟩ : BufTy).Contents (Elt F) :=
  maximumf ((b40 j s)) ((b42 j s))
def b44 (j : ℕ) (s : State F) : (⟨S20480, .f32⟩ : BufTy).Contents (Elt F) :=
  mulf ((b35 j s)) ((b43 j s))
def b45 (j : ℕ) (s : State F) : (⟨S_, .f32⟩ : BufTy).Contents (Elt F) :=
  subf ((b25 j s)) ((b21 j s))
def b46 (j : ℕ) (s : State F) : (⟨S_, .f32⟩ : BufTy).Contents (Elt F) :=
  subf ((b27 j s)) ((b23 j s))
def b47 (j : ℕ) (s : State F) : (⟨S_, .f32⟩ : BufTy).Contents (Elt F) :=
  mulf ((b45 j s)) ((b46 j s))
def b48 (j : ℕ) (s : State F) : (⟨S20480, .f32⟩ : BufTy).Contents (Elt F) :=
  broadcastInDim S20480 ![] bcast_S_S20480 ((b47 j s))
def b49 (j : ℕ) (s : State F) : (⟨S20480, .f32⟩ : BufTy).Contents (Elt F) :=
  addf ((b48 j s)) (s.main_v113_5)
def b50 (j : ℕ) (s : State F) : (⟨S20480, .f32⟩ : BufTy).Contents (Elt F) :=
  subf ((b49 j s)) ((b44 j s))
def b51 (j : ℕ) (s : State F) : (⟨S_, .f32⟩ : BufTy).Contents (Elt F) :=
  constant S_ .f32 0x3089705F#32
def b52 (j : ℕ) (s : State F) : (⟨S20480, .f32⟩ : BufTy).Contents (Elt F) :=
  broadcastInDim S20480 ![] bcast_S_S20480 ((b51 j s))
def b53 (j : ℕ) (s : State F) : (⟨S20480, .f32⟩ : BufTy).Contents (Elt F) :=
  addf ((b50 j s)) ((b52 j s))
def b54 (j : ℕ) (s : State F) : (⟨S20480, .f32⟩ : BufTy).Contents (Elt F) :=
  Host.divf ((b44 j s)) ((b53 j s))
def b55 (j : ℕ) (s : State F) : (⟨S_, .f32⟩ : BufTy).Contents (Elt F) :=
  constant S_ .f32 0x3F000000#32
def b56 (j : ℕ) (s : State F) : (⟨S20480, .f32⟩ : BufTy).Contents (Elt F) :=
  broadcastInDim S20480 ![] bcast_S_S20480 ((b55 j s))
def b57 (j : ℕ) (s : State F) : (⟨S20480, .i1⟩ : BufTy).Contents (Elt F) :=
  cmpf .ogt ((b54 j s)) ((b56 j s))
def b58 (j : ℕ) (s : State F) : (⟨S_, .f32⟩ : BufTy).Contents (Elt F) :=
  constant S_ .f32 0xBF800000#32
def b59 (j : ℕ) (s : State F) : (⟨S_, .f32⟩ : BufTy).Contents (Elt F) := b58 j s
theorem b59_id (j : ℕ) (s : State F) : b59 j s = b58 j s := rfl
def b60 (j : ℕ) (s : State F) : (⟨S20480, .f32⟩ : BufTy).Contents (Elt F) :=
  broadcastInDim S20480 ![] bcast_S_S20480 ((b59 j s))
def b61 (j : ℕ) (s : State F) : (⟨S20480, .f32⟩ : BufTy).Contents (Elt F) :=
  select ((b57 j s)) ((b60 j s)) (s.main_v113_7)
def b62 (j : ℕ) (s : State F) : (⟨S_, .i32⟩ : BufTy).Contents (Elt F) :=
  constantI S_ 32 0#32
def b63 (j : ℕ) (s : State F) : (⟨S_, .i1⟩ : BufTy).Contents (Elt F) :=
  cmpi .slt ((b4 j s)) ((b62 j s))
def b64 (j : ℕ) (s : State F) : (⟨S_, .i32⟩ : BufTy).Contents (Elt F) :=
  constantI S_ 32 20480#32
def b65 (j : ℕ) (s : State F) : (⟨S_, .i32⟩ : BufTy).Contents (Elt F) :=
  addi ((b4 j s)) ((b64 j s))
def b66 (j : ℕ) (s : State F) : (⟨S_, .i32⟩ : BufTy).Contents (Elt F) :=
  select ((b63 j s)) ((b65 j s)) ((b4 j s))
def b67 (j : ℕ) (s : State F) : (⟨S1, .i32⟩ : BufTy).Contents (Elt F) :=
  broadcastInDim S1 ![] bcast_S_S1 ((b66 j s))
def b68 (j : ℕ) (s : State F) : (⟨S_, .f32⟩ : BufTy).Contents (Elt F) :=
  constant S_ .f32 0xBF800000#32
def b69 (j : ℕ) (s : State F) : (⟨S20480, .f32⟩ : BufTy).Contents (Elt F) :=
  Host.scatter scatter_S20480_S1_S__n_0_0_0 (fun _ b => b) ((b61 j s)) ((b67 j s)) ((b68 j s))
def b70 (j : ℕ) (s : State F) : (⟨S1x6, .f32⟩ : BufTy).Contents (Elt F) :=
  broadcastInDim S1x6 ![1] bcast_S6_S1x6_1 ((b19 j s))
def b71 (j : ℕ) (s : State F) : (⟨S_, .i32⟩ : BufTy).Contents (Elt F) :=
  constantI S_ 32 0#32
def b72 (j : ℕ) (s : State F) : (⟨S10x6, .f32⟩ : BufTy).Contents (Elt F) :=
  Host.dynamicUpdateSlice (s.main_v113_8) ((b70 j s)) (fun k => (((![(constantI S_ 32 (BitVec.ofNat 32 j) : (⟨S_, .i32⟩ : BufTy).Contents (Elt F)), (b71 j s)] : Fin 2 → (⟨S_, .i32⟩ : BufTy).Contents (Elt F))) k (Shape.Idx.first h_S_)).toInt) updateFits_S10x6_S1x6

/-- The state @main hands the first trip, of the arguments it copies in or computes from. -/
def init (main_arg0 : (⟨S1x64x64x425, .f32⟩ : BufTy).Contents (Elt F)) : State F :=
  { main_v113_7 := A_main_v100 main_arg0, main_v113_8 := K_main_v112 (F := F), main_v113_0 := A_main_v108 main_arg0, main_v113_1 := A_main_v92 main_arg0, main_v113_2 := A_main_v86 main_arg0, main_v113_3 := A_main_v95 main_arg0, main_v113_4 := A_main_v89 main_arg0, main_v113_5 := A_main_v111 main_arg0 }

theorem init_main_v113_7 (main_arg0 : (⟨S1x64x64x425, .f32⟩ : BufTy).Contents (Elt F)) : (init main_arg0).main_v113_7 = A_main_v100 main_arg0 := by simp only [init]
theorem init_main_v113_8 (main_arg0 : (⟨S1x64x64x425, .f32⟩ : BufTy).Contents (Elt F)) : (init main_arg0).main_v113_8 = K_main_v112 (F := F) := by simp only [init]
theorem init_main_v113_0 (main_arg0 : (⟨S1x64x64x425, .f32⟩ : BufTy).Contents (Elt F)) : (init main_arg0).main_v113_0 = A_main_v108 main_arg0 := by simp only [init]
theorem init_main_v113_1 (main_arg0 : (⟨S1x64x64x425, .f32⟩ : BufTy).Contents (Elt F)) : (init main_arg0).main_v113_1 = A_main_v92 main_arg0 := by simp only [init]
theorem init_main_v113_2 (main_arg0 : (⟨S1x64x64x425, .f32⟩ : BufTy).Contents (Elt F)) : (init main_arg0).main_v113_2 = A_main_v86 main_arg0 := by simp only [init]
theorem init_main_v113_3 (main_arg0 : (⟨S1x64x64x425, .f32⟩ : BufTy).Contents (Elt F)) : (init main_arg0).main_v113_3 = A_main_v95 main_arg0 := by simp only [init]
theorem init_main_v113_4 (main_arg0 : (⟨S1x64x64x425, .f32⟩ : BufTy).Contents (Elt F)) : (init main_arg0).main_v113_4 = A_main_v89 main_arg0 := by simp only [init]
theorem init_main_v113_5 (main_arg0 : (⟨S1x64x64x425, .f32⟩ : BufTy).Contents (Elt F)) : (init main_arg0).main_v113_5 = A_main_v111 main_arg0 := by simp only [init]

/-- One trip. -/
def step (j : ℕ) (s : State F) : State F :=
  { main_v113_7 := b69 j s, main_v113_8 := b72 j s, main_v113_0 := s.main_v113_0, main_v113_1 := s.main_v113_1, main_v113_2 := s.main_v113_2, main_v113_3 := s.main_v113_3, main_v113_4 := s.main_v113_4, main_v113_5 := s.main_v113_5 }
theorem step_main_v113_7 (j : ℕ) (s : State F) : (step j s).main_v113_7 = b69 j s := by simp only [step]
theorem step_main_v113_0 (j : ℕ) (s : State F) : (step j s).main_v113_0 = s.main_v113_0 := by simp only [step]
theorem step_main_v113_1 (j : ℕ) (s : State F) : (step j s).main_v113_1 = s.main_v113_1 := by simp only [step]
theorem step_main_v113_2 (j : ℕ) (s : State F) : (step j s).main_v113_2 = s.main_v113_2 := by simp only [step]
theorem step_main_v113_3 (j : ℕ) (s : State F) : (step j s).main_v113_3 = s.main_v113_3 := by simp only [step]
theorem step_main_v113_4 (j : ℕ) (s : State F) : (step j s).main_v113_4 = s.main_v113_4 := by simp only [step]
theorem step_main_v113_5 (j : ℕ) (s : State F) : (step j s).main_v113_5 = s.main_v113_5 := by simp only [step]
theorem step_main_v113_8 (j : ℕ) (s : State F) : (step j s).main_v113_8 = b72 j s := by simp only [step]

/-- `main_v119`, which the operations after the loop make, of the loop's last state. -/
def R_main_v119 (s : State F) : (⟨S10x6, .f32⟩ : BufTy).Contents (Elt F) :=
  mulf (s.main_v113_8) (broadcastInDim S10x6 ![0, 1] bcast_S10x1_S10x6_0_1 (uitofp .f32 (cmpf .oge (extractStridedSlice S10x1 ![0, 4] (s.main_v113_8) slices_S10x6_S10x1_0_4) (broadcastInDim S10x1 ![] bcast_S_S10x1 (constant S_ .f32 0x3D4CCCCD#32)))))

end Cert.ReferenceIdeal.Step

end
-- ==== Proof.RefHolds.lean ====
/- What a valuation holds when it agrees with a state of the reference's loop, and the values of one trip read from it. -/
module

public import proofs.«01_k».proof.Proof.RefRun
public import proofs.«01_k».proof.Proof.RefStep

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v113_7) = s.main_v113_7
  f_8 : V0 (Proc.devRef .tc main_v113_8) = s.main_v113_8
  f_0 : V0 (Proc.devRef .tc main_v113_0) = s.main_v113_0
  f_1 : V0 (Proc.devRef .tc main_v113_1) = s.main_v113_1
  f_2 : V0 (Proc.devRef .tc main_v113_2) = s.main_v113_2
  f_3 : V0 (Proc.devRef .tc main_v113_3) = s.main_v113_3
  f_4 : V0 (Proc.devRef .tc main_v113_4) = s.main_v113_4
  f_5 : V0 (Proc.devRef .tc main_v113_5) = s.main_v113_5
  n_6 : V0 (Proc.devRef .tc main_v113_6) = constantI S_ 32 (BitVec.ofNat 32 j)

variable {V0 s j}

set_option maxRecDepth 8192 in
theorem al_0 (h : Holds V0 s j) : (res_main_while0b_call2_v0 V0 : (Proc.devRef .tc main_while0b_call2_v0 : DevRef τ sig).ty.Contents (Elt F)) = Cert.ReferenceIdeal.Step.b0 j s := by
  unfold res_main_while0b_call2_v0 Cert.ReferenceIdeal.Step.b0
  rfl
set_option maxRecDepth 8192 in
theorem al_1 (h : Holds V0 s j) : (res_main_while0b_call2_cst V0 : (Proc.devRef .tc main_while0b_call2_cst : DevRef τ sig).ty.Contents (Elt F)) = Cert.ReferenceIdeal.Step.b1 j s := by
  unfold res_main_while0b_call2_cst Cert.ReferenceIdeal.Step.b1
  rfl
set_option maxRecDepth 8192 in
theorem al_2 (h : Holds V0 s j) : (res_main_while0b_call2_c V0 : (Proc.devRef .tc main_while0b_call2_c : DevRef τ sig).ty.Contents (Elt F)) = Cert.ReferenceIdeal.Step.b2 j s := by
  unfold res_main_while0b_call2_c Cert.ReferenceIdeal.Step.b2
  rfl
set_option maxRecDepth 8192 in
theorem al_3 (h : Holds V0 s j) : (((fun x y u v j => (Host.argReduce reducer_argmax_f32_i32 x y u v reducesTo_S20480_S_d0 h_S_ j).1)) (V0 (Proc.devRef .tc main_v113_7)) (res_main_while0b_call2_v0 V0) (res_main_while0b_call2_cst V0) (res_main_while0b_call2_c V0) : (Proc.devRef .tc main_while0b_call2_v1_0 : DevRef τ sig).ty.Contents (Elt F)) = Cert.ReferenceIdeal.Step.b3 j s := by
  unfold Cert.ReferenceIdeal.Step.b3
  rw [← al_0 h, ← al_1 h, ← al_2 h, h.f_7]
  try rfl
set_option maxRecDepth 8192 in
theorem al_4 (h : Holds V0 s j) : (res_main_while0b_v120 V0 : (Proc.devRef .tc main_while0b_v120 : DevRef τ sig).ty.Contents (Elt F)) = Cert.ReferenceIdeal.Step.b4 j s := by
  unfold res_main_while0b_v120 Cert.ReferenceIdeal.Step.b4
  rw [← al_0 h, ← al_1 h, ← al_2 h, h.f_7]
  try rfl
set_option maxRecDepth 8192 in
theorem al_5 (h : Holds V0 s j) : (constantI S_ 32 0#32 : (Proc.devRef .tc main_while0b_c_38 : DevRef τ sig).ty.Contents (Elt F)) = Cert.ReferenceIdeal.Step.b5 j s := by
  unfold Cert.ReferenceIdeal.Step.b5
  rfl
set_option maxRecDepth 8192 in
theorem al_6 (h : Holds V0 s j) : (cmpi .slt (res_main_while0b_v120 V0) (constantI S_ 32 0#32) : (Proc.devRef .tc main_while0b_v121 : DevRef τ sig).ty.Contents (Elt F)) = Cert.ReferenceIdeal.Step.b6 j s := by
  unfold Cert.ReferenceIdeal.Step.b6
  rw [← al_4 h, ← al_5 h]
  try rfl
set_option maxRecDepth 8192 in
theorem al_7 (h : Holds V0 s j) : (constantI S_ 32 20480#32 : (Proc.devRef .tc main_while0b_c_39 : DevRef τ sig).ty.Contents (Elt F)) = Cert.ReferenceIdeal.Step.b7 j s := by
  unfold Cert.ReferenceIdeal.Step.b7
  rfl
set_option maxRecDepth 8192 in
theorem al_8 (h : Holds V0 s j) : (addi (res_main_while0b_v120 V0) (constantI S_ 32 20480#32) : (Proc.devRef .tc main_while0b_v122 : DevRef τ sig).ty.Contents (Elt F)) = Cert.ReferenceIdeal.Step.b8 j s := by
  unfold Cert.ReferenceIdeal.Step.b8
  rw [← al_4 h, ← al_7 h]
  try rfl
set_option maxRecDepth 8192 in
theorem al_9 (h : Holds V0 s j) : (select (cmpi .slt (res_main_while0b_v120 V0) (constantI S_ 32 0#32)) (addi (res_main_while0b_v120 V0) (constantI S_ 32 20480#32)) (res_main_while0b_v120 V0) : (Proc.devRef .tc main_while0b_v123 : DevRef τ sig).ty.Contents (Elt F)) = Cert.ReferenceIdeal.Step.b9 j s := by
  unfold Cert.ReferenceIdeal.Step.b9
  rw [← al_6 h, ← al_8 h, ← al_4 h]
  try rfl
set_option maxRecDepth 8192 in
theorem al_10 (h : Holds V0 s j) : (constantI S_ 32 0#32 : (Proc.devRef .tc main_while0b_c_40 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_c_41 : DevRef τ sig).ty.Contents (Elt F)) = Cert.ReferenceIdeal.Step.b11 j s := by
  unfold Cert.ReferenceIdeal.Step.b11
  rfl
set_option maxRecDepth 8192 in
theorem al_12 (h : Holds V0 s j) : (cmpi .slt (constantI S_ 32 0#32) (constantI S_ 32 0#32) : (Proc.devRef .tc main_while0b_v124 : DevRef τ sig).ty.Contents (Elt F)) = Cert.ReferenceIdeal.Step.b12 j s := by
  unfold Cert.ReferenceIdeal.Step.b12
  rw [← al_10 h, ← al_11 h]
  try rfl
set_option maxRecDepth 8192 in
theorem al_13 (h : Holds V0 s j) : (constantI S_ 32 0#32 : (Proc.devRef .tc main_while0b_c_42 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 6#32 : (Proc.devRef .tc main_while0b_c_43 : DevRef τ sig).ty.Contents (Elt F)) = Cert.ReferenceIdeal.Step.b14 j s := by
  unfold Cert.ReferenceIdeal.Step.b14
  rfl
set_option maxRecDepth 8192 in
theorem al_15 (h : Holds V0 s j) : (addi (constantI S_ 32 0#32) (constantI S_ 32 6#32) : (Proc.devRef .tc main_while0b_v125 : DevRef τ sig).ty.Contents (Elt F)) = Cert.ReferenceIdeal.Step.b15 j s := by
  unfold Cert.ReferenceIdeal.Step.b15
  rw [← al_13 h, ← al_14 h]
  try rfl
set_option maxRecDepth 8192 in
theorem al_16 (h : Holds V0 s j) : (constantI S_ 32 0#32 : (Proc.devRef .tc main_while0b_c_44 : DevRef τ sig).ty.Contents (Elt F)) = Cert.ReferenceIdeal.Step.b16 j s := by
  unfold Cert.ReferenceIdeal.Step.b16
  rfl
set_option maxRecDepth 8192 in
theorem al_17 (h : Holds V0 s j) : (select (cmpi .slt (constantI S_ 32 0#32) (constantI S_ 32 0#32)) (addi (constantI S_ 32 0#32) (constantI S_ 32 6#32)) (constantI S_ 32 0#32) : (Proc.devRef .tc main_while0b_v126 : DevRef τ sig).ty.Contents (Elt F)) = Cert.ReferenceIdeal.Step.b17 j s := by
  unfold Cert.ReferenceIdeal.Step.b17
  rw [← al_12 h, ← al_15 h, ← al_16 h]
  try rfl
set_option maxRecDepth 8192 in
theorem al_18 (h : Holds V0 s j) : (Host.dynamicSlice S1x6 (V0 (Proc.devRef .tc main_v113_0)) (fun k => (((![select (cmpi .slt (res_main_while0b_v120 V0) (constantI S_ 32 0#32)) (addi (res_main_while0b_v120 V0) (constantI S_ 32 20480#32)) (res_main_while0b_v120 V0), select (cmpi .slt (constantI S_ 32 0#32) (constantI S_ 32 0#32)) (addi (constantI S_ 32 0#32) (constantI S_ 32 6#32)) (constantI S_ 32 0#32)] : Fin 2 → (⟨S_, .i32⟩ : BufTy).Contents (Elt F))) k (Shape.Idx.first h_S_)).toInt) sliceFits_S20480x6_S1x6 : (Proc.devRef .tc main_while0b_v127 : DevRef τ sig).ty.Contents (Elt F)) = Cert.ReferenceIdeal.Step.b18 j s := by
  unfold Cert.ReferenceIdeal.Step.b18
  rw [← al_9 h, ← al_17 h, h.f_0]
  try rfl
set_option maxRecDepth 8192 in
theorem al_19 (h : Holds V0 s j) : (res_main_while0b_v128 V0 : (Proc.devRef .tc main_while0b_v128 : DevRef τ sig).ty.Contents (Elt F)) = Cert.ReferenceIdeal.Step.b19 j s := by
  unfold res_main_while0b_v128 Cert.ReferenceIdeal.Step.b19
  rw [← al_18 h]
  try rfl
set_option maxRecDepth 8192 in
theorem al_20 (h : Holds V0 s j) : (extractStridedSlice S1 ![0] (res_main_while0b_v128 V0) slices_S6_S1_0 : (Proc.devRef .tc main_while0b_v129 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (res_main_while0b_v130 V0 : (Proc.devRef .tc main_while0b_v130 : DevRef τ sig).ty.Contents (Elt F)) = Cert.ReferenceIdeal.Step.b21 j s := by
  unfold res_main_while0b_v130 Cert.ReferenceIdeal.Step.b21
  rw [← al_20 h]
  try rfl
set_option maxRecDepth 8192 in
theorem al_22 (h : Holds V0 s j) : (extractStridedSlice S1 ![1] (res_main_while0b_v128 V0) slices_S6_S1_1 : (Proc.devRef .tc main_while0b_v131 : DevRef τ sig).ty.Contents (Elt F)) = Cert.ReferenceIdeal.Step.b22 j s := by
  unfold Cert.ReferenceIdeal.Step.b22
  rw [← al_19 h]
  try rfl
set_option maxRecDepth 8192 in
theorem al_23 (h : Holds V0 s j) : (res_main_while0b_v132 V0 : (Proc.devRef .tc main_while0b_v132 : DevRef τ sig).ty.Contents (Elt F)) = Cert.ReferenceIdeal.Step.b23 j s := by
  unfold res_main_while0b_v132 Cert.ReferenceIdeal.Step.b23
  rw [← al_22 h]
  try rfl
set_option maxRecDepth 8192 in
theorem al_24 (h : Holds V0 s j) : (extractStridedSlice S1 ![2] (res_main_while0b_v128 V0) slices_S6_S1_2 : (Proc.devRef .tc main_while0b_v133 : DevRef τ sig).ty.Contents (Elt F)) = Cert.ReferenceIdeal.Step.b24 j s := by
  unfold Cert.ReferenceIdeal.Step.b24
  rw [← al_19 h]
  try rfl
set_option maxRecDepth 8192 in
theorem al_25 (h : Holds V0 s j) : (res_main_while0b_v134 V0 : (Proc.devRef .tc main_while0b_v134 : DevRef τ sig).ty.Contents (Elt F)) = Cert.ReferenceIdeal.Step.b25 j s := by
  unfold res_main_while0b_v134 Cert.ReferenceIdeal.Step.b25
  rw [← al_24 h]
  try rfl
set_option maxRecDepth 8192 in
theorem al_26 (h : Holds V0 s j) : (extractStridedSlice S1 ![3] (res_main_while0b_v128 V0) slices_S6_S1_3 : (Proc.devRef .tc main_while0b_v135 : DevRef τ sig).ty.Contents (Elt F)) = Cert.ReferenceIdeal.Step.b26 j s := by
  unfold Cert.ReferenceIdeal.Step.b26
  rw [← al_19 h]
  try rfl
set_option maxRecDepth 8192 in
theorem al_27 (h : Holds V0 s j) : (res_main_while0b_v136 V0 : (Proc.devRef .tc main_while0b_v136 : DevRef τ sig).ty.Contents (Elt F)) = Cert.ReferenceIdeal.Step.b27 j s := by
  unfold res_main_while0b_v136 Cert.ReferenceIdeal.Step.b27
  rw [← al_26 h]
  try rfl
set_option maxRecDepth 8192 in
theorem al_28 (h : Holds V0 s j) : (broadcastInDim S20480 ![] bcast_S_S20480 (res_main_while0b_v134 V0) : (Proc.devRef .tc main_while0b_v137 : DevRef τ sig).ty.Contents (Elt F)) = Cert.ReferenceIdeal.Step.b28 j s := by
  unfold Cert.ReferenceIdeal.Step.b28
  rw [← al_25 h]
  try rfl
set_option maxRecDepth 8192 in
theorem al_29 (h : Holds V0 s j) : (minimumf (broadcastInDim S20480 ![] bcast_S_S20480 (res_main_while0b_v134 V0)) (V0 (Proc.devRef .tc main_v113_1)) : (Proc.devRef .tc main_while0b_v138 : DevRef τ sig).ty.Contents (Elt F)) = Cert.ReferenceIdeal.Step.b29 j s := by
  unfold Cert.ReferenceIdeal.Step.b29
  rw [← al_28 h, h.f_1]
  try rfl
set_option maxRecDepth 8192 in
theorem al_30 (h : Holds V0 s j) : (broadcastInDim S20480 ![] bcast_S_S20480 (res_main_while0b_v130 V0) : (Proc.devRef .tc main_while0b_v139 : DevRef τ sig).ty.Contents (Elt F)) = Cert.ReferenceIdeal.Step.b30 j s := by
  unfold Cert.ReferenceIdeal.Step.b30
  rw [← al_21 h]
  try rfl
set_option maxRecDepth 8192 in
theorem al_31 (h : Holds V0 s j) : (maximumf (broadcastInDim S20480 ![] bcast_S_S20480 (res_main_while0b_v130 V0)) (V0 (Proc.devRef .tc main_v113_2)) : (Proc.devRef .tc main_while0b_v140 : DevRef τ sig).ty.Contents (Elt F)) = Cert.ReferenceIdeal.Step.b31 j s := by
  unfold Cert.ReferenceIdeal.Step.b31
  rw [← al_30 h, h.f_2]
  try rfl
set_option maxRecDepth 8192 in
theorem al_32 (h : Holds V0 s j) : (subf (minimumf (broadcastInDim S20480 ![] bcast_S_S20480 (res_main_while0b_v134 V0)) (V0 (Proc.devRef .tc main_v113_1))) (maximumf (broadcastInDim S20480 ![] bcast_S_S20480 (res_main_while0b_v130 V0)) (V0 (Proc.devRef .tc main_v113_2))) : (Proc.devRef .tc main_while0b_v141 : DevRef τ sig).ty.Contents (Elt F)) = Cert.ReferenceIdeal.Step.b32 j s := by
  unfold Cert.ReferenceIdeal.Step.b32
  rw [← al_29 h, ← al_31 h]
  try rfl
set_option maxRecDepth 8192 in
theorem al_33 (h : Holds V0 s j) : (constant S_ .f32 0x00000000#32 : (Proc.devRef .tc main_while0b_cst_45 : DevRef τ sig).ty.Contents (Elt F)) = Cert.ReferenceIdeal.Step.b33 j s := by
  unfold Cert.ReferenceIdeal.Step.b33
  rfl
set_option maxRecDepth 8192 in
theorem al_34 (h : Holds V0 s j) : (broadcastInDim S20480 ![] bcast_S_S20480 (constant S_ .f32 0x00000000#32) : (Proc.devRef .tc main_while0b_v142 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (maximumf (subf (minimumf (broadcastInDim S20480 ![] bcast_S_S20480 (res_main_while0b_v134 V0)) (V0 (Proc.devRef .tc main_v113_1))) (maximumf (broadcastInDim S20480 ![] bcast_S_S20480 (res_main_while0b_v130 V0)) (V0 (Proc.devRef .tc main_v113_2)))) (broadcastInDim S20480 ![] bcast_S_S20480 (constant S_ .f32 0x00000000#32)) : (Proc.devRef .tc main_while0b_v143 : DevRef τ sig).ty.Contents (Elt F)) = Cert.ReferenceIdeal.Step.b35 j s := by
  unfold Cert.ReferenceIdeal.Step.b35
  rw [← al_32 h, ← al_34 h]
  try rfl
set_option maxRecDepth 8192 in
theorem al_36 (h : Holds V0 s j) : (broadcastInDim S20480 ![] bcast_S_S20480 (res_main_while0b_v136 V0) : (Proc.devRef .tc main_while0b_v144 : DevRef τ sig).ty.Contents (Elt F)) = Cert.ReferenceIdeal.Step.b36 j s := by
  unfold Cert.ReferenceIdeal.Step.b36
  rw [← al_27 h]
  try rfl
set_option maxRecDepth 8192 in
theorem al_37 (h : Holds V0 s j) : (minimumf (broadcastInDim S20480 ![] bcast_S_S20480 (res_main_while0b_v136 V0)) (V0 (Proc.devRef .tc main_v113_3)) : (Proc.devRef .tc main_while0b_v145 : DevRef τ sig).ty.Contents (Elt F)) = Cert.ReferenceIdeal.Step.b37 j s := by
  unfold Cert.ReferenceIdeal.Step.b37
  rw [← al_36 h, h.f_3]
  try rfl
set_option maxRecDepth 8192 in
theorem al_38 (h : Holds V0 s j) : (broadcastInDim S20480 ![] bcast_S_S20480 (res_main_while0b_v132 V0) : (Proc.devRef .tc main_while0b_v146 : DevRef τ sig).ty.Contents (Elt F)) = Cert.ReferenceIdeal.Step.b38 j s := by
  unfold Cert.ReferenceIdeal.Step.b38
  rw [← al_23 h]
  try rfl
set_option maxRecDepth 8192 in
theorem al_39 (h : Holds V0 s j) : (maximumf (broadcastInDim S20480 ![] bcast_S_S20480 (res_main_while0b_v132 V0)) (V0 (Proc.devRef .tc main_v113_4)) : (Proc.devRef .tc main_while0b_v147 : DevRef τ sig).ty.Contents (Elt F)) = Cert.ReferenceIdeal.Step.b39 j s := by
  unfold Cert.ReferenceIdeal.Step.b39
  rw [← al_38 h, h.f_4]
  try rfl
set_option maxRecDepth 8192 in
theorem al_40 (h : Holds V0 s j) : (subf (minimumf (broadcastInDim S20480 ![] bcast_S_S20480 (res_main_while0b_v136 V0)) (V0 (Proc.devRef .tc main_v113_3))) (maximumf (broadcastInDim S20480 ![] bcast_S_S20480 (res_main_while0b_v132 V0)) (V0 (Proc.devRef .tc main_v113_4))) : (Proc.devRef .tc main_while0b_v148 : DevRef τ sig).ty.Contents (Elt F)) = Cert.ReferenceIdeal.Step.b40 j s := by
  unfold Cert.ReferenceIdeal.Step.b40
  rw [← al_37 h, ← al_39 h]
  try rfl
set_option maxRecDepth 8192 in
theorem al_41 (h : Holds V0 s j) : (constant S_ .f32 0x00000000#32 : (Proc.devRef .tc main_while0b_cst_46 : DevRef τ sig).ty.Contents (Elt F)) = Cert.ReferenceIdeal.Step.b41 j s := by
  unfold Cert.ReferenceIdeal.Step.b41
  rfl
set_option maxRecDepth 8192 in
theorem al_42 (h : Holds V0 s j) : (broadcastInDim S20480 ![] bcast_S_S20480 (constant S_ .f32 0x00000000#32) : (Proc.devRef .tc main_while0b_v149 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (maximumf (subf (minimumf (broadcastInDim S20480 ![] bcast_S_S20480 (res_main_while0b_v136 V0)) (V0 (Proc.devRef .tc main_v113_3))) (maximumf (broadcastInDim S20480 ![] bcast_S_S20480 (res_main_while0b_v132 V0)) (V0 (Proc.devRef .tc main_v113_4)))) (broadcastInDim S20480 ![] bcast_S_S20480 (constant S_ .f32 0x00000000#32)) : (Proc.devRef .tc main_while0b_v150 : DevRef τ sig).ty.Contents (Elt F)) = Cert.ReferenceIdeal.Step.b43 j s := by
  unfold Cert.ReferenceIdeal.Step.b43
  rw [← al_40 h, ← al_42 h]
  try rfl
set_option maxRecDepth 8192 in
theorem al_44 (h : Holds V0 s j) : (res_main_while0b_v151 V0 : (Proc.devRef .tc main_while0b_v151 : DevRef τ sig).ty.Contents (Elt F)) = Cert.ReferenceIdeal.Step.b44 j s := by
  unfold res_main_while0b_v151 Cert.ReferenceIdeal.Step.b44
  rw [← al_35 h, ← al_43 h]
  try rfl
set_option maxRecDepth 8192 in
theorem al_45 (h : Holds V0 s j) : (subf (res_main_while0b_v134 V0) (res_main_while0b_v130 V0) : (Proc.devRef .tc main_while0b_v152 : DevRef τ sig).ty.Contents (Elt F)) = Cert.ReferenceIdeal.Step.b45 j s := by
  unfold Cert.ReferenceIdeal.Step.b45
  rw [← al_25 h, ← al_21 h]
  try rfl
set_option maxRecDepth 8192 in
theorem al_46 (h : Holds V0 s j) : (subf (res_main_while0b_v136 V0) (res_main_while0b_v132 V0) : (Proc.devRef .tc main_while0b_v153 : DevRef τ sig).ty.Contents (Elt F)) = Cert.ReferenceIdeal.Step.b46 j s := by
  unfold Cert.ReferenceIdeal.Step.b46
  rw [← al_27 h, ← al_23 h]
  try rfl
set_option maxRecDepth 8192 in
theorem al_47 (h : Holds V0 s j) : (mulf (subf (res_main_while0b_v134 V0) (res_main_while0b_v130 V0)) (subf (res_main_while0b_v136 V0) (res_main_while0b_v132 V0)) : (Proc.devRef .tc main_while0b_v154 : DevRef τ sig).ty.Contents (Elt F)) = Cert.ReferenceIdeal.Step.b47 j s := by
  unfold Cert.ReferenceIdeal.Step.b47
  rw [← al_45 h, ← al_46 h]
  try rfl
set_option maxRecDepth 8192 in
theorem al_48 (h : Holds V0 s j) : (broadcastInDim S20480 ![] bcast_S_S20480 (mulf (subf (res_main_while0b_v134 V0) (res_main_while0b_v130 V0)) (subf (res_main_while0b_v136 V0) (res_main_while0b_v132 V0))) : (Proc.devRef .tc main_while0b_v155 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (addf (broadcastInDim S20480 ![] bcast_S_S20480 (mulf (subf (res_main_while0b_v134 V0) (res_main_while0b_v130 V0)) (subf (res_main_while0b_v136 V0) (res_main_while0b_v132 V0)))) (V0 (Proc.devRef .tc main_v113_5)) : (Proc.devRef .tc main_while0b_v156 : DevRef τ sig).ty.Contents (Elt F)) = Cert.ReferenceIdeal.Step.b49 j s := by
  unfold Cert.ReferenceIdeal.Step.b49
  rw [← al_48 h, h.f_5]
  try rfl
set_option maxRecDepth 8192 in
theorem al_50 (h : Holds V0 s j) : (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0) : (Proc.devRef .tc main_while0b_v157 : DevRef τ sig).ty.Contents (Elt F)) = Cert.ReferenceIdeal.Step.b50 j s := by
  unfold Cert.ReferenceIdeal.Step.b50
  rw [← al_49 h, ← al_44 h]
  try rfl
set_option maxRecDepth 8192 in
theorem al_51 (h : Holds V0 s j) : (constant S_ .f32 0x3089705F#32 : (Proc.devRef .tc main_while0b_cst_47 : DevRef τ sig).ty.Contents (Elt F)) = Cert.ReferenceIdeal.Step.b51 j s := by
  unfold Cert.ReferenceIdeal.Step.b51
  rfl
set_option maxRecDepth 8192 in
theorem al_52 (h : Holds V0 s j) : (broadcastInDim S20480 ![] bcast_S_S20480 (constant S_ .f32 0x3089705F#32) : (Proc.devRef .tc main_while0b_v158 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32)) : (Proc.devRef .tc main_while0b_v159 : DevRef τ sig).ty.Contents (Elt F)) = Cert.ReferenceIdeal.Step.b53 j s := by
  unfold Cert.ReferenceIdeal.Step.b53
  rw [← al_50 h, ← al_52 h]
  try rfl
set_option maxRecDepth 8192 in
theorem al_54 (h : Holds V0 s j) : (Host.divf (res_main_while0b_v151 V0) (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32))) : (Proc.devRef .tc main_while0b_v160 : DevRef τ sig).ty.Contents (Elt F)) = Cert.ReferenceIdeal.Step.b54 j s := by
  unfold Cert.ReferenceIdeal.Step.b54
  rw [← al_44 h, ← al_53 h]
  try rfl
set_option maxRecDepth 8192 in
theorem al_55 (h : Holds V0 s j) : (constant S_ .f32 0x3F000000#32 : (Proc.devRef .tc main_while0b_cst_48 : DevRef τ sig).ty.Contents (Elt F)) = Cert.ReferenceIdeal.Step.b55 j s := by
  unfold Cert.ReferenceIdeal.Step.b55
  rfl
set_option maxRecDepth 8192 in
theorem al_56 (h : Holds V0 s j) : (broadcastInDim S20480 ![] bcast_S_S20480 (constant S_ .f32 0x3F000000#32) : (Proc.devRef .tc main_while0b_v161 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (cmpf .ogt (Host.divf (res_main_while0b_v151 V0) (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32)))) (broadcastInDim S20480 ![] bcast_S_S20480 (constant S_ .f32 0x3F000000#32)) : (Proc.devRef .tc main_while0b_v162 : DevRef τ sig).ty.Contents (Elt F)) = Cert.ReferenceIdeal.Step.b57 j s := by
  unfold Cert.ReferenceIdeal.Step.b57
  rw [← al_54 h, ← al_56 h]
  try rfl
set_option maxRecDepth 8192 in
theorem al_58 (h : Holds V0 s j) : (constant S_ .f32 0xBF800000#32 : (Proc.devRef .tc main_while0b_cst_49 : DevRef τ sig).ty.Contents (Elt F)) = Cert.ReferenceIdeal.Step.b58 j s := by
  unfold Cert.ReferenceIdeal.Step.b58
  rfl
set_option maxRecDepth 8192 in
theorem al_59 (h : Holds V0 s j) : (id (constant S_ .f32 0xBF800000#32) : (Proc.devRef .tc main_while0b_call3_v0 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (broadcastInDim S20480 ![] bcast_S_S20480 (id (constant S_ .f32 0xBF800000#32)) : (Proc.devRef .tc main_while0b_call3_v1 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (select (cmpf .ogt (Host.divf (res_main_while0b_v151 V0) (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32)))) (broadcastInDim S20480 ![] bcast_S_S20480 (constant S_ .f32 0x3F000000#32))) (broadcastInDim S20480 ![] bcast_S_S20480 (id (constant S_ .f32 0xBF800000#32))) (V0 (Proc.devRef .tc main_v113_7)) : (Proc.devRef .tc main_while0b_v163 : DevRef τ sig).ty.Contents (Elt F)) = Cert.ReferenceIdeal.Step.b61 j s := by
  unfold Cert.ReferenceIdeal.Step.b61
  rw [← al_57 h, ← al_60 h, h.f_7]
  try rfl
set_option maxRecDepth 8192 in
theorem al_62 (h : Holds V0 s j) : (constantI S_ 32 0#32 : (Proc.devRef .tc main_while0b_c_50 : DevRef τ sig).ty.Contents (Elt F)) = Cert.ReferenceIdeal.Step.b62 j s := by
  unfold Cert.ReferenceIdeal.Step.b62
  rfl
set_option maxRecDepth 8192 in
theorem al_63 (h : Holds V0 s j) : (cmpi .slt (res_main_while0b_v120 V0) (constantI S_ 32 0#32) : (Proc.devRef .tc main_while0b_v164 : DevRef τ sig).ty.Contents (Elt F)) = Cert.ReferenceIdeal.Step.b63 j s := by
  unfold Cert.ReferenceIdeal.Step.b63
  rw [← al_4 h, ← al_62 h]
  try rfl
set_option maxRecDepth 8192 in
theorem al_64 (h : Holds V0 s j) : (constantI S_ 32 20480#32 : (Proc.devRef .tc main_while0b_c_51 : DevRef τ sig).ty.Contents (Elt F)) = Cert.ReferenceIdeal.Step.b64 j s := by
  unfold Cert.ReferenceIdeal.Step.b64
  rfl
set_option maxRecDepth 8192 in
theorem al_65 (h : Holds V0 s j) : (addi (res_main_while0b_v120 V0) (constantI S_ 32 20480#32) : (Proc.devRef .tc main_while0b_v165 : DevRef τ sig).ty.Contents (Elt F)) = Cert.ReferenceIdeal.Step.b65 j s := by
  unfold Cert.ReferenceIdeal.Step.b65
  rw [← al_4 h, ← al_64 h]
  try rfl
set_option maxRecDepth 8192 in
theorem al_66 (h : Holds V0 s j) : (select (cmpi .slt (res_main_while0b_v120 V0) (constantI S_ 32 0#32)) (addi (res_main_while0b_v120 V0) (constantI S_ 32 20480#32)) (res_main_while0b_v120 V0) : (Proc.devRef .tc main_while0b_v166 : DevRef τ sig).ty.Contents (Elt F)) = Cert.ReferenceIdeal.Step.b66 j s := by
  unfold Cert.ReferenceIdeal.Step.b66
  rw [← al_63 h, ← al_65 h, ← al_4 h]
  try rfl
set_option maxRecDepth 8192 in
theorem al_67 (h : Holds V0 s j) : (broadcastInDim S1 ![] bcast_S_S1 (select (cmpi .slt (res_main_while0b_v120 V0) (constantI S_ 32 0#32)) (addi (res_main_while0b_v120 V0) (constantI S_ 32 20480#32)) (res_main_while0b_v120 V0)) : (Proc.devRef .tc main_while0b_v167 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (constant S_ .f32 0xBF800000#32 : (Proc.devRef .tc main_while0b_cst_52 : DevRef τ sig).ty.Contents (Elt F)) = Cert.ReferenceIdeal.Step.b68 j s := by
  unfold Cert.ReferenceIdeal.Step.b68
  rfl
set_option maxRecDepth 8192 in
theorem al_69 (h : Holds V0 s j) : (Host.scatter scatter_S20480_S1_S__n_0_0_0 (fun _ b => b) (select (cmpf .ogt (Host.divf (res_main_while0b_v151 V0) (addf (subf (addf (broadcastInDim S20480 ![] bcast_S_S20480 (mulf (subf (res_main_while0b_v134 V0) (res_main_while0b_v130 V0)) (subf (res_main_while0b_v136 V0) (res_main_while0b_v132 V0)))) (V0 (Proc.devRef .tc main_v113_5))) (res_main_while0b_v151 V0)) (broadcastInDim S20480 ![] bcast_S_S20480 (constant S_ .f32 0x3089705F#32)))) (broadcastInDim S20480 ![] bcast_S_S20480 (constant S_ .f32 0x3F000000#32))) (broadcastInDim S20480 ![] bcast_S_S20480 (id (constant S_ .f32 0xBF800000#32))) (V0 (Proc.devRef .tc main_v113_7))) (broadcastInDim S1 ![] bcast_S_S1 (select (cmpi .slt (res_main_while0b_v120 V0) (constantI S_ 32 0#32)) (addi (res_main_while0b_v120 V0) (constantI S_ 32 20480#32)) (res_main_while0b_v120 V0))) (constant S_ .f32 0xBF800000#32) : (Proc.devRef .tc main_while0b_v168 : DevRef τ sig).ty.Contents (Elt F)) = Cert.ReferenceIdeal.Step.b69 j s := by
  unfold Cert.ReferenceIdeal.Step.b69
  rw [← al_61 h, ← al_67 h, ← al_68 h]
  try rfl
set_option maxRecDepth 8192 in
theorem al_70 (h : Holds V0 s j) : (broadcastInDim S1x6 ![1] bcast_S6_S1x6_1 (res_main_while0b_v128 V0) : (Proc.devRef .tc main_while0b_call4_v0 : DevRef τ sig).ty.Contents (Elt F)) = Cert.ReferenceIdeal.Step.b70 j s := by
  unfold Cert.ReferenceIdeal.Step.b70
  rw [← al_19 h]
  try rfl
set_option maxRecDepth 8192 in
theorem al_71 (h : Holds V0 s j) : (constantI S_ 32 0#32 : (Proc.devRef .tc main_while0b_call4_c : DevRef τ sig).ty.Contents (Elt F)) = Cert.ReferenceIdeal.Step.b71 j s := by
  unfold Cert.ReferenceIdeal.Step.b71
  rfl
set_option maxRecDepth 8192 in
theorem al_72 (h : Holds V0 s j) : (Host.dynamicUpdateSlice (V0 (Proc.devRef .tc main_v113_8)) (broadcastInDim S1x6 ![1] bcast_S6_S1x6_1 (res_main_while0b_v128 V0)) (fun k => (((![V0 (Proc.devRef .tc main_v113_6), constantI S_ 32 0#32] : Fin 2 → (⟨S_, .i32⟩ : BufTy).Contents (Elt F))) k (Shape.Idx.first h_S_)).toInt) updateFits_S10x6_S1x6 : (Proc.devRef .tc main_while0b_v169 : DevRef τ sig).ty.Contents (Elt F)) = Cert.ReferenceIdeal.Step.b72 j s := by
  unfold Cert.ReferenceIdeal.Step.b72
  rw [← al_70 h, ← al_71 h, h.f_8, h.n_6]
  try rfl

end Cert.ReferenceIdeal.StepRun

end
-- ==== Proof.RefStepRun.lean ====
/- The reference's run stated over the step: the result is a function of the step iterated ten times from the initial state. -/
module

public import proofs.«01_k».proof.Proof.RefHolds

@[expose] public section

noncomputable section
namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

variable {V0 : Valuation τ sig (Elt F)} {s : State F} {j : ℕ}

/-! One trip's step of the carried values is `step`, field by field; a counter steps to the next number. -/

theorem step_6 (h : Holds V0 s j) : Cert.ReferenceIdeal.Value.step_main_v113_6 V0 = constantI S_ 32 (BitVec.ofNat 32 (j + 1)) := by
  unfold Cert.ReferenceIdeal.Value.step_main_v113_6
  rw [h.n_6]
  funext i
  show BitVec.ofNat 32 j + 1#32 = BitVec.ofNat 32 (j + 1)
  simp only [BitVec.ofNat_add]

theorem step_8 (h : Holds V0 s j) : Cert.ReferenceIdeal.Value.step_main_v113_8 V0 = (step j s).main_v113_8 := by
  unfold Cert.ReferenceIdeal.Value.step_main_v113_8
  rw [id_eq]
  exact (al_72 h).trans (Cert.ReferenceIdeal.Step.step_main_v113_8 j s).symm
theorem step_7 (h : Holds V0 s j) : Cert.ReferenceIdeal.Value.step_main_v113_7 V0 = (step j s).main_v113_7 := by
  rw [Cert.ReferenceIdeal.Step.step_main_v113_7]
  unfold Cert.ReferenceIdeal.Value.step_main_v113_7 Cert.ReferenceIdeal.Step.b69
  rw [← al_61 h, ← al_67 h, ← al_68 h]
  simp only [id_eq]
  with_reducible congr
  rfl
set_option maxRecDepth 8192 in
theorem out_main_v119_holds (h : Holds V0 s j) : out_main_v119 V0 = Cert.ReferenceIdeal.Step.R_main_v119 s := by
  unfold out_main_v119 Cert.ReferenceIdeal.Step.R_main_v119
  rw [h.f_8]
  try rfl

/-- One trip keeps the valuation holding: `step` of the state, the same set-up values, the next number. -/
theorem holds_step (h : Holds V0 s j) : Holds (STEP V0) (step j s) (j + 1) where
  f_7 := (STEP_main_v113_7 V0).trans (step_7 h)
  f_8 := (STEP_main_v113_8 V0).trans (step_8 h)
  n_6 := (STEP_main_v113_6 V0).trans (step_6 h)
  f_0 := (STEP_main_v113_0 V0).trans (h.f_0.trans (Cert.ReferenceIdeal.Step.step_main_v113_0 j s).symm)
  f_1 := (STEP_main_v113_1 V0).trans (h.f_1.trans (Cert.ReferenceIdeal.Step.step_main_v113_1 j s).symm)
  f_2 := (STEP_main_v113_2 V0).trans (h.f_2.trans (Cert.ReferenceIdeal.Step.step_main_v113_2 j s).symm)
  f_3 := (STEP_main_v113_3 V0).trans (h.f_3.trans (Cert.ReferenceIdeal.Step.step_main_v113_3 j s).symm)
  f_4 := (STEP_main_v113_4 V0).trans (h.f_4.trans (Cert.ReferenceIdeal.Step.step_main_v113_4 j s).symm)
  f_5 := (STEP_main_v113_5 V0).trans (h.f_5.trans (Cert.ReferenceIdeal.Step.step_main_v113_5 j s).symm)

/-- The state the first trip starts from, of the memory the run starts from. -/
abbrev initState (m : (ℓ : Loc nD τ sig) → Buf (Elt F) ℓ) (c : Dev nD) : State F :=
  init (m ((c.tc : Thread nD τ).loc main_arg0))

/-- A cast along an equality of a type with itself does nothing. -/
theorem cast_self {α : Type} (h : α = α) (a : α) : cast h a = a := eq_of_heq (cast_heq h a)

variable (m : (ℓ : Loc nD τ sig) → Buf (Elt F) ℓ) (c : Dev nD)

/-- The table is a function of its six columns. -/
theorem table_congr {a0 a1 a2 a3 a4 a5 b0 b1 b2 b3 b4 b5 : (⟨S20480x1, .f32⟩ : BufTy).Contents (Elt F)}
    (h0 : a0 = b0) (h1 : a1 = b1) (h2 : a2 = b2) (h3 : a3 = b3) (h4 : a4 = b4) (h5 : a5 = b5) :
    (concatenate S20480x6 1 [⟨S20480x1, a0⟩, ⟨S20480x1, a1⟩, ⟨S20480x1, a2⟩, ⟨S20480x1, a3⟩, ⟨S20480x1, a4⟩, ⟨S20480x1, a5⟩] concatenates_S20480x1_S20480x1_S20480x1_S20480x1_S20480x1_S20480x1_S20480x6_d1 : (⟨S20480x6, .f32⟩ : BufTy).Contents (Elt F))
      = concatenate S20480x6 1 [⟨S20480x1, b0⟩, ⟨S20480x1, b1⟩, ⟨S20480x1, b2⟩, ⟨S20480x1, b3⟩, ⟨S20480x1, b4⟩, ⟨S20480x1, b5⟩] concatenates_S20480x1_S20480x1_S20480x1_S20480x1_S20480x1_S20480x1_S20480x6_d1 := by
  subst h0 h1 h2 h3 h4 h5
  rfl

set_option maxRecDepth 65536 in
set_option maxHeartbeats 1200000 in
/-- The table's column `main_v102` as the operations before the loop leave it. -/
theorem table_v102 : upto hostOps0_4 (after hostOps0_3 (after hostOps0_2 (after hostOps0_1 (after hostOps0 (launchContents m c))))) 7 (Proc.devRef .tc main_v102) = A_main_v102 (m ((c.tc : Thread nD τ).loc main_arg0)) := by
  after_reads_simp
  simp only [K_main_v1, K_main_v2, K_main_v3, K_main_v4, K_main_v5, K_main_v6, K_main_cst, K_main_v7, K_main_cst_0, K_main_v8, K_main_cst_1, K_main_v9, K_main_cst_2, K_main_v10, K_main_cst_3, K_main_v11, K_main_v12, K_main_v13, K_main_v14, K_main_v15, K_main_v16, K_main_v17, K_main_v18, K_main_cst_4, K_main_v19, K_main_cst_5, K_main_v20, K_main_cst_6, K_main_v21, K_main_cst_7, K_main_v22, K_main_cst_8, K_main_v23, K_main_v24, K_main_v25, K_main_v26, K_main_v27, K_main_v28, K_main_v29, K_main_v30, K_main_cst_9, K_main_v35, K_main_cst_10, K_main_v37, K_main_cst_11, K_main_v40, K_main_cst_12, K_main_v46, K_main_cst_13, K_main_v48, K_main_cst_14, K_main_v51, K_main_cst_15, K_main_v57, K_main_cst_16, K_main_v63, K_main_cst_17, K_main_v68, K_main_cst_18, K_main_v70, K_main_cst_19, K_main_cst_20, K_main_cst_21, K_main_v84, K_main_cst_22, K_main_v87, K_main_cst_23, K_main_v90, K_main_cst_24, K_main_v93, K_main_cst_25, K_main_call0_v0, K_main_call0_cst, K_main_call0_c, K_main_cst_26, K_main_v98, K_main_cst_27, K_main_call1_v0, K_main_call1_v1, K_main_cst_28, K_main_v112, K_main_c, A_main_v0, A_main_v31, A_main_v32, A_main_v33, A_main_v34, A_main_v36, A_main_v38, A_main_v39, A_main_v41, A_main_v42, A_main_v43, A_main_v44, A_main_v45, A_main_v47, A_main_v49, A_main_v50, A_main_v52, A_main_v53, A_main_v54, A_main_v55, A_main_v56, A_main_v58, A_main_v59, A_main_v60, A_main_v61, A_main_v62, A_main_v64, A_main_v65, A_main_v66, A_main_v67, A_main_v69, A_main_v71, A_main_v72, A_main_v73, A_main_v74, A_main_v75, A_main_v76, A_main_v77, A_main_v78, A_main_v79, A_main_v80, A_main_v81, A_main_v82, A_main_v83, A_main_v85, A_main_v86, A_main_v88, A_main_v89, A_main_v91, A_main_v92, A_main_v94, A_main_v95, A_main_v96, A_main_v97, A_main_v99, A_main_v100, A_main_v101, A_main_v102, A_main_v103, A_main_v104, A_main_v105, A_main_v106, A_main_v107, A_main_v108, A_main_v109, A_main_v110, A_main_v111, id_eq]
  try simp only [TRef.ofBuf_toBuf]
  try simp only [TRef.ofBuf, TRef.toBuf, cast_self]
  with_reducible congr
  all_goals rfl

set_option maxRecDepth 65536 in
set_option maxHeartbeats 1200000 in
/-- The table's column `main_v103` as the operations before the loop leave it. -/
theorem table_v103 : upto hostOps0_4 (after hostOps0_3 (after hostOps0_2 (after hostOps0_1 (after hostOps0 (launchContents m c))))) 7 (Proc.devRef .tc main_v103) = A_main_v103 (m ((c.tc : Thread nD τ).loc main_arg0)) := by
  after_reads_simp
  simp only [K_main_v1, K_main_v2, K_main_v3, K_main_v4, K_main_v5, K_main_v6, K_main_cst, K_main_v7, K_main_cst_0, K_main_v8, K_main_cst_1, K_main_v9, K_main_cst_2, K_main_v10, K_main_cst_3, K_main_v11, K_main_v12, K_main_v13, K_main_v14, K_main_v15, K_main_v16, K_main_v17, K_main_v18, K_main_cst_4, K_main_v19, K_main_cst_5, K_main_v20, K_main_cst_6, K_main_v21, K_main_cst_7, K_main_v22, K_main_cst_8, K_main_v23, K_main_v24, K_main_v25, K_main_v26, K_main_v27, K_main_v28, K_main_v29, K_main_v30, K_main_cst_9, K_main_v35, K_main_cst_10, K_main_v37, K_main_cst_11, K_main_v40, K_main_cst_12, K_main_v46, K_main_cst_13, K_main_v48, K_main_cst_14, K_main_v51, K_main_cst_15, K_main_v57, K_main_cst_16, K_main_v63, K_main_cst_17, K_main_v68, K_main_cst_18, K_main_v70, K_main_cst_19, K_main_cst_20, K_main_cst_21, K_main_v84, K_main_cst_22, K_main_v87, K_main_cst_23, K_main_v90, K_main_cst_24, K_main_v93, K_main_cst_25, K_main_call0_v0, K_main_call0_cst, K_main_call0_c, K_main_cst_26, K_main_v98, K_main_cst_27, K_main_call1_v0, K_main_call1_v1, K_main_cst_28, K_main_v112, K_main_c, A_main_v0, A_main_v31, A_main_v32, A_main_v33, A_main_v34, A_main_v36, A_main_v38, A_main_v39, A_main_v41, A_main_v42, A_main_v43, A_main_v44, A_main_v45, A_main_v47, A_main_v49, A_main_v50, A_main_v52, A_main_v53, A_main_v54, A_main_v55, A_main_v56, A_main_v58, A_main_v59, A_main_v60, A_main_v61, A_main_v62, A_main_v64, A_main_v65, A_main_v66, A_main_v67, A_main_v69, A_main_v71, A_main_v72, A_main_v73, A_main_v74, A_main_v75, A_main_v76, A_main_v77, A_main_v78, A_main_v79, A_main_v80, A_main_v81, A_main_v82, A_main_v83, A_main_v85, A_main_v86, A_main_v88, A_main_v89, A_main_v91, A_main_v92, A_main_v94, A_main_v95, A_main_v96, A_main_v97, A_main_v99, A_main_v100, A_main_v101, A_main_v102, A_main_v103, A_main_v104, A_main_v105, A_main_v106, A_main_v107, A_main_v108, A_main_v109, A_main_v110, A_main_v111, id_eq]
  try simp only [TRef.ofBuf_toBuf]
  try simp only [TRef.ofBuf, TRef.toBuf, cast_self]
  with_reducible congr
  all_goals rfl

set_option maxRecDepth 65536 in
set_option maxHeartbeats 1200000 in
/-- The table's column `main_v104` as the operations before the loop leave it. -/
theorem table_v104 : upto hostOps0_4 (after hostOps0_3 (after hostOps0_2 (after hostOps0_1 (after hostOps0 (launchContents m c))))) 7 (Proc.devRef .tc main_v104) = A_main_v104 (m ((c.tc : Thread nD τ).loc main_arg0)) := by
  after_reads_simp
  simp only [K_main_v1, K_main_v2, K_main_v3, K_main_v4, K_main_v5, K_main_v6, K_main_cst, K_main_v7, K_main_cst_0, K_main_v8, K_main_cst_1, K_main_v9, K_main_cst_2, K_main_v10, K_main_cst_3, K_main_v11, K_main_v12, K_main_v13, K_main_v14, K_main_v15, K_main_v16, K_main_v17, K_main_v18, K_main_cst_4, K_main_v19, K_main_cst_5, K_main_v20, K_main_cst_6, K_main_v21, K_main_cst_7, K_main_v22, K_main_cst_8, K_main_v23, K_main_v24, K_main_v25, K_main_v26, K_main_v27, K_main_v28, K_main_v29, K_main_v30, K_main_cst_9, K_main_v35, K_main_cst_10, K_main_v37, K_main_cst_11, K_main_v40, K_main_cst_12, K_main_v46, K_main_cst_13, K_main_v48, K_main_cst_14, K_main_v51, K_main_cst_15, K_main_v57, K_main_cst_16, K_main_v63, K_main_cst_17, K_main_v68, K_main_cst_18, K_main_v70, K_main_cst_19, K_main_cst_20, K_main_cst_21, K_main_v84, K_main_cst_22, K_main_v87, K_main_cst_23, K_main_v90, K_main_cst_24, K_main_v93, K_main_cst_25, K_main_call0_v0, K_main_call0_cst, K_main_call0_c, K_main_cst_26, K_main_v98, K_main_cst_27, K_main_call1_v0, K_main_call1_v1, K_main_cst_28, K_main_v112, K_main_c, A_main_v0, A_main_v31, A_main_v32, A_main_v33, A_main_v34, A_main_v36, A_main_v38, A_main_v39, A_main_v41, A_main_v42, A_main_v43, A_main_v44, A_main_v45, A_main_v47, A_main_v49, A_main_v50, A_main_v52, A_main_v53, A_main_v54, A_main_v55, A_main_v56, A_main_v58, A_main_v59, A_main_v60, A_main_v61, A_main_v62, A_main_v64, A_main_v65, A_main_v66, A_main_v67, A_main_v69, A_main_v71, A_main_v72, A_main_v73, A_main_v74, A_main_v75, A_main_v76, A_main_v77, A_main_v78, A_main_v79, A_main_v80, A_main_v81, A_main_v82, A_main_v83, A_main_v85, A_main_v86, A_main_v88, A_main_v89, A_main_v91, A_main_v92, A_main_v94, A_main_v95, A_main_v96, A_main_v97, A_main_v99, A_main_v100, A_main_v101, A_main_v102, A_main_v103, A_main_v104, A_main_v105, A_main_v106, A_main_v107, A_main_v108, A_main_v109, A_main_v110, A_main_v111, id_eq]
  try simp only [TRef.ofBuf_toBuf]
  try simp only [TRef.ofBuf, TRef.toBuf, cast_self]
  with_reducible congr
  all_goals rfl

set_option maxRecDepth 65536 in
set_option maxHeartbeats 1200000 in
/-- The table's column `main_v105` as the operations before the loop leave it. -/
theorem table_v105 : upto hostOps0_4 (after hostOps0_3 (after hostOps0_2 (after hostOps0_1 (after hostOps0 (launchContents m c))))) 7 (Proc.devRef .tc main_v105) = A_main_v105 (m ((c.tc : Thread nD τ).loc main_arg0)) := by
  after_reads_simp
  simp only [K_main_v1, K_main_v2, K_main_v3, K_main_v4, K_main_v5, K_main_v6, K_main_cst, K_main_v7, K_main_cst_0, K_main_v8, K_main_cst_1, K_main_v9, K_main_cst_2, K_main_v10, K_main_cst_3, K_main_v11, K_main_v12, K_main_v13, K_main_v14, K_main_v15, K_main_v16, K_main_v17, K_main_v18, K_main_cst_4, K_main_v19, K_main_cst_5, K_main_v20, K_main_cst_6, K_main_v21, K_main_cst_7, K_main_v22, K_main_cst_8, K_main_v23, K_main_v24, K_main_v25, K_main_v26, K_main_v27, K_main_v28, K_main_v29, K_main_v30, K_main_cst_9, K_main_v35, K_main_cst_10, K_main_v37, K_main_cst_11, K_main_v40, K_main_cst_12, K_main_v46, K_main_cst_13, K_main_v48, K_main_cst_14, K_main_v51, K_main_cst_15, K_main_v57, K_main_cst_16, K_main_v63, K_main_cst_17, K_main_v68, K_main_cst_18, K_main_v70, K_main_cst_19, K_main_cst_20, K_main_cst_21, K_main_v84, K_main_cst_22, K_main_v87, K_main_cst_23, K_main_v90, K_main_cst_24, K_main_v93, K_main_cst_25, K_main_call0_v0, K_main_call0_cst, K_main_call0_c, K_main_cst_26, K_main_v98, K_main_cst_27, K_main_call1_v0, K_main_call1_v1, K_main_cst_28, K_main_v112, K_main_c, A_main_v0, A_main_v31, A_main_v32, A_main_v33, A_main_v34, A_main_v36, A_main_v38, A_main_v39, A_main_v41, A_main_v42, A_main_v43, A_main_v44, A_main_v45, A_main_v47, A_main_v49, A_main_v50, A_main_v52, A_main_v53, A_main_v54, A_main_v55, A_main_v56, A_main_v58, A_main_v59, A_main_v60, A_main_v61, A_main_v62, A_main_v64, A_main_v65, A_main_v66, A_main_v67, A_main_v69, A_main_v71, A_main_v72, A_main_v73, A_main_v74, A_main_v75, A_main_v76, A_main_v77, A_main_v78, A_main_v79, A_main_v80, A_main_v81, A_main_v82, A_main_v83, A_main_v85, A_main_v86, A_main_v88, A_main_v89, A_main_v91, A_main_v92, A_main_v94, A_main_v95, A_main_v96, A_main_v97, A_main_v99, A_main_v100, A_main_v101, A_main_v102, A_main_v103, A_main_v104, A_main_v105, A_main_v106, A_main_v107, A_main_v108, A_main_v109, A_main_v110, A_main_v111, id_eq]
  try simp only [TRef.ofBuf_toBuf]
  try simp only [TRef.ofBuf, TRef.toBuf, cast_self]
  with_reducible congr
  all_goals rfl

set_option maxRecDepth 65536 in
set_option maxHeartbeats 1200000 in
/-- The table's column `main_v106` as the operations before the loop leave it. -/
theorem table_v106 : upto hostOps0_4 (after hostOps0_3 (after hostOps0_2 (after hostOps0_1 (after hostOps0 (launchContents m c))))) 7 (Proc.devRef .tc main_v106) = A_main_v106 (m ((c.tc : Thread nD τ).loc main_arg0)) := by
  after_reads_simp
  simp only [K_main_v1, K_main_v2, K_main_v3, K_main_v4, K_main_v5, K_main_v6, K_main_cst, K_main_v7, K_main_cst_0, K_main_v8, K_main_cst_1, K_main_v9, K_main_cst_2, K_main_v10, K_main_cst_3, K_main_v11, K_main_v12, K_main_v13, K_main_v14, K_main_v15, K_main_v16, K_main_v17, K_main_v18, K_main_cst_4, K_main_v19, K_main_cst_5, K_main_v20, K_main_cst_6, K_main_v21, K_main_cst_7, K_main_v22, K_main_cst_8, K_main_v23, K_main_v24, K_main_v25, K_main_v26, K_main_v27, K_main_v28, K_main_v29, K_main_v30, K_main_cst_9, K_main_v35, K_main_cst_10, K_main_v37, K_main_cst_11, K_main_v40, K_main_cst_12, K_main_v46, K_main_cst_13, K_main_v48, K_main_cst_14, K_main_v51, K_main_cst_15, K_main_v57, K_main_cst_16, K_main_v63, K_main_cst_17, K_main_v68, K_main_cst_18, K_main_v70, K_main_cst_19, K_main_cst_20, K_main_cst_21, K_main_v84, K_main_cst_22, K_main_v87, K_main_cst_23, K_main_v90, K_main_cst_24, K_main_v93, K_main_cst_25, K_main_call0_v0, K_main_call0_cst, K_main_call0_c, K_main_cst_26, K_main_v98, K_main_cst_27, K_main_call1_v0, K_main_call1_v1, K_main_cst_28, K_main_v112, K_main_c, A_main_v0, A_main_v31, A_main_v32, A_main_v33, A_main_v34, A_main_v36, A_main_v38, A_main_v39, A_main_v41, A_main_v42, A_main_v43, A_main_v44, A_main_v45, A_main_v47, A_main_v49, A_main_v50, A_main_v52, A_main_v53, A_main_v54, A_main_v55, A_main_v56, A_main_v58, A_main_v59, A_main_v60, A_main_v61, A_main_v62, A_main_v64, A_main_v65, A_main_v66, A_main_v67, A_main_v69, A_main_v71, A_main_v72, A_main_v73, A_main_v74, A_main_v75, A_main_v76, A_main_v77, A_main_v78, A_main_v79, A_main_v80, A_main_v81, A_main_v82, A_main_v83, A_main_v85, A_main_v86, A_main_v88, A_main_v89, A_main_v91, A_main_v92, A_main_v94, A_main_v95, A_main_v96, A_main_v97, A_main_v99, A_main_v100, A_main_v101, A_main_v102, A_main_v103, A_main_v104, A_main_v105, A_main_v106, A_main_v107, A_main_v108, A_main_v109, A_main_v110, A_main_v111, id_eq]
  try simp only [TRef.ofBuf_toBuf]
  try simp only [TRef.ofBuf, TRef.toBuf, cast_self]
  with_reducible congr
  all_goals rfl

set_option maxRecDepth 65536 in
set_option maxHeartbeats 1200000 in
/-- The table's column `main_v107` as the operations before the loop leave it. -/
theorem table_v107 : upto hostOps0_4 (after hostOps0_3 (after hostOps0_2 (after hostOps0_1 (after hostOps0 (launchContents m c))))) 7 (Proc.devRef .tc main_v107) = A_main_v107 (m ((c.tc : Thread nD τ).loc main_arg0)) := by
  after_reads_simp
  simp only [K_main_v1, K_main_v2, K_main_v3, K_main_v4, K_main_v5, K_main_v6, K_main_cst, K_main_v7, K_main_cst_0, K_main_v8, K_main_cst_1, K_main_v9, K_main_cst_2, K_main_v10, K_main_cst_3, K_main_v11, K_main_v12, K_main_v13, K_main_v14, K_main_v15, K_main_v16, K_main_v17, K_main_v18, K_main_cst_4, K_main_v19, K_main_cst_5, K_main_v20, K_main_cst_6, K_main_v21, K_main_cst_7, K_main_v22, K_main_cst_8, K_main_v23, K_main_v24, K_main_v25, K_main_v26, K_main_v27, K_main_v28, K_main_v29, K_main_v30, K_main_cst_9, K_main_v35, K_main_cst_10, K_main_v37, K_main_cst_11, K_main_v40, K_main_cst_12, K_main_v46, K_main_cst_13, K_main_v48, K_main_cst_14, K_main_v51, K_main_cst_15, K_main_v57, K_main_cst_16, K_main_v63, K_main_cst_17, K_main_v68, K_main_cst_18, K_main_v70, K_main_cst_19, K_main_cst_20, K_main_cst_21, K_main_v84, K_main_cst_22, K_main_v87, K_main_cst_23, K_main_v90, K_main_cst_24, K_main_v93, K_main_cst_25, K_main_call0_v0, K_main_call0_cst, K_main_call0_c, K_main_cst_26, K_main_v98, K_main_cst_27, K_main_call1_v0, K_main_call1_v1, K_main_cst_28, K_main_v112, K_main_c, A_main_v0, A_main_v31, A_main_v32, A_main_v33, A_main_v34, A_main_v36, A_main_v38, A_main_v39, A_main_v41, A_main_v42, A_main_v43, A_main_v44, A_main_v45, A_main_v47, A_main_v49, A_main_v50, A_main_v52, A_main_v53, A_main_v54, A_main_v55, A_main_v56, A_main_v58, A_main_v59, A_main_v60, A_main_v61, A_main_v62, A_main_v64, A_main_v65, A_main_v66, A_main_v67, A_main_v69, A_main_v71, A_main_v72, A_main_v73, A_main_v74, A_main_v75, A_main_v76, A_main_v77, A_main_v78, A_main_v79, A_main_v80, A_main_v81, A_main_v82, A_main_v83, A_main_v85, A_main_v86, A_main_v88, A_main_v89, A_main_v91, A_main_v92, A_main_v94, A_main_v95, A_main_v96, A_main_v97, A_main_v99, A_main_v100, A_main_v101, A_main_v102, A_main_v103, A_main_v104, A_main_v105, A_main_v106, A_main_v107, A_main_v108, A_main_v109, A_main_v110, A_main_v111, id_eq]
  try simp only [TRef.ofBuf_toBuf]
  try simp only [TRef.ofBuf, TRef.toBuf, cast_self]
  with_reducible congr
  all_goals rfl

set_option maxRecDepth 65536 in
set_option maxHeartbeats 1200000 in
/-- What @main's operations before the loop leave: the set-up values, number 0, the initial state. -/
theorem entry_holds : Holds (entryContents preI m c) (initState m c) 0 := by
  constructor <;> (simp only [entryContents, afterL_cons, afterL_nil]; after_reads_simp)
  case f_7 =>
    rw [show (initState m c).main_v113_7 = A_main_v100 (m ((c.tc : Thread nD τ).loc main_arg0)) from init_main_v113_7 _]
    simp only [K_main_v1, K_main_v2, K_main_v3, K_main_v4, K_main_v5, K_main_v6, K_main_cst, K_main_v7, K_main_cst_0, K_main_v8, K_main_cst_1, K_main_v9, K_main_cst_2, K_main_v10, K_main_cst_3, K_main_v11, K_main_v12, K_main_v13, K_main_v14, K_main_v15, K_main_v16, K_main_v17, K_main_v18, K_main_cst_4, K_main_v19, K_main_cst_5, K_main_v20, K_main_cst_6, K_main_v21, K_main_cst_7, K_main_v22, K_main_cst_8, K_main_v23, K_main_v24, K_main_v25, K_main_v26, K_main_v27, K_main_v28, K_main_v29, K_main_v30, K_main_cst_9, K_main_v35, K_main_cst_10, K_main_v37, K_main_cst_11, K_main_v40, K_main_cst_12, K_main_v46, K_main_cst_13, K_main_v48, K_main_cst_14, K_main_v51, K_main_cst_15, K_main_v57, K_main_cst_16, K_main_v63, K_main_cst_17, K_main_v68, K_main_cst_18, K_main_v70, K_main_cst_19, K_main_cst_20, K_main_cst_21, K_main_v84, K_main_cst_22, K_main_v87, K_main_cst_23, K_main_v90, K_main_cst_24, K_main_v93, K_main_cst_25, K_main_call0_v0, K_main_call0_cst, K_main_call0_c, K_main_cst_26, K_main_v98, K_main_cst_27, K_main_call1_v0, K_main_call1_v1, K_main_cst_28, K_main_v112, K_main_c, A_main_v0, A_main_v31, A_main_v32, A_main_v33, A_main_v34, A_main_v36, A_main_v38, A_main_v39, A_main_v41, A_main_v42, A_main_v43, A_main_v44, A_main_v45, A_main_v47, A_main_v49, A_main_v50, A_main_v52, A_main_v53, A_main_v54, A_main_v55, A_main_v56, A_main_v58, A_main_v59, A_main_v60, A_main_v61, A_main_v62, A_main_v64, A_main_v65, A_main_v66, A_main_v67, A_main_v69, A_main_v71, A_main_v72, A_main_v73, A_main_v74, A_main_v75, A_main_v76, A_main_v77, A_main_v78, A_main_v79, A_main_v80, A_main_v81, A_main_v82, A_main_v83, A_main_v85, A_main_v86, A_main_v88, A_main_v89, A_main_v91, A_main_v92, A_main_v94, A_main_v95, A_main_v96, A_main_v97, A_main_v99, A_main_v100, A_main_v101, A_main_v102, A_main_v103, A_main_v104, A_main_v105, A_main_v106, A_main_v107, A_main_v108, A_main_v109, A_main_v110, A_main_v111, id_eq]
    simp only [TRef.ofBuf_toBuf]
    simp only [TRef.ofBuf, TRef.toBuf, cast_self]
    with_reducible congr
    all_goals rfl
  case f_8 => rfl
  case n_6 => rfl
  case f_0 =>
    rw [show (initState m c).main_v113_0 = A_main_v108 (m ((c.tc : Thread nD τ).loc main_arg0)) from init_main_v113_0 _]
    have h102 : upto hostOps0_4 (after hostOps0_3 (after hostOps0_2 (after hostOps0_1 (after hostOps0 (launchContents m c))))) 7 (Proc.devRef .tc main_v102) = A_main_v102 (m ((c.tc : Thread nD τ).loc main_arg0)) := table_v102 m c
    have h103 : upto hostOps0_4 (after hostOps0_3 (after hostOps0_2 (after hostOps0_1 (after hostOps0 (launchContents m c))))) 7 (Proc.devRef .tc main_v103) = A_main_v103 (m ((c.tc : Thread nD τ).loc main_arg0)) := table_v103 m c
    have h104 : upto hostOps0_4 (after hostOps0_3 (after hostOps0_2 (after hostOps0_1 (after hostOps0 (launchContents m c))))) 7 (Proc.devRef .tc main_v104) = A_main_v104 (m ((c.tc : Thread nD τ).loc main_arg0)) := table_v104 m c
    have h105 : upto hostOps0_4 (after hostOps0_3 (after hostOps0_2 (after hostOps0_1 (after hostOps0 (launchContents m c))))) 7 (Proc.devRef .tc main_v105) = A_main_v105 (m ((c.tc : Thread nD τ).loc main_arg0)) := table_v105 m c
    have h106 : upto hostOps0_4 (after hostOps0_3 (after hostOps0_2 (after hostOps0_1 (after hostOps0 (launchContents m c))))) 7 (Proc.devRef .tc main_v106) = A_main_v106 (m ((c.tc : Thread nD τ).loc main_arg0)) := table_v106 m c
    have h107 : upto hostOps0_4 (after hostOps0_3 (after hostOps0_2 (after hostOps0_1 (after hostOps0 (launchContents m c))))) 7 (Proc.devRef .tc main_v107) = A_main_v107 (m ((c.tc : Thread nD τ).loc main_arg0)) := table_v107 m c
    unfold A_main_v108
    rw [id_eq]
    exact table_congr h102 h103 h104 h105 h106 h107
  case f_1 => rfl
  case f_2 => rfl
  case f_3 => rfl
  case f_4 => rfl
  case f_5 => rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 10 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v119) = Cert.ReferenceIdeal.Step.R_main_v119 (it c 10)
      ∧ r.2.mem ((c.tc : Thread nD τ).loc main_arg0) = m ((c.tc : Thread nD τ).loc main_arg0) :=
  (θ_run defs _ _).mono (fun _ h c =>
    have hk := holds_iter m c (it c) (h0 c) (hs c) 10
    ⟨(h c).1.trans (out_main_v119_holds hk), (h c).2⟩) (Value.run m ρ)

end Cert.ReferenceIdeal.StepRun

end
-- ==== Proof.Frames.lean ====
/- What the frames say of the three programs: each ends, with its argument unchanged and every semaphore counter at zero. -/
module

public import proofs.«01_k».proof.Defs
public import proofs.«01_k».proof.Proof.Gen.Kernel.Frame
public import proofs.«01_k».proof.Proof.Gen.KernelIdeal.Frame
public import proofs.«01_k».proof.Proof.RefStepRun
public import Idealize.ShloMosaic.Lib.Quiescent

@[expose] public section

noncomputable section

namespace Cert.Proof

open Idealize.ShloMosaic Idealize.SL.Sem

/-- The reference ends from every memory, its argument unchanged and every counter at zero. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.KArgs.lean ====
module

public import proofs.«01_k».proof.Defs
public import proofs.«01_k».proof.Proof.Gen.KernelIdeal.Frame
public import Idealize.ShloMosaic.Lib.Pipeline.Value

@[expose] public section
noncomputable section
namespace Cert.KernelIdeal.Value
open Cert.KernelIdeal Cert.KernelIdeal.Gen Idealize.ShloMosaic Idealize.ShloMosaic.TcCoe Idealize.SL.Sem
variable {F : FTy → Type} [FloatOps F]

/-! The kernel's registers before its rounds, as terms of the channel planes it loads. -/

/-- The kernel's `v4`. -/
def X4 : IVec S160x128 32 := k0_pay18
/-- The kernel's `v20`. -/
def X20 : IVec S160x128 32 := k0_pay19
/-- The kernel's `v44`. -/
def X44 : IVec S160x128 32 := k0_pay20
/-- The kernel's `v61`. -/
def X61 : FVec F S160x128 .f32 := k0_pay21 (F := F) X44 64#32
/-- The kernel's `v86`. -/
def X86 : FVec F S160x128 .f32 := k0_pay22 (F := F) X44
/-- The kernel's `v87`. -/
def X87 : FVec F S160x128 .f32 := k0_pay23 (F := F)
/-- The kernel's `v88`. -/
def X88 : FVec F S160x128 .f32 := k0_pay24 (F := F)
/-- The kernel's `v89`. -/
def X89 : IVec S160x128 32 := k0_pay25
/-- The kernel's `v116`. -/
def X116 : FVec F S160x128 .f32 := k0_pay26 X20 X87 X89
/-- The kernel's `v120`. -/
def X120 : FVec F S160x128 .f32 := k0_pay27 X20 X88
/-- The kernel's `v122`, of what it loads. -/
def X122 (v : ℕ → Vec F S1x160x128 .f32) : FVec F S160x128 .f32 := k0_pay28 (v 0)
/-- The kernel's `v124`, of what it loads. -/
def X124 (v : ℕ → Vec F S1x160x128 .f32) : FVec F S160x128 .f32 := k0_pay29 (v 1)
/-- The kernel's `v125`, of what it loads. -/
def X125 (v : ℕ → Vec F S1x160x128 .f32) : Vec F S1x160x128 .f32 := (v 2)
/-- The kernel's `v147`, of what it loads. -/
def X147 (v : ℕ → Vec F S1x160x128 .f32) : FVec F S160x128 .f32 := k0_pay34 (v 4)
/-- The kernel's `v150`, of what it loads. -/
def X150 (v : ℕ → Vec F S1x160x128 .f32) : FVec F S160x128 .f32 := k0_pay35 X86 X120 (X124 v) (v 3)
/-- The kernel's `v153`, of what it loads. -/
def X153 (v : ℕ → Vec F S1x160x128 .f32) : FVec F S160x128 .f32 := k0_pay36 X61 X116 (X122 v) (X125 v)
/-- The kernel's `v156`, of what it loads. -/
def X156 (v : ℕ → Vec F S1x160x128 .f32) : FVec F S160x128 .f32 := k0_pay37 X86 X120 (X124 v) (v 3)
/-- The kernel's `v159`, of what it loads. -/
def X159 (v : ℕ → Vec F S1x160x128 .f32) : FVec F S160x128 .f32 := k0_pay38 X61 X116 (X122 v) (X125 v)
/-- The kernel's `v164`, of what it loads. -/
def X164 (v : ℕ → Vec F S1x160x128 .f32) : FVec F S160x128 .f32 := k0_pay39 (v 5) (v 6)
/-- The kernel's `v194`, of what it loads. -/
def X194 (v : ℕ → Vec F S1x160x128 .f32) : FVec F S160x128 .f32 := k0_pay40 (X164 v) (v 7) (v 8) (v 9) (v 10) (v 11) (v 12) (v 13) (v 14) (v 15) (v 16)
/-- The kernel's `v224`, of what it loads. -/
def X224 (v : ℕ → Vec F S1x160x128 .f32) : FVec F S160x128 .f32 := k0_pay41 (X194 v) (v 17) (v 18) (v 19) (v 20) (v 21) (v 22) (v 23) (v 24) (v 25) (v 26)
/-- The kernel's `v254`, of what it loads. -/
def X254 (v : ℕ → Vec F S1x160x128 .f32) : FVec F S160x128 .f32 := k0_pay42 (X224 v) (v 27) (v 28) (v 29) (v 30) (v 31) (v 32) (v 33) (v 34) (v 35) (v 36)
/-- The kernel's `v284`, of what it loads. -/
def X284 (v : ℕ → Vec F S1x160x128 .f32) : FVec F S160x128 .f32 := k0_pay43 (X254 v) (v 37) (v 38) (v 39) (v 40) (v 41) (v 42) (v 43) (v 44) (v 45) (v 46)
/-- The kernel's `v314`, of what it loads. -/
def X314 (v : ℕ → Vec F S1x160x128 .f32) : FVec F S160x128 .f32 := k0_pay44 (X284 v) (v 47) (v 48) (v 49) (v 50) (v 51) (v 52) (v 53) (v 54) (v 55) (v 56)
/-- The kernel's `v344`, of what it loads. -/
def X344 (v : ℕ → Vec F S1x160x128 .f32) : FVec F S160x128 .f32 := k0_pay45 (X314 v) (v 57) (v 58) (v 59) (v 60) (v 61) (v 62) (v 63) (v 64) (v 65) (v 66)
/-- The kernel's `v374`, of what it loads. -/
def X374 (v : ℕ → Vec F S1x160x128 .f32) : FVec F S160x128 .f32 := k0_pay46 (X344 v) (v 67) (v 68) (v 69) (v 70) (v 71) (v 72) (v 73) (v 74) (v 75) (v 76)
/-- The kernel's `v398`, of what it loads. -/
def X398 (v : ℕ → Vec F S1x160x128 .f32) : FVec F S160x128 .f32 := k0_pay47 (X374 v) (v 77) (v 78) (v 79) (v 80) (v 81) (v 82) (v 83) (v 84)
/-- The kernel's `v400`. -/
def X400 : IVec S160x128 32 := k0_pay48
/-- The kernel's `v405`, of what it loads. -/
def X405 (v : ℕ → Vec F S1x160x128 .f32) : FVec F S160x128 .f32 := k0_pay50 (X374 v) (v 77) (v 78) (v 79) (v 80) (v 81) (v 82) (v 83) (v 84) (v 84)
/-- The kernel's `v406`, of what it loads. -/
def X406 (v : ℕ → Vec F S1x160x128 .f32) : IVec S160x128 1 := k0_pay51 (X374 v) (v 77) (v 78) (v 79) (v 80) (v 81) (v 82) (v 83) (v 84) (v 84)
/-- The kernel's `v440`, of what it loads. -/
def X440 (v : ℕ → Vec F S1x160x128 .f32) : IVec S160x128 32 := k0_pay56 (X398 v) X400 (X406 v) (v 83) (v 82) (v 81) (v 80)
/-- The kernel's `v445`, of what it loads. -/
def X445 (v : ℕ → Vec F S1x160x128 .f32) : FVec F S160x128 .f32 := k0_pay58 (X398 v) (X405 v) (v 83) (v 82) (v 81) (v 80) (v 79)
/-- The kernel's `v446`, of what it loads. -/
def X446 (v : ℕ → Vec F S1x160x128 .f32) : IVec S160x128 1 := k0_pay59 (X398 v) (v 79)
/-- The kernel's `v480`, of what it loads. -/
def X480 (v : ℕ → Vec F S1x160x128 .f32) : IVec S160x128 32 := k0_pay64 (X398 v) (X440 v) (X446 v) (v 78) (v 77) (v 76) (v 75)
/-- The kernel's `v485`, of what it loads. -/
def X485 (v : ℕ → Vec F S1x160x128 .f32) : FVec F S160x128 .f32 := k0_pay66 (X398 v) (X445 v) (v 78) (v 77) (v 76) (v 75) (v 74)
/-- The kernel's `v486`, of what it loads. -/
def X486 (v : ℕ → Vec F S1x160x128 .f32) : IVec S160x128 1 := k0_pay67 (X398 v) (v 74)
/-- The kernel's `v520`, of what it loads. -/
def X520 (v : ℕ → Vec F S1x160x128 .f32) : IVec S160x128 32 := k0_pay72 (X398 v) (X480 v) (X486 v) (v 73) (v 72) (v 71) (v 70)
/-- The kernel's `v525`, of what it loads. -/
def X525 (v : ℕ → Vec F S1x160x128 .f32) : FVec F S160x128 .f32 := k0_pay74 (X398 v) (X485 v) (v 73) (v 72) (v 71) (v 70) (v 69)
/-- The kernel's `v526`, of what it loads. -/
def X526 (v : ℕ → Vec F S1x160x128 .f32) : IVec S160x128 1 := k0_pay75 (X398 v) (v 69)
/-- The kernel's `v560`, of what it loads. -/
def X560 (v : ℕ → Vec F S1x160x128 .f32) : IVec S160x128 32 := k0_pay80 (X398 v) (X520 v) (X526 v) (v 68) (v 67) (v 66) (v 65)
/-- The kernel's `v565`, of what it loads. -/
def X565 (v : ℕ → Vec F S1x160x128 .f32) : FVec F S160x128 .f32 := k0_pay82 (X398 v) (X525 v) (v 68) (v 67) (v 66) (v 65) (v 64)
/-- The kernel's `v566`, of what it loads. -/
def X566 (v : ℕ → Vec F S1x160x128 .f32) : IVec S160x128 1 := k0_pay83 (X398 v) (v 64)
/-- The kernel's `v600`, of what it loads. -/
def X600 (v : ℕ → Vec F S1x160x128 .f32) : IVec S160x128 32 := k0_pay88 (X398 v) (X560 v) (X566 v) (v 63) (v 62) (v 61) (v 60)
/-- The kernel's `v605`, of what it loads. -/
def X605 (v : ℕ → Vec F S1x160x128 .f32) : FVec F S160x128 .f32 := k0_pay90 (X398 v) (X565 v) (v 63) (v 62) (v 61) (v 60) (v 59)
/-- The kernel's `v606`, of what it loads. -/
def X606 (v : ℕ → Vec F S1x160x128 .f32) : IVec S160x128 1 := k0_pay91 (X398 v) (v 59)
/-- The kernel's `v640`, of what it loads. -/
def X640 (v : ℕ → Vec F S1x160x128 .f32) : IVec S160x128 32 := k0_pay96 (X398 v) (X600 v) (X606 v) (v 58) (v 57) (v 56) (v 55)
/-- The kernel's `v645`, of what it loads. -/
def X645 (v : ℕ → Vec F S1x160x128 .f32) : FVec F S160x128 .f32 := k0_pay98 (X398 v) (X605 v) (v 58) (v 57) (v 56) (v 55) (v 54)
/-- The kernel's `v646`, of what it loads. -/
def X646 (v : ℕ → Vec F S1x160x128 .f32) : IVec S160x128 1 := k0_pay99 (X398 v) (v 54)
/-- The kernel's `v680`, of what it loads. -/
def X680 (v : ℕ → Vec F S1x160x128 .f32) : IVec S160x128 32 := k0_pay104 (X398 v) (X640 v) (X646 v) (v 53) (v 52) (v 51) (v 50)
/-- The kernel's `v685`, of what it loads. -/
def X685 (v : ℕ → Vec F S1x160x128 .f32) : FVec F S160x128 .f32 := k0_pay106 (X398 v) (X645 v) (v 53) (v 52) (v 51) (v 50) (v 49)
/-- The kernel's `v686`, of what it loads. -/
def X686 (v : ℕ → Vec F S1x160x128 .f32) : IVec S160x128 1 := k0_pay107 (X398 v) (v 49)
/-- The kernel's `v720`, of what it loads. -/
def X720 (v : ℕ → Vec F S1x160x128 .f32) : IVec S160x128 32 := k0_pay112 (X398 v) (X680 v) (X686 v) (v 48) (v 47) (v 46) (v 45)
/-- The kernel's `v725`, of what it loads. -/
def X725 (v : ℕ → Vec F S1x160x128 .f32) : FVec F S160x128 .f32 := k0_pay114 (X398 v) (X685 v) (v 48) (v 47) (v 46) (v 45) (v 44)
/-- The kernel's `v726`, of what it loads. -/
def X726 (v : ℕ → Vec F S1x160x128 .f32) : IVec S160x128 1 := k0_pay115 (X398 v) (v 44)
/-- The kernel's `v760`, of what it loads. -/
def X760 (v : ℕ → Vec F S1x160x128 .f32) : IVec S160x128 32 := k0_pay120 (X398 v) (X720 v) (X726 v) (v 43) (v 42) (v 41) (v 40)
/-- The kernel's `v765`, of what it loads. -/
def X765 (v : ℕ → Vec F S1x160x128 .f32) : FVec F S160x128 .f32 := k0_pay122 (X398 v) (X725 v) (v 43) (v 42) (v 41) (v 40) (v 39)
/-- The kernel's `v766`, of what it loads. -/
def X766 (v : ℕ → Vec F S1x160x128 .f32) : IVec S160x128 1 := k0_pay123 (X398 v) (v 39)
/-- The kernel's `v800`, of what it loads. -/
def X800 (v : ℕ → Vec F S1x160x128 .f32) : IVec S160x128 32 := k0_pay128 (X398 v) (X760 v) (X766 v) (v 38) (v 37) (v 36) (v 35)
/-- The kernel's `v805`, of what it loads. -/
def X805 (v : ℕ → Vec F S1x160x128 .f32) : FVec F S160x128 .f32 := k0_pay130 (X398 v) (X765 v) (v 38) (v 37) (v 36) (v 35) (v 34)
/-- The kernel's `v806`, of what it loads. -/
def X806 (v : ℕ → Vec F S1x160x128 .f32) : IVec S160x128 1 := k0_pay131 (X398 v) (v 34)
/-- The kernel's `v840`, of what it loads. -/
def X840 (v : ℕ → Vec F S1x160x128 .f32) : IVec S160x128 32 := k0_pay136 (X398 v) (X800 v) (X806 v) (v 33) (v 32) (v 31) (v 30)
/-- The kernel's `v845`, of what it loads. -/
def X845 (v : ℕ → Vec F S1x160x128 .f32) : FVec F S160x128 .f32 := k0_pay138 (X398 v) (X805 v) (v 33) (v 32) (v 31) (v 30) (v 29)
/-- The kernel's `v846`, of what it loads. -/
def X846 (v : ℕ → Vec F S1x160x128 .f32) : IVec S160x128 1 := k0_pay139 (X398 v) (v 29)
/-- The kernel's `v880`, of what it loads. -/
def X880 (v : ℕ → Vec F S1x160x128 .f32) : IVec S160x128 32 := k0_pay144 (X398 v) (X840 v) (X846 v) (v 28) (v 27) (v 26) (v 25)
/-- The kernel's `v885`, of what it loads. -/
def X885 (v : ℕ → Vec F S1x160x128 .f32) : FVec F S160x128 .f32 := k0_pay146 (X398 v) (X845 v) (v 28) (v 27) (v 26) (v 25) (v 24)
/-- The kernel's `v886`, of what it loads. -/
def X886 (v : ℕ → Vec F S1x160x128 .f32) : IVec S160x128 1 := k0_pay147 (X398 v) (v 24)
/-- The kernel's `v920`, of what it loads. -/
def X920 (v : ℕ → Vec F S1x160x128 .f32) : IVec S160x128 32 := k0_pay152 (X398 v) (X880 v) (X886 v) (v 23) (v 22) (v 21) (v 20)
/-- The kernel's `v925`, of what it loads. -/
def X925 (v : ℕ → Vec F S1x160x128 .f32) : FVec F S160x128 .f32 := k0_pay154 (X398 v) (X885 v) (v 23) (v 22) (v 21) (v 20) (v 19)
/-- The kernel's `v926`, of what it loads. -/
def X926 (v : ℕ → Vec F S1x160x128 .f32) : IVec S160x128 1 := k0_pay155 (X398 v) (v 19)
/-- The kernel's `v960`, of what it loads. -/
def X960 (v : ℕ → Vec F S1x160x128 .f32) : IVec S160x128 32 := k0_pay160 (X398 v) (X920 v) (X926 v) (v 18) (v 17) (v 16) (v 15)
/-- The kernel's `v965`, of what it loads. -/
def X965 (v : ℕ → Vec F S1x160x128 .f32) : FVec F S160x128 .f32 := k0_pay162 (X398 v) (X925 v) (v 18) (v 17) (v 16) (v 15) (v 14)
/-- The kernel's `v966`, of what it loads. -/
def X966 (v : ℕ → Vec F S1x160x128 .f32) : IVec S160x128 1 := k0_pay163 (X398 v) (v 14)
/-- The kernel's `v1000`, of what it loads. -/
def X1000 (v : ℕ → Vec F S1x160x128 .f32) : IVec S160x128 32 := k0_pay168 (X398 v) (X960 v) (X966 v) (v 13) (v 12) (v 11) (v 10)
/-- The kernel's `v1005`, of what it loads. -/
def X1005 (v : ℕ → Vec F S1x160x128 .f32) : FVec F S160x128 .f32 := k0_pay170 (X398 v) (X965 v) (v 13) (v 12) (v 11) (v 10) (v 9)
/-- The kernel's `v1006`, of what it loads. -/
def X1006 (v : ℕ → Vec F S1x160x128 .f32) : IVec S160x128 1 := k0_pay171 (X398 v) (v 9)
/-- The kernel's `v1041`, of what it loads. -/
def X1041 (v : ℕ → Vec F S1x160x128 .f32) : FVec F S160x128 .f32 := k0_pay176 (X398 v) (X1000 v) (X1006 v) (v 8) (v 7) (v 6) (v 5)
/-- The kernel's `v1046`, of what it loads. -/
def X1046 (v : ℕ → Vec F S1x160x128 .f32) : FVec F S160x128 .f32 := k0_pay177 (X147 v) (X398 v) (X1005 v) (v 8) (v 7) (v 6) (v 5)
/-- The kernel's `v1047`, of what it loads. -/
def X1047 (v : ℕ → Vec F S1x160x128 .f32) : FVec F S160x128 .f32 := k0_pay178 (X150 v) (X156 v)
/-- The offset of a channel plane lies inside the block. -/
theorem ld_inb (ch : ℕ) : ∀ a, (![min ch 84, 0, 0] : Fin 3 → ℕ) a + S1x160x128.size a ≤ S85x160x128.size a := by
  have h : min ch 84 ≤ 84 := Nat.min_le_right _ _
  intro a; fin_cases a <;> simp [S1x160x128, S85x160x128] <;> omega

/-- Channel plane `ch` as the kernel loads it. -/
def LD (arg0 : Memref sig .tc .vmem S85x160x128 .f32) (harg0 : arg0.IsWhole) (x0 : Vec F S85x160x128 .f32) (ch : ℕ) : Vec F S1x160x128 .f32 :=
  View.readAt (Elt F) arg0.view (Rect.unit (s := S85x160x128) ![min ch 84, 0, 0] S1x160x128.size (ld_inb ch)).toLoadRect (harg0.unread x0)

/-- The lane numbers of one output row. -/
def X1050 : IVec S1x128 32 := iota .tc S1x128 32 [1] iota_S1x128_d1_w32

/-- The state before round `k`: the scores the rounds carry and the rows written so far. -/
def stK (c : Dev nD) (arg0 : Memref sig .tc .vmem S85x160x128 .f32) (harg0 : arg0.IsWhole) (arg1 : Memref sig .tc .vmem S10x128 .f32) (harg1 : arg1.IsWhole) (v : ℕ → Vec F S1x160x128 .f32) (k : ℕ) :=
  st_k0_t1 (F := F) Variants.none c none arg0 harg0 arg1 harg1 X4 (X150 v) (X153 v) (X156 v) (X159 v) (X1041 v) (X1046 v) (X1047 v) X1050 (X1046 v) k

/-- What the body writes is what its rounds write. -/
theorem run_eq (c : Dev nD) (arg0 : Memref sig .tc .vmem S85x160x128 .f32) (harg0 : arg0.IsWhole) (arg1 : Memref sig .tc .vmem S10x128 .f32) (harg1 : arg1.IsWhole)
    (x0 : Vec F S85x160x128 .f32) : (kernelRun0_A c arg0 harg0 arg1 harg1 x0).1 = (stK c arg0 harg0 arg1 harg1 (LD arg0 harg0 x0) k0_t1_loop.trips).2 := by
  unfold kernelRun0_A
  dsimp only
  sl_unfold_words
  rfl

end Cert.KernelIdeal.Value
-- ==== Proof.KChains.lean ====
module

public import proofs.«01_k».proof.Defs
public import proofs.«01_k».proof.Proof.Gen.KernelIdeal.Frame
public import proofs.«01_k».proof.Proof.KArgs
public import Idealize.ShloMosaic.Lib.Pipeline.Value

@[expose] public section
noncomputable section
namespace Cert.KernelIdeal.Value
open Cert.KernelIdeal Cert.KernelIdeal.Gen Idealize.ShloMosaic Idealize.ShloMosaic.TcCoe Idealize.SL.Sem
variable {F : FTy → Type} [FloatOps F]

/-! The kernel's three runs over the eighty class planes as recursions. -/

/-- Channel plane `c` as a flat plane. -/
def CH (v : ℕ → Vec F S1x160x128 .f32) (c : ℕ) : FVec F S160x128 .f32 := shapeCast S160x128 (v c) shapeCasts_S1x160x128_S160x128

/-- The maximum of the first `n + 1` class planes. -/
def MX (v : ℕ → Vec F S1x160x128 .f32) : ℕ → FVec F S160x128 .f32
  | 0 => CH v 5
  | n + 1 => maximumf (MX v n) (CH v (6 + n))

/-- The sum of the exponentials of the last `n` class planes, shifted by `M`. -/
def SM (v : ℕ → Vec F S1x160x128 .f32) (M : FVec F S160x128 .f32) : ℕ → FVec F S160x128 .f32
  | 0 => broadcast S160x128 (Scalar.ofBits .f32 0x00000000#32)
  | n + 1 => addf (SM v M n) (exp (subf (CH v (84 - n)) M))

/-- The least of the last `n` classes whose plane reaches `M`, eighty when none does. -/
def CL (v : ℕ → Vec F S1x160x128 .f32) (M : FVec F S160x128 .f32) : ℕ → IVec S160x128 32
  | 0 => broadcast S160x128 80#32
  | n + 1 => select (cmpf .oge (CH v (84 - n)) M) (broadcast S160x128 (BitVec.ofNat 32 (79 - n))) (CL v M n)

theorem X164_eq (v : ℕ → Vec F S1x160x128 .f32) : X164 v = MX v 1 := by
  unfold X164; rfl
theorem X194_eq (v : ℕ → Vec F S1x160x128 .f32) : X194 v = MX v 11 := by
  unfold X194; rw [X164_eq v]; rfl
theorem X224_eq (v : ℕ → Vec F S1x160x128 .f32) : X224 v = MX v 21 := by
  unfold X224; rw [X194_eq v]; rfl
theorem X254_eq (v : ℕ → Vec F S1x160x128 .f32) : X254 v = MX v 31 := by
  unfold X254; rw [X224_eq v]; rfl
theorem X284_eq (v : ℕ → Vec F S1x160x128 .f32) : X284 v = MX v 41 := by
  unfold X284; rw [X254_eq v]; rfl
theorem X314_eq (v : ℕ → Vec F S1x160x128 .f32) : X314 v = MX v 51 := by
  unfold X314; rw [X284_eq v]; rfl
theorem X344_eq (v : ℕ → Vec F S1x160x128 .f32) : X344 v = MX v 61 := by
  unfold X344; rw [X314_eq v]; rfl
theorem X374_eq (v : ℕ → Vec F S1x160x128 .f32) : X374 v = MX v 71 := by
  unfold X374; rw [X344_eq v]; rfl
theorem X398_eq (v : ℕ → Vec F S1x160x128 .f32) : X398 v = MX v 79 := by
  unfold X398; rw [X374_eq v]; rfl
theorem X405_eq (v : ℕ → Vec F S1x160x128 .f32) : X405 v = SM v (X398 v) 1 := rfl
theorem X406_eq (v : ℕ → Vec F S1x160x128 .f32) : X406 v = cmpf .oge (CH v 84) (X398 v) := rfl

theorem X440_eq (v : ℕ → Vec F S1x160x128 .f32) : X440 v = CL v (X398 v) 5 := by
  unfold X440; rw [X406_eq v]; generalize X398 v = M; rfl
theorem X445_eq (v : ℕ → Vec F S1x160x128 .f32) : X445 v = SM v (X398 v) 6 := by
  unfold X445; rw [X405_eq v]; generalize X398 v = M; rfl
theorem X446_eq (v : ℕ → Vec F S1x160x128 .f32) : X446 v = cmpf .oge (CH v 79) (X398 v) := rfl
theorem X480_eq (v : ℕ → Vec F S1x160x128 .f32) : X480 v = CL v (X398 v) 10 := by
  unfold X480; rw [X446_eq v, X440_eq v]; generalize X398 v = M; rfl
theorem X485_eq (v : ℕ → Vec F S1x160x128 .f32) : X485 v = SM v (X398 v) 11 := by
  unfold X485; rw [X445_eq v]; generalize X398 v = M; rfl
theorem X486_eq (v : ℕ → Vec F S1x160x128 .f32) : X486 v = cmpf .oge (CH v 74) (X398 v) := rfl
theorem X520_eq (v : ℕ → Vec F S1x160x128 .f32) : X520 v = CL v (X398 v) 15 := by
  unfold X520; rw [X486_eq v, X480_eq v]; generalize X398 v = M; rfl
theorem X525_eq (v : ℕ → Vec F S1x160x128 .f32) : X525 v = SM v (X398 v) 16 := by
  unfold X525; rw [X485_eq v]; generalize X398 v = M; rfl
theorem X526_eq (v : ℕ → Vec F S1x160x128 .f32) : X526 v = cmpf .oge (CH v 69) (X398 v) := rfl
theorem X560_eq (v : ℕ → Vec F S1x160x128 .f32) : X560 v = CL v (X398 v) 20 := by
  unfold X560; rw [X526_eq v, X520_eq v]; generalize X398 v = M; rfl
theorem X565_eq (v : ℕ → Vec F S1x160x128 .f32) : X565 v = SM v (X398 v) 21 := by
  unfold X565; rw [X525_eq v]; generalize X398 v = M; rfl
theorem X566_eq (v : ℕ → Vec F S1x160x128 .f32) : X566 v = cmpf .oge (CH v 64) (X398 v) := rfl
theorem X600_eq (v : ℕ → Vec F S1x160x128 .f32) : X600 v = CL v (X398 v) 25 := by
  unfold X600; rw [X566_eq v, X560_eq v]; generalize X398 v = M; rfl
theorem X605_eq (v : ℕ → Vec F S1x160x128 .f32) : X605 v = SM v (X398 v) 26 := by
  unfold X605; rw [X565_eq v]; generalize X398 v = M; rfl
theorem X606_eq (v : ℕ → Vec F S1x160x128 .f32) : X606 v = cmpf .oge (CH v 59) (X398 v) := rfl
theorem X640_eq (v : ℕ → Vec F S1x160x128 .f32) : X640 v = CL v (X398 v) 30 := by
  unfold X640; rw [X606_eq v, X600_eq v]; generalize X398 v = M; rfl
theorem X645_eq (v : ℕ → Vec F S1x160x128 .f32) : X645 v = SM v (X398 v) 31 := by
  unfold X645; rw [X605_eq v]; generalize X398 v = M; rfl
theorem X646_eq (v : ℕ → Vec F S1x160x128 .f32) : X646 v = cmpf .oge (CH v 54) (X398 v) := rfl
theorem X680_eq (v : ℕ → Vec F S1x160x128 .f32) : X680 v = CL v (X398 v) 35 := by
  unfold X680; rw [X646_eq v, X640_eq v]; generalize X398 v = M; rfl
theorem X685_eq (v : ℕ → Vec F S1x160x128 .f32) : X685 v = SM v (X398 v) 36 := by
  unfold X685; rw [X645_eq v]; generalize X398 v = M; rfl
theorem X686_eq (v : ℕ → Vec F S1x160x128 .f32) : X686 v = cmpf .oge (CH v 49) (X398 v) := rfl
theorem X720_eq (v : ℕ → Vec F S1x160x128 .f32) : X720 v = CL v (X398 v) 40 := by
  unfold X720; rw [X686_eq v, X680_eq v]; generalize X398 v = M; rfl
theorem X725_eq (v : ℕ → Vec F S1x160x128 .f32) : X725 v = SM v (X398 v) 41 := by
  unfold X725; rw [X685_eq v]; generalize X398 v = M; rfl
theorem X726_eq (v : ℕ → Vec F S1x160x128 .f32) : X726 v = cmpf .oge (CH v 44) (X398 v) := rfl
theorem X760_eq (v : ℕ → Vec F S1x160x128 .f32) : X760 v = CL v (X398 v) 45 := by
  unfold X760; rw [X726_eq v, X720_eq v]; generalize X398 v = M; rfl
theorem X765_eq (v : ℕ → Vec F S1x160x128 .f32) : X765 v = SM v (X398 v) 46 := by
  unfold X765; rw [X725_eq v]; generalize X398 v = M; rfl
theorem X766_eq (v : ℕ → Vec F S1x160x128 .f32) : X766 v = cmpf .oge (CH v 39) (X398 v) := rfl
theorem X800_eq (v : ℕ → Vec F S1x160x128 .f32) : X800 v = CL v (X398 v) 50 := by
  unfold X800; rw [X766_eq v, X760_eq v]; generalize X398 v = M; rfl
theorem X805_eq (v : ℕ → Vec F S1x160x128 .f32) : X805 v = SM v (X398 v) 51 := by
  unfold X805; rw [X765_eq v]; generalize X398 v = M; rfl
theorem X806_eq (v : ℕ → Vec F S1x160x128 .f32) : X806 v = cmpf .oge (CH v 34) (X398 v) := rfl
theorem X840_eq (v : ℕ → Vec F S1x160x128 .f32) : X840 v = CL v (X398 v) 55 := by
  unfold X840; rw [X806_eq v, X800_eq v]; generalize X398 v = M; rfl
theorem X845_eq (v : ℕ → Vec F S1x160x128 .f32) : X845 v = SM v (X398 v) 56 := by
  unfold X845; rw [X805_eq v]; generalize X398 v = M; rfl
theorem X846_eq (v : ℕ → Vec F S1x160x128 .f32) : X846 v = cmpf .oge (CH v 29) (X398 v) := rfl
theorem X880_eq (v : ℕ → Vec F S1x160x128 .f32) : X880 v = CL v (X398 v) 60 := by
  unfold X880; rw [X846_eq v, X840_eq v]; generalize X398 v = M; rfl
theorem X885_eq (v : ℕ → Vec F S1x160x128 .f32) : X885 v = SM v (X398 v) 61 := by
  unfold X885; rw [X845_eq v]; generalize X398 v = M; rfl
theorem X886_eq (v : ℕ → Vec F S1x160x128 .f32) : X886 v = cmpf .oge (CH v 24) (X398 v) := rfl
theorem X920_eq (v : ℕ → Vec F S1x160x128 .f32) : X920 v = CL v (X398 v) 65 := by
  unfold X920; rw [X886_eq v, X880_eq v]; generalize X398 v = M; rfl
theorem X925_eq (v : ℕ → Vec F S1x160x128 .f32) : X925 v = SM v (X398 v) 66 := by
  unfold X925; rw [X885_eq v]; generalize X398 v = M; rfl
theorem X926_eq (v : ℕ → Vec F S1x160x128 .f32) : X926 v = cmpf .oge (CH v 19) (X398 v) := rfl
theorem X960_eq (v : ℕ → Vec F S1x160x128 .f32) : X960 v = CL v (X398 v) 70 := by
  unfold X960; rw [X926_eq v, X920_eq v]; generalize X398 v = M; rfl
theorem X965_eq (v : ℕ → Vec F S1x160x128 .f32) : X965 v = SM v (X398 v) 71 := by
  unfold X965; rw [X925_eq v]; generalize X398 v = M; rfl
theorem X966_eq (v : ℕ → Vec F S1x160x128 .f32) : X966 v = cmpf .oge (CH v 14) (X398 v) := rfl
theorem X1000_eq (v : ℕ → Vec F S1x160x128 .f32) : X1000 v = CL v (X398 v) 75 := by
  unfold X1000; rw [X966_eq v, X960_eq v]; generalize X398 v = M; rfl
theorem X1005_eq (v : ℕ → Vec F S1x160x128 .f32) : X1005 v = SM v (X398 v) 76 := by
  unfold X1005; rw [X965_eq v]; generalize X398 v = M; rfl
theorem X1006_eq (v : ℕ → Vec F S1x160x128 .f32) : X1006 v = cmpf .oge (CH v 9) (X398 v) := rfl
theorem X1041_eq (v : ℕ → Vec F S1x160x128 .f32) : X1041 v = sitofp .f32 (CL v (X398 v) 80) := by
  unfold X1041; rw [X1006_eq v, X1000_eq v]; generalize X398 v = M; rfl
theorem X1046_eq (v : ℕ → Vec F S1x160x128 .f32) : X1046 v = select (cmpf .oge (divf (X147 v) (SM v (X398 v) 80)) (broadcast S160x128 (Scalar.ofBits .f32 0x3D4CCCCD#32))) (divf (X147 v) (SM v (X398 v) 80)) (broadcast S160x128 (Scalar.ofBits .f32 0xBF800000#32)) := by
  unfold X1046; rw [X1005_eq v]; generalize X398 v = M; rfl

end Cert.KernelIdeal.Value
-- ==== Proof.KTrip.lean ====
module

public import proofs.«01_k».proof.Defs
public import proofs.«01_k».proof.Proof.Gen.KernelIdeal.Frame
public import proofs.«01_k».proof.Proof.KChains
public import Idealize.ShloMosaic.Lib.Pipeline.Value
public import Idealize.ShloMosaic.Lib.Pointwise

@[expose] public section
noncomputable section
namespace Cert.KernelIdeal.Value
open Cert.KernelIdeal Cert.KernelIdeal.Gen Idealize.ShloMosaic Idealize.ShloMosaic.TcCoe Idealize.SL.Sem
variable {F : FTy → Type} [FloatOps F]

/-! One round of the kernel: the scores it hands on and the row it writes. -/

/-- The scores a round hands on. -/
def kNext (v4 : IVec S160x128 32) (v150 v153 v156 v159 v1047 acc : FVec F S160x128 .f32) : FVec F S160x128 .f32 :=
  k0_pay13 v150 v153 v156 v159 (k0_pay1 v153 v159 v1047) acc (k0_pay3 v4 acc) (k0_pay5 v4 v150 acc) (k0_pay6 v4 v153 acc) (k0_pay8 v4 v159 acc) (k0_pay11 v4 v150 v153 v156 v159 acc) (k0_pay12 v4 v156 acc)

/-- The row a round writes. -/
def kRow (v4 : IVec S160x128 32) (v150 v153 v156 v159 v1041 v1046 : FVec F S160x128 .f32) (v1050 : IVec S1x128 32) (acc : FVec F S160x128 .f32) : FVec F S1x128 .f32 :=
  k0_pay2 (k0_pay9 v4 v1046 acc) (k0_pay10 v4 v1041 acc) (k0_pay14 (k0_pay9 v4 v1046 acc)) (k0_pay15 v1050 (k0_pay5 v4 v150 acc) (k0_pay6 v4 v153 acc) (k0_pay7 v4 v156 acc) (k0_pay9 v4 v1046 acc)) (k0_pay16 v1050) (k0_pay17 (k0_pay8 v4 v159 acc) (k0_pay9 v4 v1046 acc))

theorem row_off (k : ℕ) (hk : k < 10) : BitVec.toNat (Scalar.indexCast (Scf.iv 0#32 1#32 k)) = k := by
  interval_cases k <;> rfl

theorem row_inb (k : ℕ) (hk : k < 10) : ∀ a, (![k, 0] : Fin 2 → ℕ) a + S1x128.size a ≤ S10x128.size a := by
  intro a; fin_cases a <;> simp [S1x128, S10x128] <;> omega

theorem piece_congr {o o' : Fin 2 → ℕ} (ho : o = o') (h : ∀ a, o a + S1x128.size a ≤ S10x128.size a) (h' : ∀ a, o' a + S1x128.size a ≤ S10x128.size a) (w : FVec F S1x128 .f32) :
    (⟨Rect.unit (s := S10x128) o S1x128.size h, w⟩ : View.Piece (Elt F) S10x128 .f32) = ⟨Rect.unit (s := S10x128) o' S1x128.size h', w⟩ := by
  subst ho; rfl

theorem tripR_eq (𝒱 : Variants) (c : Dev nD) (bd : Option 𝒱.V) (arg0 : Memref sig .tc .vmem S85x160x128 .f32) (harg0 : arg0.IsWhole) (arg1 : Memref sig .tc .vmem S10x128 .f32) (harg1 : arg1.IsWhole) (v4 : IVec S160x128 32) (v150 : FVec F S160x128 .f32) (v153 : FVec F S160x128 .f32) (v156 : FVec F S160x128 .f32) (v159 : FVec F S160x128 .f32) (v1041 : FVec F S160x128 .f32) (v1046 : FVec F S160x128 .f32) (v1047 : FVec F S160x128 .f32) (v1050 : IVec S1x128 32) (k : Fin k0_t1_loop.trips) (acc : FVec F S160x128 .f32) :
    tripR_k0_t1 𝒱 c bd arg0 harg0 arg1 harg1 v4 v150 v153 v156 v159 v1041 v1046 v1047 v1050 k acc = kNext v4 v150 v153 v156 v159 v1047 acc := by
  unfold tripR_k0_t1 trip_k0_t1
  dsimp only
  sl_unfold_words
  rfl

theorem tripL_eq (𝒱 : Variants) (c : Dev nD) (bd : Option 𝒱.V) (arg0 : Memref sig .tc .vmem S85x160x128 .f32) (harg0 : arg0.IsWhole) (arg1 : Memref sig .tc .vmem S10x128 .f32) (harg1 : arg1.IsWhole) (v4 : IVec S160x128 32) (v150 : FVec F S160x128 .f32) (v153 : FVec F S160x128 .f32) (v156 : FVec F S160x128 .f32) (v159 : FVec F S160x128 .f32) (v1041 : FVec F S160x128 .f32) (v1046 : FVec F S160x128 .f32) (v1047 : FVec F S160x128 .f32) (v1050 : IVec S1x128 32) (k : Fin k0_t1_loop.trips) (hk : k.val < 10) (acc : FVec F S160x128 .f32) :
    tripL_k0_t1 𝒱 c bd arg0 harg0 arg1 harg1 v4 v150 v153 v156 v159 v1041 v1046 v1047 v1050 k acc
      = [⟨Rect.unit (s := S10x128) ![k.val, 0] S1x128.size (row_inb k.val hk), kRow v4 v150 v153 v156 v159 v1041 v1046 v1050 acc⟩] := by
  unfold tripL_k0_t1 trip_k0_t1
  dsimp only
  sl_unfold_words
  congr 1
  exact piece_congr (by dsimp only; rw [row_off _ hk]) _ _ _

theorem trips_eq : k0_t1_loop.trips = 10 := by rfl

/-- The scores before round `k`. -/
def scK (v : ℕ → Vec F S1x160x128 .f32) : ℕ → FVec F S160x128 .f32
  | 0 => X1046 v
  | k + 1 => kNext X4 (X150 v) (X153 v) (X156 v) (X159 v) (X1047 v) (scK v k)

/-- The row round `k` writes. -/
def rowK (v : ℕ → Vec F S1x160x128 .f32) (k : ℕ) : FVec F S1x128 .f32 :=
  kRow X4 (X150 v) (X153 v) (X156 v) (X159 v) (X1041 v) (X1046 v) X1050 (scK v k)

section
variable (c : Dev nD) (arg0 : Memref sig .tc .vmem S85x160x128 .f32) (harg0 : arg0.IsWhole) (arg1 : Memref sig .tc .vmem S10x128 .f32) (harg1 : arg1.IsWhole) (v : ℕ → Vec F S1x160x128 .f32)

theorem stK_succ (k : ℕ) (hk : k < 10) :
    stK c arg0 harg0 arg1 harg1 v (k + 1) = (kNext X4 (X150 v) (X153 v) (X156 v) (X159 v) (X1047 v) (stK c arg0 harg0 arg1 harg1 v k).1,
      ⟨Rect.unit (s := S10x128) ![k, 0] S1x128.size (row_inb k hk), kRow X4 (X150 v) (X153 v) (X156 v) (X159 v) (X1041 v) (X1046 v) X1050 (stK c arg0 harg0 arg1 harg1 v k).1⟩ :: (stK c arg0 harg0 arg1 harg1 v k).2) := by
  have hk' : k < k0_t1_loop.trips := hk
  unfold stK
  rw [st_k0_t1_succ Variants.none c none arg0 harg0 arg1 harg1 _ _ _ _ _ _ _ _ _ _ ⟨k, hk'⟩]
  rw [tripR_eq, tripL_eq _ _ _ _ _ _ _ _ _ _ _ _ _ _ _ _ _ hk]
  rfl

theorem stK_fst (k : ℕ) (hk : k ≤ 10) : (stK c arg0 harg0 arg1 harg1 v k).1 = scK v k := by
  induction k with
  | zero => rfl
  | succ k ih => rw [stK_succ _ _ _ _ _ _ k (by omega), scK, ih (by omega)]

theorem row_emb (k : ℕ) (hk : k < 10) (j : Fin 128) :
    (Rect.unit (s := S10x128) ![k, 0] S1x128.size (row_inb k hk)).emb (ix2 (0 : Fin 1) j) = (ix2 (⟨k, hk⟩ : Fin 10) j : S10x128.Idx) := by
  funext a
  match a with
  | ⟨0, _⟩ => exact Fin.ext (by show k + 1 * 0 = k; omega)
  | ⟨1, _⟩ => exact Fin.ext (by show 0 + 1 * j.val = j.val; omega)

/-- The row a fixed round wrote is what the output holds there after the last. -/
theorem canon_rows (n : ℕ) (hn : n ≤ 10) (k : ℕ) (hk : k < n) (j : Fin 128) :
    View.canon (stK c arg0 harg0 arg1 harg1 v n).2 (ix2 (⟨k, by omega⟩ : Fin 10) j) = rowK v k (ix2 (0 : Fin 1) j) := by
  induction n with
  | zero => omega
  | succ n ih =>
    rw [stK_succ _ _ _ _ _ _ n (by omega), stK_fst _ _ _ _ _ _ n (by omega)]
    by_cases h : k = n
    · subst h
      rw [← row_emb k (by omega) j]
      exact View.canon_cons_emb _ _ _ _
    · rw [View.canon_cons_of_not_mem]
      · exact ih (by omega) (by omega)
      · rw [Rect.mem_set_unit]
        intro hm
        have := hm 0
        simp at this
        omega

/-- The body's output at a row and a lane. -/
theorem out_apply (x0 : Vec F S85x160x128 .f32) (k : Fin 10) (j : Fin 128) :
    out0_A_1 c arg0 harg0 arg1 harg1 x0 (ix2 k j) = rowK (LD arg0 harg0 x0) k.val (ix2 (0 : Fin 1) j) := by
  unfold out0_A_1
  rw [View.read_writes_eq_canon _ _ _ (cover0_A_1 c arg0 harg0 arg1 harg1 x0), run_eq, trips_eq]
  exact canon_rows _ _ _ _ _ _ 10 (le_refl _) k.val k.isLt j
end

end Cert.KernelIdeal.Value
-- ==== Proof.Model.lean ====
module

public import Idealize.ShloMosaic.PureOps.Ideal.Laws
public import Idealize.ShloMosaic.Lib.Pointwise

@[expose] public section
noncomputable section
/-! Greedy suppression over the extended reals: the boxes with their scores and classes, the rounds, the rows. -/
namespace Cert.Model
open Idealize.ShloMosaic

/-- The boxes: corners, score with the low ones masked, class. -/
structure Boxes where
  y1 : Fin 20480 → EReal
  x1 : Fin 20480 → EReal
  y2 : Fin 20480 → EReal
  x2 : Fin 20480 → EReal
  sc : Fin 20480 → EReal
  cls : Fin 20480 → EReal

/-- `p` is the first box of the greatest score. -/
def IsPick (s : Fin 20480 → EReal) (p : Fin 20480) : Prop := (∀ g, s g ≤ s p) ∧ ∀ g, (∀ g', s g' ≤ s g) → p ≤ g

theorem exists_pick (s : Fin 20480 → EReal) : ∃ p, IsPick s p := by
  classical
  obtain ⟨m, hm⟩ := Finite.exists_max s
  have hne : (Finset.univ.filter fun g => ∀ g', s g' ≤ s g).Nonempty := ⟨m, by simpa using hm⟩
  refine ⟨(Finset.univ.filter fun g => ∀ g', s g' ≤ s g).min' hne, ?_, ?_⟩
  · exact (Finset.mem_filter.mp (Finset.min'_mem _ hne)).2
  · intro g hg
    exact Finset.min'_le _ _ (Finset.mem_filter.mpr ⟨Finset.mem_univ _, hg⟩)

/-- The first box of the greatest score. -/
def pick (s : Fin 20480 → EReal) : Fin 20480 := (exists_pick s).choose

theorem pick_spec (s : Fin 20480 → EReal) : IsPick s (pick s) := (exists_pick s).choose_spec

theorem eq_pick {s : Fin 20480 → EReal} {p : Fin 20480} (h : IsPick s p) : p = pick s :=
  le_antisymm (h.2 _ (pick_spec s).1) ((pick_spec s).2 _ h.1)

/-- The area of a box. -/
def area (B : Boxes) (f : Fin 20480) : EReal := (B.y2 f - B.y1 f) * (B.x2 f - B.x1 f)

/-- The overlap of two boxes. -/
def inter (B : Boxes) (p f : Fin 20480) : EReal :=
  max (min (B.y2 p) (B.y2 f) - max (B.y1 p) (B.y1 f)) 0 * max (min (B.x2 p) (B.x2 f) - max (B.x1 p) (B.x1 f)) 0

/-- The overlap against the union. -/
def iou (B : Boxes) (p f : Fin 20480) : EReal :=
  Ideal.div (inter B p f) (area B p + area B f - inter B p f + Ideal.ofBits .f32 0x3089705F#32)

/-- The scores after a round. -/
def next (B : Boxes) (s : Fin 20480 → EReal) (f : Fin 20480) : EReal :=
  if Ideal.ofBits .f32 0x3F000000#32 < iou B (pick s) f ∨ f = pick s then Ideal.ofBits .f32 0xBF800000#32 else s f

/-- The scores before round `k`. -/
def st (B : Boxes) : ℕ → Fin 20480 → EReal
  | 0 => B.sc
  | k + 1 => next B (st B k)

/-- One where the score is high enough to keep, zero elsewhere. -/
def keep (t : EReal) : EReal := if Ideal.ofBits .f32 0x3D4CCCCD#32 ≤ t then 1 else 0

/-- The six numbers of a box. -/
def col (B : Boxes) (p : Fin 20480) : Fin 6 → EReal := ![B.y1 p, B.x1 p, B.y2 p, B.x2 p, B.sc p, B.cls p]

/-- The row round `k` reports. -/
def row (B : Boxes) (k : ℕ) (q : Fin 6) : EReal := col B (pick (st B k)) q * keep (B.sc (pick (st B k)))

/-- The rounds read the classes only of boxes they keep. -/
theorem row_congr {B B' : Boxes} (h1 : B.y1 = B'.y1) (h2 : B.x1 = B'.x1) (h3 : B.y2 = B'.y2) (h4 : B.x2 = B'.x2) (h5 : B.sc = B'.sc)
    (h6 : ∀ f, Ideal.ofBits .f32 0x3D4CCCCD#32 ≤ B.sc f → B.cls f = B'.cls f) (k : ℕ) (q : Fin 6) : row B k q = row B' k q := by
  have hst : ∀ k, st B k = st B' k := by
    intro k
    induction k with
    | zero => exact h5
    | succ k ih =>
      funext f
      have hi : iou B = iou B' := by funext p f; simp only [iou, inter, area, h1, h2, h3, h4]
      show next B (st B k) f = next B' (st B' k) f
      rw [ih]
      exact if_congr (by rw [hi]) rfl rfl
  unfold row keep
  rw [hst k, ← h5]
  by_cases h : Ideal.ofBits .f32 0x3D4CCCCD#32 ≤ B.sc (pick (st B' k))
  · simp only [col, h1, h2, h3, h4, h5, h6 _ h]
  · rw [if_neg h]; simp

/-- The anchor widths, by anchor. -/
def aw (i : ℕ) : EReal :=
  if i = 0 then Ideal.ofBits .f32 0x3F8A3D71#32 else if i = 1 then Ideal.ofBits .f32 0x405AE148#32 else if i = 2 then Ideal.ofBits .f32 0x40D428F6#32
  else if i = 3 then Ideal.ofBits .f32 0x4116B852#32 else Ideal.ofBits .f32 0x4184F5C3#32

/-- The anchor heights, by anchor. -/
def ah (i : ℕ) : EReal :=
  if i = 0 then Ideal.ofBits .f32 0x3F9851EC#32 else if i = 1 then Ideal.ofBits .f32 0x408D1EB8#32 else if i = 2 then Ideal.ofBits .f32 0x4136147B#32
  else if i = 3 then Ideal.ofBits .f32 0x40A3851F#32 else Ideal.ofBits .f32 0x412851EC#32

/-- A box's centre column, of its channels. -/
def cx (r : ℕ → EReal) (f : ℕ) : EReal := (Ideal.logistic (r 0) + (((f / 5 % 64 : ℕ) : ℝ) : EReal)) * Ideal.ofBits .f32 0x3C800000#32
/-- A box's centre row. -/
def cy (r : ℕ → EReal) (f : ℕ) : EReal := (Ideal.logistic (r 1) + (((f / 5 / 64 : ℕ) : ℝ) : EReal)) * Ideal.ofBits .f32 0x3C800000#32
/-- Half a box's width. -/
def hw (r : ℕ → EReal) (f : ℕ) : EReal := Ideal.exp (r 2) * aw (f % 5) * Ideal.ofBits .f32 0x3C800000#32 * Ideal.ofBits .f32 0x3F000000#32
/-- Half a box's height. -/
def hh (r : ℕ → EReal) (f : ℕ) : EReal := Ideal.exp (r 3) * ah (f % 5) * Ideal.ofBits .f32 0x3C800000#32 * Ideal.ofBits .f32 0x3F000000#32

/-- The greatest of the eighty logits. -/
def top (r : ℕ → EReal) : EReal := Finset.univ.fold max ⊥ fun i : Fin 80 => r (5 + i.val)
/-- The sum of the shifted exponentials. -/
def tot (r : ℕ → EReal) : EReal := ∑ i : Fin 80, Ideal.exp (r (5 + i.val) - top r)
/-- The best class's score. -/
def best (r : ℕ → EReal) : EReal := Ideal.div (Ideal.logistic (r 4)) (tot r)
/-- The score with the low ones masked. -/
def masked (t : EReal) : EReal := if Ideal.ofBits .f32 0x3D4CCCCD#32 ≤ t then t else Ideal.ofBits .f32 0xBF800000#32

/-- `c` is the first class whose logit is the greatest. -/
def IsClass (r : ℕ → EReal) (c : ℕ) : Prop := c < 80 ∧ r (5 + c) = top r ∧ ∀ c' < c, r (5 + c') < top r

/-- A word as a float. -/
def natf (n : ℕ) : EReal := (((BitVec.ofNat 32 n).toInt : ℝ) : EReal)
end Cert.Model
-- ==== Proof.KStep.lean ====
module

public import proofs.«01_k».proof.Proof.KTrip
public import proofs.«01_k».proof.Proof.Model
public import Idealize.ShloMosaic.Lib.Pointwise
public import Idealize.ShloMosaic.Lib.Routing.BitFacts

@[expose] public section
noncomputable section
/-! One round of the kernel over the extended reals is one round of the model. -/
namespace Cert.KernelIdeal.Value
open Cert.KernelIdeal Cert.KernelIdeal.Gen Cert.Model Idealize.ShloMosaic Idealize.ShloMosaic.TcCoe Idealize.SL.Sem

/-- Where box `f` stands in a plane. -/
def kidx (f : Fin 20480) : S160x128.Idx := ix2 (⟨f.val / 128, by omega⟩ : Fin 160) (⟨f.val % 128, by omega⟩ : Fin 128)

/-- The box at a cell of a plane. -/
def cell (x : Fin 160) (y : Fin 128) : Fin 20480 := ⟨x.val * 128 + y.val, by omega⟩

theorem kidx_cell (x : Fin 160) (y : Fin 128) : kidx (cell x y) = ix2 x y := by
  have h1 : (x.val * 128 + y.val) / 128 = x.val := by omega
  have h2 : (x.val * 128 + y.val) % 128 = y.val := by omega
  simp only [kidx, cell, h1, h2]

theorem cell_kidx (f : Fin 20480) : cell ⟨f.val / 128, by omega⟩ ⟨f.val % 128, by omega⟩ = f := by
  apply Fin.ext; simp only [cell]; omega

theorem cell_inj (x x' : Fin 160) (y y' : Fin 128) (h : cell x y = cell x' y') : x = x' ∧ y = y' := by
  have := congrArg Fin.val h
  simp only [cell] at this
  exact ⟨Fin.ext (by omega), Fin.ext (by omega)⟩

theorem X4_at (f : Fin 20480) : X4 (kidx f) = BitVec.ofNat 32 f.val := by
  unfold X4 k0_pay18 kidx
  simp only [pointwise, List.foldl, IntOp.addi, IntOp.muli]
  simp
  rw [← BitVec.ofNat_mul, ← BitVec.ofNat_add]
  congr 1; omega

theorem X4_cell (x : Fin 160) (y : Fin 128) : X4 (ix2 x y) = BitVec.ofNat 32 (cell x y).val := by
  rw [← kidx_cell, X4_at]

/-- Small naturals under the signed minimum. -/
theorem minsi_small (a b : ℕ) : IntOp.minsi (BitVec.ofNat 32 (min a 2147483647)) (BitVec.ofNat 32 (min b 2147483647)) = BitVec.ofNat 32 (min (min a b) 2147483647) := by
  unfold IntOp.minsi
  rw [Routing.slt_ofNat32 (by omega) (by omega)]
  by_cases h : min a 2147483647 < min b 2147483647
  · simp only [h, decide_true, if_true]; congr 1; omega
  · simp only [h, decide_false]; rw [if_neg (by simp)]; congr 1; omega

theorem ofNat_inj {a b : ℕ} (ha : a < 2 ^ 32) (hb : b < 2 ^ 32) : BitVec.ofNat 32 a = BitVec.ofNat 32 b ↔ a = b := by
  constructor
  · intro h
    have := congrArg BitVec.toNat h
    simp at this; omega
  · rintro rfl; rfl

variable (acc : FVec Ideal S160x128 .f32)

/-- A plane as scores of boxes. -/
def flat (a : FVec Ideal S160x128 .f32) (f : Fin 20480) : EReal := a (kidx f)

theorem at_cell (a : FVec Ideal S160x128 .f32) (x : Fin 160) (y : Fin 128) : a (ix2 x y) = flat a (cell x y) := by
  rw [flat, kidx_cell]

theorem all_cell {p : Fin 20480 → Prop} : (∀ z : Fin 160 × Fin 128, p (cell z.1 z.2)) ↔ ∀ f, p f := by
  constructor
  · intro h f; have := h (⟨f.val / 128, by omega⟩, ⟨f.val % 128, by omega⟩); rwa [cell_kidx] at this
  · intro h z; exact h _

/-- The round's chosen position, as the kernel computes it. -/
theorem pick_word :
    Finset.fold IntOp.minsi 2147483647#32 (fun z : Fin 160 × Fin 128 => if Finset.fold max (Ideal.ofBits .f32 0xFF800000#32) (fun z : Fin 160 × Fin 128 => acc (ix2 z.1 z.2)) Finset.univ ≤ acc (ix2 z.1 z.2) then X4 (ix2 z.1 z.2) else 20480#32) Finset.univ
      = BitVec.ofNat 32 (pick (flat acc)).val := by
  have hbot : Ideal.ofBits .f32 0xFF800000#32 = ⊥ := by simp [Ideal.ofBits, Ideal.ieee]
  rw [hbot]
  have hg : (fun z : Fin 160 × Fin 128 => if Finset.fold max (⊥ : EReal) (fun z : Fin 160 × Fin 128 => acc (ix2 z.1 z.2)) Finset.univ ≤ acc (ix2 z.1 z.2) then X4 (ix2 z.1 z.2) else 20480#32)
      = fun z => BitVec.ofNat 32 (min (if (∀ g, flat acc g ≤ flat acc (cell z.1 z.2)) then (cell z.1 z.2).val else 20480) 2147483647) := by
    funext z
    have : (Finset.fold max (⊥ : EReal) (fun z : Fin 160 × Fin 128 => acc (ix2 z.1 z.2)) Finset.univ ≤ acc (ix2 z.1 z.2)) ↔ ∀ g, flat acc g ≤ flat acc (cell z.1 z.2) := by
      rw [Finset.fold_max_le, ← all_cell]
      simp only [at_cell, bot_le, true_and, Finset.mem_univ, forall_const]
    simp only [this, X4_cell]
    split
    · rw [min_eq_left]; omega
    · rfl
  rw [hg]
  have h2 : (2147483647#32 : BitVec 32) = BitVec.ofNat 32 (min 2147483647 2147483647) := rfl
  rw [h2, Finset.fold_hom (op := (min : ℕ → ℕ → ℕ)) (op' := IntOp.minsi) (m := fun n => BitVec.ofNat 32 (min n 2147483647)) (fun x y => (minsi_small x y).symm)]
  congr 1
  have hp := pick_spec (flat acc)
  have : Finset.fold min 2147483647 (fun z : Fin 160 × Fin 128 => if (∀ g, flat acc g ≤ flat acc (cell z.1 z.2)) then (cell z.1 z.2).val else 20480) Finset.univ = (pick (flat acc)).val := by
    apply le_antisymm
    · rw [Finset.fold_min_le]
      right
      refine ⟨(⟨(pick (flat acc)).val / 128, by omega⟩, ⟨(pick (flat acc)).val % 128, by omega⟩), Finset.mem_univ _, ?_⟩
      simp only [cell_kidx]
      rw [if_pos hp.1]
    · rw [Finset.le_fold_min]
      refine ⟨by omega, fun z _ => ?_⟩
      split
      · exact hp.2 _ (by assumption)
      · omega
  rw [this]; omega

theorem eq_word (f p : Fin 20480) : IntOp.cmpi .eq (BitVec.ofNat 32 f.val) (BitVec.ofNat 32 p.val) = if f = p then 1#1 else 0#1 := by
  have h : (BitVec.ofNat 32 f.val = BitVec.ofNat 32 p.val) ↔ f = p := by
    rw [ofNat_inj (by omega) (by omega), Fin.ext_iff]
  unfold IntOp.cmpi
  by_cases hf : f = p
  · rw [if_pos hf, hf]; simp
  · rw [if_neg hf]
    have : (BitVec.ofNat 32 f.val == BitVec.ofNat 32 p.val) = false := by
      rw [beq_eq_false_iff_ne]; exact fun e => hf (h.mp e)
    simp only [this]; rfl

/-- The greatest entry of a plane, as the kernel takes it. -/
def redMax (a : FVec Ideal S160x128 .f32) : Ideal .f32 :=
  extractAt ![0, 0, 0] (shapeCast S1x1x1 (multiReduction .maximumf [1, 2] S1 (shapeCast S1x160x128 a shapeCasts_S160x128_S1x160x128) 0xFF800000#32 reduces_S1x160x128_S1 (.inl rfl) rfl) shapeCasts_S1_S1x1x1) inpos_S1x1x1_p0_0_0

/-- The least entry of an integer plane, as the kernel takes it. -/
def redMin (a : IVec S160x128 32) : BitVec 32 :=
  extractAt ![0, 0, 0] (shapeCast S1x1x1 (multiReductionI .minsi [1, 2] S1 (shapeCast S1x160x128 a shapeCasts_S160x128_S1x160x128) 2147483647#32 reduces_S1x160x128_S1 rfl) shapeCasts_S1_S1x1x1) inpos_S1x1x1_p0_0_0

theorem redMax_eq (a : FVec Ideal S160x128 .f32) : redMax a = Finset.fold max (Ideal.ofBits FTy.f32 0xFF800000#32) (fun z : Fin 160 × Fin 128 => a (ix2 z.1 z.2)) Finset.univ := by
  unfold redMax; simp only [pointwise]

theorem redMin_eq (a : IVec S160x128 32) : redMin a = Finset.fold IntOp.minsi (2147483647#32) (fun z : Fin 160 × Fin 128 => a (ix2 z.1 z.2)) Finset.univ := by
  unfold redMin; simp only [pointwise]

theorem pay3_open : k0_pay3 X4 acc = cmpi .eq X4 (broadcast S160x128 (redMin (select (cmpf .oge acc (broadcast S160x128 (redMax acc))) X4 (broadcast S160x128 20480#32)))) := rfl

theorem pay3_at (f : Fin 20480) : k0_pay3 X4 acc (kidx f) = if f = pick (flat acc) then 1#1 else 0#1 := by
  rw [pay3_open]
  simp only [pointwise]
  rw [X4_at, ← eq_word, redMin_eq, redMax_eq]
  refine congrArg (IntOp.cmpi .eq (BitVec.ofNat 32 f.val)) ((congrArg (fun g => Finset.fold IntOp.minsi (2147483647#32) g Finset.univ) ?_).trans (pick_word acc))
  funext z
  simp only [pointwise]

theorem pay4_at (f : Fin 20480) : k0_pay4 X4 acc (kidx f) = if f = pick (flat acc) then (1 : EReal) else 0 := by
  unfold k0_pay4
  simp only [pointwise]
  rw [pay3_at]
  split
  · show (((BitVec.setWidth 32 1#1).toInt : ℝ) : EReal) = 1
    rw [show (BitVec.setWidth 32 1#1).toInt = 1 from by decide]; simp
  · show (((BitVec.setWidth 32 0#1).toInt : ℝ) : EReal) = 0
    rw [show (BitVec.setWidth 32 0#1).toInt = 0 from by decide]; simp

theorem gather (a : FVec Ideal S160x128 .f32) :
    ∑ x : Fin 160, ∑ y : Fin 128, (a (ix2 x y) * k0_pay4 X4 acc (ix2 x y) : EReal) = flat a (pick (flat acc)) := by
  have h : ∀ x y, (a (ix2 x y) * k0_pay4 X4 acc (ix2 x y) : EReal) = if cell x y = pick (flat acc) then flat a (cell x y) else 0 := by
    intro x y
    rw [← kidx_cell, pay4_at]
    split
    · exact mul_one _
    · exact mul_zero _
  simp only [h]
  generalize hP : pick (flat acc) = p
  rw [Finset.sum_eq_single (⟨p.val / 128, by omega⟩ : Fin 160), Finset.sum_eq_single (⟨p.val % 128, by omega⟩ : Fin 128)]
  · rw [cell_kidx, if_pos rfl]
  · intro y _ hy
    rw [if_neg]; intro e; apply hy; apply Fin.ext
    have := congrArg Fin.val e; simp only [cell] at this; simp only; omega
  · intro h; exact absurd (Finset.mem_univ _) h
  · intro x _ hx
    apply Finset.sum_eq_zero; intro y _
    rw [if_neg]; intro e; apply hx; apply Fin.ext
    have := congrArg Fin.val e; simp only [cell] at this; simp only; omega
  · intro h; exact absurd (Finset.mem_univ _) h

theorem pay5_eq (a : FVec Ideal S160x128 .f32) : k0_pay5 X4 a acc = flat a (pick (flat acc)) := by
  unfold k0_pay5; simp only [pointwise]; exact gather acc a
theorem pay6_eq (a : FVec Ideal S160x128 .f32) : k0_pay6 X4 a acc = flat a (pick (flat acc)) := by
  unfold k0_pay6; simp only [pointwise]; exact gather acc a
theorem pay7_eq (a : FVec Ideal S160x128 .f32) : k0_pay7 X4 a acc = flat a (pick (flat acc)) := by
  unfold k0_pay7; simp only [pointwise]; exact gather acc a
theorem pay8_eq (a : FVec Ideal S160x128 .f32) : k0_pay8 X4 a acc = flat a (pick (flat acc)) := by
  unfold k0_pay8; simp only [pointwise]; exact gather acc a
theorem pay9_eq (a : FVec Ideal S160x128 .f32) : k0_pay9 X4 a acc = flat a (pick (flat acc)) := by
  unfold k0_pay9; simp only [pointwise]; exact gather acc a
theorem pay10_eq (a : FVec Ideal S160x128 .f32) : k0_pay10 X4 a acc = flat a (pick (flat acc)) := by
  unfold k0_pay10; simp only [pointwise]; exact gather acc a

/-- The kernel's planes as boxes. -/
def boxes (v150 v153 v156 v159 v1041 v1046 : FVec Ideal S160x128 .f32) : Boxes :=
  ⟨flat v150, flat v153, flat v156, flat v159, flat v1046, flat v1041⟩

theorem kNext_at (v150 v153 v156 v159 v1041 v1046 : FVec Ideal S160x128 .f32) (f : Fin 20480) :
    kNext X4 v150 v153 v156 v159 (subf v156 v150) acc (kidx f) = next (boxes v150 v153 v156 v159 v1041 v1046) (flat acc) f := by
  unfold kNext k0_pay13 k0_pay12 k0_pay11 k0_pay1
  simp only [pointwise, pay5_eq, pay6_eq, pay7_eq, pay8_eq, pay3_at]
  show Scalar.select (IntOp.ori (BitVec.ofBool (decide (Ideal.ofBits FTy.f32 1056964608#32 < iou (boxes v150 v153 v156 v159 v1041 v1046) (pick (flat acc)) f))) (if f = pick (flat acc) then 1#1 else 0#1)) (Ideal.ofBits FTy.f32 3212836864#32) (flat acc f) = _
  unfold next
  generalize iou (boxes v150 v153 v156 v159 v1041 v1046) (pick (flat acc)) f = t
  generalize flat acc f = w
  by_cases h1 : Ideal.ofBits FTy.f32 1056964608#32 < t <;>
    by_cases h2 : f = pick (flat acc) <;> simp only [h1, h2, decide_true, decide_false, if_true, if_false, or_true, true_or, or_false, or_self] <;> rfl

theorem kRow_at (v150 v153 v156 v159 v1041 v1046 : FVec Ideal S160x128 .f32) (q : Fin 6) :
    kRow X4 v150 v153 v156 v159 v1041 v1046 X1050 acc (ix2 (0 : Fin 1) (⟨q.val, by omega⟩ : Fin 128)) = col (boxes v150 v153 v156 v159 v1041 v1046) (pick (flat acc)) q * keep (flat v1046 (pick (flat acc))) := by
  unfold kRow k0_pay2 k0_pay17 k0_pay16 k0_pay15 k0_pay14 X1050
  simp only [pointwise, pay5_eq, pay6_eq, pay7_eq, pay8_eq, pay9_eq, pay10_eq]
  unfold keep col boxes
  fin_cases q <;> simp [Scalar.select, IntOp.cmpi]

/-- The boxes the kernel decodes from its channel planes. -/
def kBoxes (v : ℕ → Vec Ideal S1x160x128 .f32) : Boxes := boxes (X150 v) (X153 v) (X156 v) (X159 v) (X1041 v) (X1046 v)

theorem scK_flat (v : ℕ → Vec Ideal S1x160x128 .f32) (k : ℕ) : flat (scK v k) = st (kBoxes v) k := by
  induction k with
  | zero => rfl
  | succ k ih =>
    funext f
    have h := kNext_at (scK v k) (X150 v) (X153 v) (X156 v) (X159 v) (X1041 v) (X1046 v) f
    rw [ih] at h
    exact h

theorem rowK_at (v : ℕ → Vec Ideal S1x160x128 .f32) (k : ℕ) (q : Fin 6) :
    rowK v k (ix2 (0 : Fin 1) (⟨q.val, by omega⟩ : Fin 128)) = row (kBoxes v) k q := by
  have h := kRow_at (scK v k) (X150 v) (X153 v) (X156 v) (X159 v) (X1041 v) (X1046 v) q
  rw [scK_flat] at h
  exact h

end Cert.KernelIdeal.Value
-- ==== Proof.KVals.lean ====
module

public import proofs.«01_k».proof.Proof.KStep
public import Idealize.ShloMosaic.Lib.Pointwise
public import Idealize.ShloMosaic.Lib.Routing.Words

@[expose] public section
noncomputable section
/-! What the kernel's planes hold at a box. -/
namespace Cert.KernelIdeal.Value
open Cert.KernelIdeal Cert.KernelIdeal.Gen Cert.Model Idealize.ShloMosaic Idealize.ShloMosaic.TcCoe Idealize.SL.Sem

/-- The floored remainder of small naturals as the kernel spells it. -/
theorem fmod_word (a d : ℕ) (ha : a < 2 ^ 31) (h0 : 0 < d) (hd : d < 2 ^ 31) :
    Scalar.select (IntOp.andi (IntOp.xori (IntOp.cmpi .slt (IntOp.remsi .vector (BitVec.ofNat 32 a) (BitVec.ofNat 32 d)) 0#32) 0#1)
        (IntOp.cmpi .ne (IntOp.remsi .vector (BitVec.ofNat 32 a) (BitVec.ofNat 32 d)) 0#32))
      (IntOp.addi (IntOp.remsi .vector (BitVec.ofNat 32 a) (BitVec.ofNat 32 d)) (BitVec.ofNat 32 d))
      (IntOp.remsi .vector (BitVec.ofNat 32 a) (BitVec.ofNat 32 d)) = BitVec.ofNat 32 (a % d) := by
  have hm : a % d < d := Nat.mod_lt _ h0
  rw [Routing.remsi_word .vector ha h0 hd]
  have h : IntOp.cmpi .slt (BitVec.ofNat 32 (a % d)) 0#32 = 0#1 := by
    show BitVec.ofBool ((BitVec.ofNat 32 (a % d)).slt (BitVec.ofNat 32 0)) = 0#1
    rw [Routing.slt_ofNat32 (by omega) (by omega)]; simp
  rw [h]
  have h2 : ∀ t : BitVec 1, IntOp.andi (IntOp.xori 0#1 0#1) t = 0#1 := by decide
  rw [h2]; rfl

/-- The floored quotient of small naturals as the kernel spells it. -/
theorem fdiv_word (a d : ℕ) (ha : a < 2 ^ 31) (h0 : 0 < d) (hd : d < 2 ^ 31) :
    Scalar.select
      (IntOp.andi
        (IntOp.cmpi .ne
          (IntOp.subi (BitVec.setWidth 32 (IntOp.cmpi .sgt (BitVec.ofNat 32 a) 0#32))
            (BitVec.setWidth 32 (IntOp.cmpi .slt (BitVec.ofNat 32 a) 0#32)))
          1#32)
        (IntOp.cmpi .ne (IntOp.remsi .vector (BitVec.ofNat 32 a) (BitVec.ofNat 32 d)) 0#32))
      (IntOp.subi (IntOp.divsi .vector (BitVec.ofNat 32 a) (BitVec.ofNat 32 d)) 1#32)
      (IntOp.divsi .vector (BitVec.ofNat 32 a) (BitVec.ofNat 32 d)) = BitVec.ofNat 32 (a / d) := by
  rw [Routing.remsi_word .vector ha h0 hd, Routing.divsi_word .vector ha h0 hd]
  have h : IntOp.cmpi .slt (BitVec.ofNat 32 a) 0#32 = 0#1 := by
    show BitVec.ofBool ((BitVec.ofNat 32 a).slt (BitVec.ofNat 32 0)) = 0#1
    rw [Routing.slt_ofNat32 (by omega) (by omega)]; simp
  rw [h]
  rcases Nat.eq_zero_or_pos a with rfl | hp
  · have h2 : ∀ t : BitVec 1, IntOp.andi t (IntOp.cmpi .ne (BitVec.ofNat 32 (0 % d)) 0#32) = 0#1 := by
      rw [Nat.zero_mod]; decide
    rw [h2]; rfl
  · have h3 : IntOp.cmpi .sgt (BitVec.ofNat 32 a) 0#32 = 1#1 := by
      show BitVec.ofBool ((BitVec.ofNat 32 0).slt (BitVec.ofNat 32 a)) = 1#1
      rw [Routing.slt_ofNat32 (by omega) (by omega)]; simp [hp]
    rw [h3]
    have h2 : ∀ t : BitVec 1, IntOp.andi (IntOp.cmpi .ne (IntOp.subi (BitVec.setWidth 32 1#1) (BitVec.setWidth 32 0#1)) 1#32) t = 0#1 := by decide
    rw [h2]; rfl

variable (v : ℕ → Vec Ideal S1x160x128 .f32) (f : Fin 20480)

/-- The channels of box `f`. -/
def chan (c : ℕ) : EReal := v c (ix3 (0 : Fin 1) (⟨f.val / 128, by omega⟩ : Fin 160) (⟨f.val % 128, by omega⟩ : Fin 128))

theorem X20_at : X20 (kidx f) = BitVec.ofNat 32 (f.val % 5) := by
  have h := fmod_word f.val 5 (by omega) (by omega) (by omega)
  rw [← X4_at f] at h
  exact h

theorem X44_at : X44 (kidx f) = BitVec.ofNat 32 (f.val / 5) := by
  have h := fdiv_word f.val 5 (by omega) (by omega) (by omega)
  rw [← X4_at f] at h
  exact h

theorem X61_at : X61 (F := Ideal) (kidx f) = (((f.val / 5 % 64 : ℕ) : ℝ) : EReal) := by
  have h := fmod_word (f.val / 5) 64 (by omega) (by omega) (by omega)
  rw [← X44_at f] at h
  refine (congrArg (fun b : BitVec 32 => ((b.toInt : ℝ) : EReal)) h).trans ?_
  rw [show (BitVec.ofNat 32 (f.val / 5 % 64)).toInt = ((f.val / 5 % 64 : ℕ) : ℤ) from by
    rw [BitVec.toInt_eq_toNat_of_lt] <;> simp <;> omega]
  rw [Int.cast_natCast]

theorem X86_at : X86 (F := Ideal) (kidx f) = (((f.val / 5 / 64 : ℕ) : ℝ) : EReal) := by
  have h := fdiv_word (f.val / 5) 64 (by omega) (by omega) (by omega)
  rw [← X44_at f] at h
  refine (congrArg (fun b : BitVec 32 => ((b.toInt : ℝ) : EReal)) h).trans ?_
  rw [show (BitVec.ofNat 32 (f.val / 5 / 64)).toInt = ((f.val / 5 / 64 : ℕ) : ℤ) from by
    rw [BitVec.toInt_eq_toNat_of_lt] <;> simp <;> omega]
  rw [Int.cast_natCast]

theorem X116_at : X116 (F := Ideal) (kidx f) = aw (f.val % 5) := by
  unfold X116 k0_pay26 X87 k0_pay23 X89 k0_pay25
  simp only [pointwise, X20_at]
  have h : f.val % 5 < 5 := by omega
  generalize f.val % 5 = i at h
  unfold aw
  interval_cases i <;> simp [Scalar.select, IntOp.cmpi]

theorem X120_at : X120 (F := Ideal) (kidx f) = ah (f.val % 5) := by
  unfold X120 k0_pay27 X88 k0_pay24
  simp only [pointwise, X20_at]
  have h : f.val % 5 < 5 := by omega
  generalize f.val % 5 = i at h
  unfold ah
  interval_cases i <;> simp [Scalar.select, IntOp.cmpi]

theorem X150_at : flat (X150 v) f = cy (chan v f) f.val - hh (chan v f) f.val := by
  have h1 := X86_at f
  have h2 := X120_at f
  unfold kidx at h1 h2
  unfold flat X150 k0_pay35 k0_pay33 k0_pay31 X124 k0_pay29 kidx
  simp only [pointwise, h1, h2]
  rfl

theorem X156_at : flat (X156 v) f = cy (chan v f) f.val + hh (chan v f) f.val := by
  have h1 := X86_at f
  have h2 := X120_at f
  unfold kidx at h1 h2
  unfold flat X156 k0_pay37 k0_pay33 k0_pay31 X124 k0_pay29 kidx
  simp only [pointwise, h1, h2]
  rfl

theorem X153_at : flat (X153 v) f = cx (chan v f) f.val - hw (chan v f) f.val := by
  have h1 := X61_at f
  have h2 := X116_at f
  unfold kidx at h1 h2
  unfold flat X153 k0_pay36 k0_pay32 k0_pay30 X122 k0_pay28 X125 kidx
  simp only [pointwise, h1, h2]
  rfl

theorem X159_at : flat (X159 v) f = cx (chan v f) f.val + hw (chan v f) f.val := by
  have h1 := X61_at f
  have h2 := X116_at f
  unfold kidx at h1 h2
  unfold flat X159 k0_pay38 k0_pay32 k0_pay30 X122 k0_pay28 X125 kidx
  simp only [pointwise, h1, h2]
  rfl

theorem X147_at : X147 v (kidx f) = Ideal.logistic (chan v f 4) := by
  unfold X147 k0_pay34 kidx
  simp only [pointwise]
  rfl

theorem CH_at (c : ℕ) : CH v c (kidx f) = chan v f c := by
  unfold CH kidx
  simp only [pointwise]
  rfl

theorem fold_le (r : ℕ → EReal) (t : EReal) : top r ≤ t ↔ ∀ i < 80, r (5 + i) ≤ t := by
  unfold top
  rw [Finset.fold_max_le]
  simp only [bot_le, true_and, Finset.mem_univ, forall_const]
  exact ⟨fun h i hi => h ⟨i, hi⟩, fun h i => h i.val i.isLt⟩

theorem MX_at (n : ℕ) (t : EReal) : MX v n (kidx f) ≤ t ↔ ∀ i ≤ n, chan v f (5 + i) ≤ t := by
  induction n with
  | zero =>
    show CH v 5 (kidx f) ≤ t ↔ _
    rw [CH_at]; simp
  | succ n ih =>
    show max (MX v n (kidx f)) (CH v (6 + n) (kidx f)) ≤ t ↔ _
    rw [max_le_iff, ih, CH_at]
    constructor
    · rintro ⟨h1, h2⟩ i hi
      rcases Nat.lt_or_ge i (n + 1) with h | h
      · exact h1 i (by omega)
      · have : 5 + i = 6 + n := by omega
        rw [this]; exact h2
    · intro h
      exact ⟨fun i hi => h i (by omega), by have := h (n + 1) le_rfl; rwa [show 5 + (n + 1) = 6 + n from by omega] at this⟩

theorem X398_at : X398 v (kidx f) = top (chan v f) := by
  rw [X398_eq]
  apply le_antisymm
  · rw [MX_at]; intro i hi; exact (fold_le _ _).mp le_rfl i (by omega)
  · rw [fold_le]; intro i hi; exact (MX_at v f 79 _).mp le_rfl i (by omega)

theorem SM_at (n : ℕ) (hn : n ≤ 80) : SM v (X398 v) n (kidx f) = ∑ i ∈ Finset.range n, Ideal.exp (chan v f (84 - i) - top (chan v f)) := by
  induction n with
  | zero =>
    show Ideal.ofBits .f32 0x00000000#32 = _
    simp [Ideal.ofBits, Ideal.ieee]
  | succ n ih =>
    rw [Finset.sum_range_succ, ← ih (by omega), ← X398_at, ← CH_at]
    rfl

theorem tot_eq : SM v (X398 v) 80 (kidx f) = tot (chan v f) := by
  rw [SM_at _ _ _ le_rfl, tot, Fin.sum_univ_eq_sum_range (fun i => Ideal.exp (chan v f (5 + i) - top (chan v f))), ← Finset.sum_range_reflect]
  apply Finset.sum_congr rfl
  intro i hi
  have := Finset.mem_range.mp hi
  rw [show 84 - (80 - 1 - i) = 5 + i from by omega]

theorem X1046_at : flat (X1046 v) f = masked (best (chan v f)) := by
  unfold flat
  rw [X1046_eq]
  unfold masked best
  rw [← X147_at, ← tot_eq]
  simp only [pointwise]

theorem CL_at (n : ℕ) (hn : n ≤ 80) : ∃ c, CL v (X398 v) n (kidx f) = BitVec.ofNat 32 c ∧ 80 - n ≤ c ∧ c ≤ 80 ∧ (c < 80 → top (chan v f) ≤ chan v f (5 + c)) ∧ ∀ i, 80 - n ≤ i → i < c → chan v f (5 + i) < top (chan v f) := by
  induction n with
  | zero => exact ⟨80, rfl, by omega, by omega, by omega, by omega⟩
  | succ n ih =>
    obtain ⟨c, h1, h2, h3, h4, h5⟩ := ih (by omega)
    have e : CL v (X398 v) (n + 1) (kidx f) = if top (chan v f) ≤ chan v f (84 - n) then BitVec.ofNat 32 (79 - n) else CL v (X398 v) n (kidx f) := by
      rw [← CH_at, ← X398_at, show CL v (X398 v) (n + 1) = select (cmpf .oge (CH v (84 - n)) (X398 v)) (broadcast S160x128 (BitVec.ofNat 32 (79 - n))) (CL v (X398 v) n) from rfl]
      simp only [pointwise]
    by_cases h : top (chan v f) ≤ chan v f (84 - n)
    · refine ⟨79 - n, by rw [e, if_pos h], by omega, by omega, fun _ => by rwa [show 5 + (79 - n) = 84 - n from by omega], fun i hi hi' => by omega⟩
    · refine ⟨c, by rw [e, if_neg h, h1], by omega, h3, h4, fun i hi hi' => ?_⟩
      rcases Nat.lt_or_ge i (80 - n) with h' | h'
      · rw [show 5 + i = 84 - n from by omega]; exact lt_of_not_ge h
      · exact h5 i h' hi'

theorem X1041_at : ∃ c, flat (X1041 v) f = natf c ∧ IsClass (chan v f) c := by
  obtain ⟨c, h1, h2, h3, h4, h5⟩ := CL_at v f 80 le_rfl
  have hlt : c < 80 := by
    by_contra hc
    have h : top (chan v f) < top (chan v f) := by
      have h0 : chan v f (5 + 0) < top (chan v f) := h5 0 (by omega) (by omega)
      conv_lhs => unfold top
      rw [Finset.fold_max_lt]
      exact ⟨lt_of_le_of_lt bot_le h0, fun i _ => h5 i.val (by omega) (by omega)⟩
    exact lt_irrefl _ h
  refine ⟨c, ?_, hlt, le_antisymm ((fold_le _ _).mp le_rfl c hlt) (h4 hlt), fun i hi => h5 i (by omega) hi⟩
  unfold flat
  rw [X1041_eq]
  show (((CL v (X398 v) 80 (kidx f)).toInt : ℝ) : EReal) = _
  rw [h1]; rfl
end Cert.KernelIdeal.Value
-- ==== Proof.RArg.lean ====
module

public import proofs.«01_k».proof.Proof.KVals
public import proofs.«01_k».proof.Proof.RefStepRun
public import Idealize.ShloMosaic.Lib.Pointwise
public import Idealize.ShloMosaic.PureOps.Ideal.Laws
public import Idealize.ShloMosaic.Lib.Routing.BitFacts

@[expose] public section
noncomputable section
/-! What the reference's arg-max returns: the first index of a largest value. -/
namespace Cert.ReferenceIdeal.Read
open Cert.ReferenceIdeal Cert.ReferenceIdeal.Gen Cert.Model Idealize.ShloMosaic Idealize.ShloMosaic.TcCoe Idealize.SL.Sem

/-- `p` is no better than `r`: a smaller value, or the same value at an index no smaller. -/
def Below (p r : EReal × BitVec 32) : Prop := p.1 < r.1 ∨ (p.1 = r.1 ∧ r.2.toInt ≤ p.2.toInt)

theorem below_refl (p : EReal × BitVec 32) : Below p p := Or.inr ⟨rfl, le_rfl⟩

theorem below_trans {p q r : EReal × BitVec 32} (h1 : Below p q) (h2 : Below q r) : Below p r := by
  rcases h1 with h1 | ⟨h1, h1'⟩ <;> rcases h2 with h2 | ⟨h2, h2'⟩
  · exact Or.inl (h1.trans h2)
  · exact Or.inl (h2 ▸ h1)
  · exact Or.inl (h1 ▸ h2)
  · exact Or.inr ⟨h1.trans h2, h2'.trans h1'⟩

/-- The body of the reduction keeps the better of its two pairs. -/
theorem red_cases (a b : EReal × BitVec 32) :
    (reducer_argmax_f32_i32 (F := Ideal) a b = a ∧ Below b a) ∨ (reducer_argmax_f32_i32 (F := Ideal) a b = b ∧ Below a b) := by
  obtain ⟨av, ai⟩ := a
  obtain ⟨bv, bi⟩ := b
  have e : reducer_argmax_f32_i32 (F := Ideal) (av, ai) (bv, bi)
      = (if bv < av then av else bv, if bv < av ∨ (av = bv ∧ ai.toInt < bi.toInt) then ai else bi) := by
    have hs : ai.slt bi = decide (ai.toInt < bi.toInt) := rfl
    simp only [reducer_argmax_f32_i32, Ideal.cmpf_def, Ideal.cmp, IntOp.cmpi, IntOp.ori, IntOp.andi, Scalar.select, hs]
    by_cases h1 : bv < av <;> by_cases h2 : av = bv <;> by_cases h3 : ai.toInt < bi.toInt <;> simp [h1, h2, h3]
  rw [e]
  rcases lt_trichotomy bv av with h | h | h
  · left; simp [h, Below]
  · subst h
    by_cases h3 : ai.toInt < bi.toInt
    · left; simp [h3, Below, h3.le]
    · right; simp [h3, Below]; omega
  · right
    have h2 : ¬ bv < av := not_lt.mpr h.le
    have h3 : av ≠ bv := h.ne
    simp [h2, h3, Below, h]

/-- The fold over a list of pairs ends on one of them, no worse than any. -/
theorem fold_best (L : List (EReal × BitVec 32)) : ∀ a : EReal × BitVec 32,
    (L.foldl (reducer_argmax_f32_i32 (F := Ideal)) a ∈ a :: L)
      ∧ ∀ p ∈ a :: L, Below p (L.foldl (reducer_argmax_f32_i32 (F := Ideal)) a) := by
  induction L with
  | nil => intro a; simp [below_refl]
  | cons b L ih =>
    intro a
    obtain ⟨hm, hb⟩ := ih (reducer_argmax_f32_i32 (F := Ideal) a b)
    rw [List.foldl_cons]
    have h0 := hb _ List.mem_cons_self
    rcases red_cases a b with ⟨e, hl⟩ | ⟨e, hl⟩ <;> rw [e] at hm hb h0 ⊢
    · refine ⟨?_, ?_⟩
      · rcases List.mem_cons.mp hm with h | h
        · rw [h]; exact List.mem_cons_self
        · exact List.mem_cons_of_mem _ (List.mem_cons_of_mem _ h)
      · intro p hp
        rcases List.mem_cons.mp hp with h | h
        · rw [h]; exact h0
        · rcases List.mem_cons.mp h with h | h
          · rw [h]; exact below_trans hl h0
          · exact hb _ (List.mem_cons_of_mem _ h)
    · refine ⟨List.mem_cons_of_mem _ hm, ?_⟩
      intro p hp
      rcases List.mem_cons.mp hp with h | h
      · rw [h]; exact below_trans hl h0
      · exact hb _ h

/-- An arg-max over a fiber that the cells `g 0`, `g 1`, … run through, each carrying its number. -/
theorem argmax_fiber {s t : Shape} {axes : List (Fin s.rank)} (n : ℕ) (hn : 0 < n) (hn2 : n < 2 ^ 31)
    (x : FVec Ideal s .f32) (y : s.Idx → BitVec 32) (ix : S_.Idx → Ideal .f32) (iy : S_.Idx → BitVec 32)
    (h : s.ReducesTo axes t) (hu : 0 < S_.numel) (j : t.Idx) (g : Fin n → s.Idx)
    (hg : ∀ i, h.drop (g i) = j) (hg' : ∀ i, h.drop i = j → ∃ k, g k = i)
    (hy : ∀ k, y (g k) = BitVec.ofNat 32 k.val) (hix : ix (Shape.Idx.first hu) = (⊥ : EReal))
    (hiy : iy (Shape.Idx.first hu) = 0#32) :
    ∃ p : Fin n, (Host.argReduce (reducer_argmax_f32_i32 (F := Ideal)) x y ix iy h hu j).2 = BitVec.ofNat 32 p.val
      ∧ (∀ k, (x (g k) : EReal) ≤ x (g p)) ∧ ∀ k, (∀ k', (x (g k') : EReal) ≤ x (g k)) → p ≤ k := by
  have hti : ∀ k : Fin n, (BitVec.ofNat 32 k.val).toInt = (k.val : ℤ) := fun k => by
    rw [BitVec.toInt_eq_toNat_of_lt (by rw [BitVec.toNat_ofNat]; have := k.isLt; omega), BitVec.toNat_ofNat]
    have := k.isLt; norm_num; omega
  rw [Ideal.argReduce_eq_reduce2, Host.reduce2_eq_foldl_fiber, hix, hiy]
  have hfib : ∀ p, p ∈ Host.argReduceFiber x y h j ↔ ∃ k, p = (x (g k), BitVec.ofNat 32 k.val) := by
    intro p
    simp only [Host.argReduceFiber, List.mem_map, List.mem_filter, List.mem_finRange, true_and, decide_eq_true_eq]
    constructor
    · rintro ⟨m, hm, rfl⟩
      obtain ⟨k, hk⟩ := hg' _ hm
      exact ⟨k, by rw [← hk, hy]⟩
    · rintro ⟨k, rfl⟩
      exact ⟨s.rowMajor (g k), by rw [Equiv.symm_apply_apply]; exact ⟨hg k, by rw [hy]⟩⟩
  obtain ⟨hm, hb⟩ := fold_best (Host.argReduceFiber x y h j) ((⊥ : EReal), 0#32)
  generalize hr : (Host.argReduceFiber x y h j).foldl (reducer_argmax_f32_i32 (F := Ideal)) ((⊥ : EReal), 0#32) = r at hm hb
  have hbk : ∀ k, Below (x (g k), BitVec.ofNat 32 k.val) r := fun k =>
    hb _ (List.mem_cons_of_mem _ ((hfib _).mpr ⟨k, rfl⟩))
  have hr' : ∃ p : Fin n, r = (x (g p), BitVec.ofNat 32 p.val) := by
    rcases List.mem_cons.mp hm with e | e
    · refine ⟨⟨0, hn⟩, ?_⟩
      have h0 := hbk ⟨0, hn⟩
      rw [e] at h0 ⊢
      rcases h0 with h0 | ⟨h0, _⟩
      · exact absurd h0 not_lt_bot
      · exact Prod.ext h0.symm rfl
    · exact (hfib _).mp e
  obtain ⟨p, hp⟩ := hr'
  have hle : ∀ k, (x (g k) : EReal) ≤ x (g p) := fun k => by
    have := hbk k
    rw [hp] at this
    rcases this with h | ⟨h, _⟩
    · exact h.le
    · exact h.le
  refine ⟨p, ?_, hle, ?_⟩
  · exact congrArg Prod.snd hp
  · intro k hk
    have := hbk k
    rw [hp] at this
    rcases this with h | ⟨_, h⟩
    · exact absurd h (not_lt.mpr (hk p))
    · simp only [hti] at h
      exact Fin.le_def.mpr (by omega)

theorem sub0 (i j : S_.Idx) : i = j := funext fun a => a.elim0

/-- The arg-max of a round: the model's pick. -/
theorem argmax_all (x : FVec Ideal S20480 .f32) (y : S20480.Idx → BitVec 32) (ix : S_.Idx → Ideal .f32) (iy : S_.Idx → BitVec 32)
    (hu : 0 < S_.numel) (j : S_.Idx) (hy : ∀ k : Fin 20480, y (ix1 k) = BitVec.ofNat 32 k.val)
    (hix : ∀ i, ix i = (⊥ : EReal)) (hiy : ∀ i, iy i = 0#32) :
    (Host.argReduce (reducer_argmax_f32_i32 (F := Ideal)) x y ix iy reducesTo_S20480_S_d0 hu j).2
      = BitVec.ofNat 32 (pick fun f => x (ix1 f)).val := by
  obtain ⟨p, h1, h2, h3⟩ := argmax_fiber 20480 (by norm_num) (by norm_num) x y ix iy reducesTo_S20480_S_d0 hu j ix1
    (fun i => sub0 _ _) (fun i _ => ⟨i 0, (eq_ix1 i).symm⟩) hy (hix _) (hiy _)
  rw [h1, eq_pick (s := fun f => x (ix1 f)) (p := p) ⟨h2, h3⟩]

/-- The arg-max over the classes of one box. -/
theorem argmax_cls (x : FVec Ideal S20480x80 .f32) (y : S20480x80.Idx → BitVec 32) (ix : S_.Idx → Ideal .f32)
    (iy : S_.Idx → BitVec 32) (hu : 0 < S_.numel) (f : Fin 20480)
    (hy : ∀ k : Fin 80, y (ix2 f k) = BitVec.ofNat 32 k.val) (hix : ∀ i, ix i = (⊥ : EReal)) (hiy : ∀ i, iy i = 0#32) :
    ∃ p : Fin 80, (Host.argReduce (reducer_argmax_f32_i32 (F := Ideal)) x y ix iy reducesTo_S20480x80_S20480_d1 hu (ix1 f)).2
        = BitVec.ofNat 32 p.val
      ∧ (∀ k : Fin 80, (x (ix2 f k) : EReal) ≤ x (ix2 f p))
      ∧ ∀ k : Fin 80, (∀ k' : Fin 80, (x (ix2 f k') : EReal) ≤ x (ix2 f k)) → p ≤ k := by
  refine argmax_fiber 80 (by norm_num) (by norm_num) x y ix iy reducesTo_S20480x80_S20480_d1 hu (ix1 f) (fun c => ix2 f c)
    ?_ ?_ hy (hix _) (hiy _)
  · intro i
    funext a
    match a with
    | ⟨0, _⟩ => exact Fin.ext (Shape.ReducesTo.drop_apply_val_of_eq reducesTo_S20480x80_S20480_d1 (ix2 f i) (0 : Fin 1) (0 : Fin 2))
  · intro i hi
    refine ⟨i 1, ?_⟩
    have h0 : i 0 = f := Fin.ext (by
      rw [← Shape.ReducesTo.drop_apply_val_of_eq reducesTo_S20480x80_S20480_d1 i (0 : Fin 1) (0 : Fin 2) (by decide), hi]; rfl)
    rw [← h0]; exact (eq_ix2 i).symm

end Cert.ReferenceIdeal.Read
-- ==== Proof.RVals.lean ====
module

public import proofs.«01_k».proof.Proof.RArg

@[expose] public section
noncomputable section
/-! What the reference computes of each box before its loop. -/
namespace Cert.ReferenceIdeal.Read
open Cert.ReferenceIdeal Cert.ReferenceIdeal.Gen Cert.ReferenceIdeal.Step Cert.Model Idealize.ShloMosaic Idealize.ShloMosaic.TcCoe Idealize.SL.Sem

/-- The argument's contents. -/
abbrev Arg := (⟨S1x64x64x425, .f32⟩ : BufTy).Contents (Elt Ideal)

/-- The channels of box `f`. -/
def rch (X : Arg) (f : Fin 20480) (n : ℕ) : EReal :=
  A_main_v0 (F := Ideal) X (ix2 f (⟨min n 84, by omega⟩ : Fin 85))

theorem rch_at (X : Arg) (f a : Fin 20480) (b : Fin 85) (n : ℕ) (ha : a.val = f.val) (hb : b.val = n) :
    A_main_v0 (F := Ideal) X (ix2 a b) = rch X f n := by
  obtain rfl : a = f := Fin.ext ha
  subst hb
  unfold rch
  exact congrArg (fun b => A_main_v0 (F := Ideal) X (ix2 a b)) (Fin.ext (by have := b.isLt; simp; omega))

theorem lit0 : Ideal.ofBits .f32 0x00000000#32 = (0 : EReal) := by simp [Ideal.ofBits, Ideal.ieee]
theorem litm : Ideal.ofBits .f32 0xFF800000#32 = (⊥ : EReal) := by simp [Ideal.ofBits, Ideal.ieee]

theorem div64 (x : EReal) : Ideal.div x (Ideal.ofBits .f32 0x42800000#32) = x * Ideal.ofBits .f32 0x3C800000#32 := by
  have h : Ideal.ofBits .f32 0x42800000#32 = ((64 : ℝ) : EReal) := by
    simp [Ideal.ofBits, Ideal.ieee]; rw [← EReal.coe_mul]; norm_num
  have h' : Ideal.ofBits .f32 0x3C800000#32 = ((1 / 64 : ℝ) : EReal) := by
    simp [Ideal.ofBits, Ideal.ieee]; rw [← EReal.coe_mul]; norm_num
  rw [h, h', Ideal.div_coe (by norm_num)]

theorem div2 (x : EReal) : Ideal.div x (Ideal.ofBits .f32 0x40000000#32) = x * Ideal.ofBits .f32 0x3F000000#32 := by
  have h : Ideal.ofBits .f32 0x40000000#32 = ((2 : ℝ) : EReal) := by
    simp [Ideal.ofBits, Ideal.ieee]; rw [← EReal.coe_mul]; norm_num
  have h' : Ideal.ofBits .f32 0x3F000000#32 = ((1 / 2 : ℝ) : EReal) := by
    simp [Ideal.ofBits, Ideal.ieee]; rw [← EReal.coe_mul]; norm_num
  rw [h, h', Ideal.div_coe (by norm_num)]

theorem small_word (n : ℕ) (h : n < 2 ^ 31) : FloatOps.sitofp (F := Ideal) .f32 (BitVec.ofNat 32 n) = (((n : ℕ) : ℝ) : EReal) := by
  show (((BitVec.ofNat 32 n).toInt : ℝ) : EReal) = _
  rw [show (BitVec.ofNat 32 n).toInt = (n : ℤ) from by
    rw [BitVec.toInt_eq_toNat_of_lt (by rw [BitVec.toNat_ofNat]; omega), BitVec.toNat_ofNat]; norm_num; omega]
  rw [Int.cast_natCast]

theorem v41_at (X : Arg) (f : Fin 20480) : A_main_v41 (F := Ideal) X (ix1 f) = cx (rch X f) f.val := by
  unfold A_main_v41 A_main_v39 A_main_v38 A_main_v36 A_main_v34 A_main_v33 A_main_v32 A_main_v31 K_main_v40 K_main_v6 K_main_v37 K_main_v35
    K_main_v5 K_main_v4 K_main_cst_10 K_main_cst_9 K_main_cst_11
  simp only [pointwise]
  rw [rch_at X f _ _ 0 (by simp) rfl, div64, small_word _ (by omega)]
  rfl

theorem v52_at (X : Arg) (f : Fin 20480) : A_main_v52 (F := Ideal) X (ix1 f) = cy (rch X f) f.val := by
  unfold A_main_v52 A_main_v50 A_main_v49 A_main_v47 A_main_v45 A_main_v44 A_main_v43 A_main_v42 K_main_v51 K_main_v3 K_main_v48 K_main_v46
    K_main_v2 K_main_v1 K_main_cst_12 K_main_cst_13 K_main_cst_14
  simp only [pointwise]
  rw [rch_at X f _ _ 1 (by simp) rfl, div64, small_word _ (by omega)]
  have e : f.val / 320 = f.val / 5 / 64 := by omega
  rw [e]
  rfl

theorem w_at (f : Fin 20480) : K_main_v18 (F := Ideal) (ix1 f) = aw (f.val % 5) := by
  unfold K_main_v18 K_main_v17 K_main_v12 K_main_v13 K_main_v14 K_main_v15 K_main_v16 K_main_v7 K_main_v8 K_main_v9 K_main_v10 K_main_v11
    K_main_cst K_main_cst_0 K_main_cst_1 K_main_cst_2 K_main_cst_3
  simp only [pointwise]
  unfold aw
  have h5 : f.val % 5 < 5 := Nat.mod_lt _ (by norm_num)
  generalize f.val % 5 = n at h5 ⊢
  interval_cases n <;> rfl

theorem h_at (f : Fin 20480) : K_main_v30 (F := Ideal) (ix1 f) = ah (f.val % 5) := by
  unfold K_main_v30 K_main_v29 K_main_v24 K_main_v25 K_main_v26 K_main_v27 K_main_v28 K_main_v19 K_main_v20 K_main_v21 K_main_v22 K_main_v23
    K_main_cst_4 K_main_cst_5 K_main_cst_6 K_main_cst_7 K_main_cst_8
  simp only [pointwise]
  unfold ah
  have h5 : f.val % 5 < 5 := Nat.mod_lt _ (by norm_num)
  generalize f.val % 5 = n at h5 ⊢
  interval_cases n <;> rfl

theorem v58_at (X : Arg) (f : Fin 20480) : A_main_v58 (F := Ideal) X (ix1 f)
    = Ideal.exp (rch X f 2) * aw (f.val % 5) * Ideal.ofBits .f32 0x3C800000#32 := by
  unfold A_main_v58 A_main_v56 A_main_v55 A_main_v54 A_main_v53 K_main_v57 K_main_cst_15
  simp only [pointwise]
  rw [rch_at X f _ _ 2 (by simp) rfl, div64, w_at]

theorem v64_at (X : Arg) (f : Fin 20480) : A_main_v64 (F := Ideal) X (ix1 f)
    = Ideal.exp (rch X f 3) * ah (f.val % 5) * Ideal.ofBits .f32 0x3C800000#32 := by
  unfold A_main_v64 A_main_v62 A_main_v61 A_main_v60 A_main_v59 K_main_v63 K_main_cst_16
  simp only [pointwise]
  rw [rch_at X f _ _ 3 (by simp) rfl, div64, h_at]

theorem v86_at (X : Arg) (f : Fin 20480) : A_main_v86 (F := Ideal) X (ix1 f) = cy (rch X f) f.val - hh (rch X f) f.val := by
  unfold A_main_v86 A_main_v85 K_main_v84 K_main_cst_21
  simp only [pointwise]
  rw [v52_at, v64_at, div2]; rfl

theorem v89_at (X : Arg) (f : Fin 20480) : A_main_v89 (F := Ideal) X (ix1 f) = cx (rch X f) f.val - hw (rch X f) f.val := by
  unfold A_main_v89 A_main_v88 K_main_v87 K_main_cst_22
  simp only [pointwise]
  rw [v41_at, v58_at, div2]; rfl

theorem v92_at (X : Arg) (f : Fin 20480) : A_main_v92 (F := Ideal) X (ix1 f) = cy (rch X f) f.val + hh (rch X f) f.val := by
  unfold A_main_v92 A_main_v91 K_main_v90 K_main_cst_23
  simp only [pointwise]
  rw [v52_at, v64_at, div2]; rfl

theorem v95_at (X : Arg) (f : Fin 20480) : A_main_v95 (F := Ideal) X (ix1 f) = cx (rch X f) f.val + hw (rch X f) f.val := by
  unfold A_main_v95 A_main_v94 K_main_v93 K_main_cst_24
  simp only [pointwise]
  rw [v41_at, v58_at, div2]; rfl

/-! The scores of the classes. -/

theorem logistic_real (x : EReal) : ∃ a : ℝ, 0 ≤ a ∧ Ideal.logistic x = (a : EReal) := by
  induction x using EReal.rec with
  | bot => exact ⟨0, le_rfl, by simp⟩
  | top => exact ⟨1, zero_le_one, by simp⟩
  | coe r => exact ⟨(1 + Real.exp (-r))⁻¹, by positivity, Ideal.logistic_coe r⟩

/-- The score of class `c`, of a box's channels. -/
def score (r : ℕ → EReal) (c : ℕ) : EReal :=
  Ideal.logistic (r 4) * Ideal.div (Ideal.exp (r (5 + c) - top r)) (tot r)

theorem v83_at (X : Arg) (f : Fin 20480) (c : Fin 80) : A_main_v83 (F := Ideal) X (ix2 f c) = score (rch X f) c.val := by
  have h71 : ∀ u : Fin 1, A_main_v71 (F := Ideal) X (ix2 f u) = Ideal.logistic (rch X f 4) := by
    intro u
    unfold A_main_v71 A_main_v69 A_main_v67 A_main_v66 A_main_v65 K_main_v70 K_main_v68 K_main_cst_17 K_main_cst_18
    simp only [pointwise]
    rw [rch_at X f _ _ 4 (by simp) (by simp)]
    rfl
  have h72 : ∀ k : Fin 80, A_main_v72 (F := Ideal) X (ix2 f k) = rch X f (5 + k.val) := by
    intro k
    unfold A_main_v72
    simp only [pointwise]
    exact rch_at X f _ _ _ (by simp) (by simp)
  have h73 : A_main_v73 (F := Ideal) X (ix1 f) = top (rch X f) := by
    unfold A_main_v73 K_main_cst_19
    simp only [pointwise, h72, litm]
    rfl
  have h77 : ∀ k : Fin 80, A_main_v77 (F := Ideal) X (ix2 f k) = Ideal.exp (rch X f (5 + k.val) - top (rch X f)) := by
    intro k
    unfold A_main_v77 A_main_v76 A_main_v75 A_main_v74
    simp only [pointwise, h72]
    rw [← h73]; rfl
  have h78 : A_main_v78 (F := Ideal) X (ix1 f) = tot (rch X f) := by
    unfold A_main_v78 K_main_cst_20
    simp only [pointwise, h77, lit0]
    rw [zero_add]; rfl
  unfold A_main_v83 A_main_v82 A_main_v81 A_main_v80 A_main_v79
  simp only [pointwise, h77]
  unfold score
  rw [← h78, ← h71 0]
  rfl

/-- Logits that are real numbers. -/
def RealLogits (r : ℕ → EReal) : Prop := ∀ c < 80, ∃ l : ℝ, r (5 + c) = (l : EReal)

theorem top_is (r : ℕ → EReal) : ∃ m < 80, top r = r (5 + m) := by
  obtain ⟨m, _, hm⟩ := Finset.exists_max_image (Finset.univ : Finset (Fin 80)) (fun i => r (5 + i.val)) ⟨0, Finset.mem_univ _⟩
  refine ⟨m.val, m.isLt, le_antisymm ?_ ?_⟩
  · exact (Cert.KernelIdeal.Value.fold_le r _).mpr fun i hi => hm ⟨i, hi⟩ (Finset.mem_univ _)
  · exact (Cert.KernelIdeal.Value.fold_le r _).mp le_rfl m.val m.isLt

theorem sum_real {ι : Type} (t : Finset ι) (g : ι → ℝ) : ((∑ i ∈ t, g i : ℝ) : EReal) = ∑ i ∈ t, (g i : EReal) := by
  classical
  induction t using Finset.induction_on with
  | empty => simp
  | insert i t hi ih => rw [Finset.sum_insert hi, Finset.sum_insert hi, EReal.coe_add, ih]

/-- With real logits the class scores are real: the confidence times the shifted exponential over a positive sum. -/
theorem scores (r : ℕ → EReal) (h : RealLogits r) : ∃ (a s : ℝ) (l : ℕ → ℝ) (m : ℕ), 0 ≤ a ∧ 0 < s ∧ m < 80
    ∧ (∀ c < 80, r (5 + c) = (l c : EReal)) ∧ top r = (l m : EReal) ∧ best r = ((a * (1 / s) : ℝ) : EReal)
    ∧ ∀ c < 80, score r c = ((a * (Real.exp (l c - l m) * (1 / s)) : ℝ) : EReal) := by
  obtain ⟨a, ha, hl⟩ := logistic_real (r 4)
  obtain ⟨m, hm, ht⟩ := top_is r
  choose! l hlog using h
  have htop : top r = (l m : EReal) := by rw [ht, hlog m hm]
  have he : ∀ c < 80, Ideal.exp (r (5 + c) - top r) = ((Real.exp (l c - l m) : ℝ) : EReal) := by
    intro c hc
    rw [htop, hlog c hc, ← EReal.coe_sub]; exact Ideal.exp_coe _
  have hs : tot r = ((∑ i : Fin 80, Real.exp (l i.val - l m) : ℝ) : EReal) := by
    unfold tot
    rw [sum_real]
    exact Finset.sum_congr rfl fun i _ => he i.val i.isLt
  have hpos : 0 < ∑ i : Fin 80, Real.exp (l i.val - l m) :=
    Finset.sum_pos (fun i _ => Real.exp_pos _) ⟨0, Finset.mem_univ _⟩
  refine ⟨a, _, l, m, ha, hpos, hm, hlog, htop, ?_, ?_⟩
  · unfold best
    rw [hl, hs, Ideal.div_coe hpos.ne', ← EReal.coe_mul]
  · intro c hc
    unfold score
    rw [he c hc, hl, hs, Ideal.div_coe hpos.ne', ← EReal.coe_mul, ← EReal.coe_mul]

/-- The greatest class score is the confidence over the sum. -/
theorem best_is (r : ℕ → EReal) (h : RealLogits r) :
    (Finset.univ.fold max ⊥ fun i : Fin 80 => score r i.val) = best r := by
  obtain ⟨a, s, l, m, ha, hs, hm, hlog, htop, hb, hsc⟩ := scores r h
  have hle : ∀ c < 80, l c ≤ l m := by
    intro c hc
    have := (Cert.KernelIdeal.Value.fold_le r _).mp le_rfl c hc
    rw [htop, hlog c hc] at this
    exact EReal.coe_le_coe_iff.mp this
  have hs1 : 0 < 1 / s := by positivity
  apply le_antisymm
  · rw [Finset.fold_max_le]
    refine ⟨bot_le, fun i _ => ?_⟩
    rw [hsc i.val i.isLt, hb, EReal.coe_le_coe_iff]
    refine mul_le_mul_of_nonneg_left ?_ ha
    have h1 : Real.exp (l i.val - l m) ≤ 1 := Real.exp_le_one_iff.mpr (by linarith [hle i.val i.isLt])
    nlinarith
  · rw [Finset.le_fold_max]
    refine Or.inr ⟨⟨m, hm⟩, Finset.mem_univ _, ?_⟩
    rw [hsc m hm, hb, sub_self, Real.exp_zero, one_mul]

/-- The first class of the greatest score is the first of the greatest logit, unless the confidence is nil. -/
theorem class_is (r : ℕ → EReal) (h : RealLogits r) (p : Fin 80) (hp : ∀ k : Fin 80, score r k.val ≤ score r p.val)
    (hf : ∀ k : Fin 80, (∀ k' : Fin 80, score r k'.val ≤ score r k.val) → p ≤ k) (ht : Ideal.ofBits .f32 0x3D4CCCCD#32 ≤ best r) :
    IsClass r p.val := by
  obtain ⟨a, s, l, m, ha, hs, hm, hlog, htop, hb, hsc⟩ := scores r h
  have hs1 : 0 < 1 / s := by positivity
  have hthr : (0 : EReal) < Ideal.ofBits .f32 0x3D4CCCCD#32 := by
    have : Ideal.ofBits .f32 0x3D4CCCCD#32 = ((13421773 * (1 / 268435456) : ℝ) : EReal) := by
      simp [Ideal.ofBits, Ideal.ieee]; rw [← EReal.coe_mul, ← EReal.coe_mul]; norm_num
    rw [this]; exact EReal.coe_pos.mpr (by norm_num)
  have hapos : 0 < a := by
    have := hthr.trans_le ht
    rw [hb, EReal.coe_pos] at this
    rcases ha.lt_or_eq with h | h
    · exact h
    · rw [← h] at this; simp at this
  have hiff : ∀ c < 80, ∀ d < 80, (score r c ≤ score r d ↔ r (5 + c) ≤ r (5 + d)) := by
    intro c hc d hd
    rw [hsc c hc, hsc d hd, hlog c hc, hlog d hd, EReal.coe_le_coe_iff, EReal.coe_le_coe_iff,
      mul_le_mul_iff_right₀ hapos, mul_le_mul_iff_left₀ hs1, Real.exp_le_exp]
    constructor <;> intro h <;> linarith
  have hmax : ∀ c < 80, r (5 + c) ≤ top r := (Cert.KernelIdeal.Value.fold_le r _).mp le_rfl
  have hpt : r (5 + p.val) = top r :=
    le_antisymm (hmax _ p.isLt) ((Cert.KernelIdeal.Value.fold_le r _).mpr fun i hi =>
      (hiff i hi p.val p.isLt).mp (hp ⟨i, hi⟩))
  refine ⟨p.isLt, hpt, fun c hc => lt_of_le_of_ne (hmax c (by omega)) fun e => ?_⟩
  have := hf ⟨c, by omega⟩ fun k' => (hiff _ k'.isLt _ (by omega)).mpr (by rw [e]; exact hmax _ k'.isLt)
  exact absurd (Fin.le_def.mp this) (by simpa using hc)

end Cert.ReferenceIdeal.Read
-- ==== Proof.RCls.lean ====
module

public import proofs.«01_k».proof.Proof.RVals

@[expose] public section
noncomputable section
/-! The reference's scores, classes and areas of the boxes. -/
namespace Cert.ReferenceIdeal.Read
open Cert.ReferenceIdeal Cert.ReferenceIdeal.Gen Cert.ReferenceIdeal.Step Cert.Model Idealize.ShloMosaic Idealize.ShloMosaic.TcCoe Idealize.SL.Sem

theorem v96_at (X : Arg) (f : Fin 20480) (h : RealLogits (rch X f)) : A_main_v96 (F := Ideal) X (ix1 f) = best (rch X f) := by
  rw [← best_is _ h]
  have hs : ∀ k : Fin 80, A_main_v83 (F := Ideal) X (ix2 f k) = score (rch X f) k.val := v83_at X f
  unfold A_main_v96 K_main_cst_25
  generalize A_main_v83 (F := Ideal) X = x at hs
  simp only [pointwise, hs, litm]

theorem mask_of (x y z : FVec Ideal S20480 .f32) (f : Fin 20480) (t : EReal) (hx : x (ix1 f) = t)
    (hy : y (ix1 f) = Ideal.ofBits .f32 0x3D4CCCCD#32) (hz : z (ix1 f) = Ideal.ofBits .f32 0xBF800000#32) :
    select (cmpf .oge x y) x z (ix1 f) = masked t := by
  simp only [pointwise]
  rw [hx, hy, hz]
  rfl

theorem v100_at (X : Arg) (f : Fin 20480) (h : RealLogits (rch X f)) : A_main_v100 (F := Ideal) X (ix1 f) = masked (best (rch X f)) := by
  have hb := v96_at X f h
  have h98 : K_main_v98 (F := Ideal) (ix1 f) = Ideal.ofBits .f32 0x3D4CCCCD#32 := by
    unfold K_main_v98 K_main_cst_26
    simp only [pointwise]
  have h1 : K_main_call1_v1 (F := Ideal) (ix1 f) = Ideal.ofBits .f32 0xBF800000#32 := by
    unfold K_main_call1_v1 K_main_call1_v0 K_main_cst_27
    simp only [pointwise, id]
  exact mask_of _ _ _ f _ hb h98 h1

theorem v97_eq (X : Arg) : A_main_v97 (F := Ideal) X
    = fun j => (Host.argReduce (reducer_argmax_f32_i32 (F := Ideal)) (A_main_v83 (F := Ideal) X) (K_main_call0_v0 (F := Ideal))
      (K_main_call0_cst (F := Ideal)) (K_main_call0_c (F := Ideal)) reducesTo_S20480x80_S20480_d1 h_S_ j).2 := rfl

theorem v97_at (X : Arg) (f : Fin 20480) : ∃ p : Fin 80, A_main_v97 (F := Ideal) X (ix1 f) = BitVec.ofNat 32 p.val
    ∧ (∀ k : Fin 80, score (rch X f) k.val ≤ score (rch X f) p.val)
    ∧ ∀ k : Fin 80, (∀ k' : Fin 80, score (rch X f) k'.val ≤ score (rch X f) k.val) → p ≤ k := by
  have hy : ∀ k : Fin 80, K_main_call0_v0 (F := Ideal) (ix2 f k) = BitVec.ofNat 32 k.val := by
    intro k
    unfold K_main_call0_v0
    simp only [pointwise]
  have hx : ∀ i, K_main_call0_cst (F := Ideal) i = (⊥ : EReal) := by
    intro i
    unfold K_main_call0_cst
    simp only [pointwise]
    exact litm
  have hc : ∀ i, K_main_call0_c (F := Ideal) i = 0#32 := by
    intro i
    unfold K_main_call0_c
    simp only [pointwise]
  have hs : ∀ k : Fin 80, A_main_v83 (F := Ideal) X (ix2 f k) = score (rch X f) k.val := v83_at X f
  obtain ⟨p, h1, h2, h3⟩ := argmax_cls (A_main_v83 (F := Ideal) X) (K_main_call0_v0 (F := Ideal)) (K_main_call0_cst (F := Ideal))
    (K_main_call0_c (F := Ideal)) h_S_ f hy hx hc
  refine ⟨p, ?_, fun k => ?_, fun k hk => h3 k fun k' => ?_⟩
  · exact (congrFun (v97_eq X) (ix1 f)).trans h1
  · have := h2 k; rwa [hs, hs] at this
  · rw [hs, hs]; exact hk k'

theorem v101_at (X : Arg) (f : Fin 20480) (h : RealLogits (rch X f)) :
    ∃ c, A_main_v101 (F := Ideal) X (ix1 f) = natf c
      ∧ (Ideal.ofBits .f32 0x3D4CCCCD#32 ≤ best (rch X f) → IsClass (rch X f) c) := by
  obtain ⟨p, h1, h2, h3⟩ := v97_at X f
  refine ⟨p.val, ?_, class_is _ h p h2 h3⟩
  unfold A_main_v101
  generalize A_main_v97 (F := Ideal) X = z at h1
  simp only [pointwise, h1]
  rfl

theorem v111_at (X : Arg) (f : Fin 20480) : A_main_v111 (F := Ideal) X (ix1 f)
    = (A_main_v92 (F := Ideal) X (ix1 f) - A_main_v86 (F := Ideal) X (ix1 f))
      * (A_main_v95 (F := Ideal) X (ix1 f) - A_main_v89 (F := Ideal) X (ix1 f)) := by
  unfold A_main_v111 A_main_v110 A_main_v109
  simp only [pointwise]

end Cert.ReferenceIdeal.Read
-- ==== Proof.RStep.lean ====
module

public import proofs.«01_k».proof.Proof.RCls
public import Idealize.ShloMosaic.Lib.Routing.OpsOne
public import Idealize.ShloMosaic.Lib.Routing.OpsSet
public import Idealize.ShloMosaic.Lib.DynamicIndex
public import Idealize.ShloMosaic.Lib.Pipeline.Value

@[expose] public section
noncomputable section
/-! A trip of the reference's loop is a round of the model. -/
namespace Cert.ReferenceIdeal.Read
open Cert.ReferenceIdeal Cert.ReferenceIdeal.Gen Cert.ReferenceIdeal.Step Cert.Model Idealize.ShloMosaic Idealize.ShloMosaic.TcCoe Idealize.SL.Sem

/-- The scores a state holds. -/
def scs (s : State Ideal) (f : Fin 20480) : EReal := s.main_v113_7 (ix1 f)

theorem b4_eq (j : ℕ) (s : State Ideal) : b4 (F := Ideal) j s = fun i =>
    (Host.argReduce (reducer_argmax_f32_i32 (F := Ideal)) s.main_v113_7 (b0 j s) (b1 j s) (b2 j s) reducesTo_S20480_S_d0 h_S_ i).2 := rfl

theorem b4_at (j : ℕ) (s : State Ideal) (i : S_.Idx) : b4 (F := Ideal) j s i = BitVec.ofNat 32 (pick (scs s)).val := by
  have h0 : ∀ k : Fin 20480, b0 (F := Ideal) j s (ix1 k) = BitVec.ofNat 32 k.val := by
    intro k
    unfold b0
    simp only [pointwise]
  have h1 : ∀ i, b1 (F := Ideal) j s i = (⊥ : EReal) := by
    intro i
    unfold b1
    simp only [pointwise]
    exact litm
  have h2 : ∀ i, b2 (F := Ideal) j s i = 0#32 := by
    intro i
    unfold b2
    simp only [pointwise]
  exact (congrFun (b4_eq j s) i).trans (argmax_all s.main_v113_7 (b0 j s) (b1 j s) (b2 j s) h_S_ i h0 h1 h2)

theorem word_toInt (p : Fin 20480) : (BitVec.ofNat 32 p.val).toInt = (p.val : ℤ) := by
  have := p.isLt
  rw [BitVec.toInt_eq_toNat_of_lt (by rw [BitVec.toNat_ofNat]; omega), BitVec.toNat_ofNat]; norm_num; omega

/-- An index that is not negative is left as it is. -/
theorem idx_fix (b c z : IVec S_ 32) (hz : ∀ i, z i = 0#32) (p : Fin 20480) (hb : ∀ i, b i = BitVec.ofNat 32 p.val) (i : S_.Idx) :
    select (cmpi .slt b z) c b i = BitVec.ofNat 32 p.val := by
  show Scalar.select (IntOp.cmpi .slt (b i) (z i)) (c i) (b i) = _
  rw [hz, hb]
  have h : IntOp.cmpi .slt (BitVec.ofNat 32 p.val) 0#32 = 0#1 := by
    show BitVec.ofBool ((BitVec.ofNat 32 p.val).slt 0#32) = 0#1
    have : (BitVec.ofNat 32 p.val).slt 0#32 = false := by
      show decide ((BitVec.ofNat 32 p.val).toInt < 0) = false
      rw [word_toInt]
      exact decide_eq_false (by omega)
    rw [this]; rfl
  rw [h]; rfl

theorem b9_at (j : ℕ) (s : State Ideal) (i : S_.Idx) : b9 (F := Ideal) j s i = BitVec.ofNat 32 (pick (scs s)).val := by
  unfold b9 b6
  exact idx_fix _ _ _ (fun i => rfl) _ (b4_at j s) i

theorem b66_at (j : ℕ) (s : State Ideal) (i : S_.Idx) : b66 (F := Ideal) j s i = BitVec.ofNat 32 (pick (scs s)).val := by
  unfold b66 b63
  exact idx_fix _ _ _ (fun i => rfl) _ (b4_at j s) i

theorem b17_at (j : ℕ) (s : State Ideal) (i : S_.Idx) : b17 (F := Ideal) j s i = 0#32 := by
  unfold b17 b12 b16 b10 b11
  rfl

/-- What a state keeps of the boxes through the loop. -/
structure Holds (B : Boxes) (s : State Ideal) : Prop where
  tab : ∀ (f : Fin 20480) (q : Fin 6), s.main_v113_0 (ix2 f q) = col B f q
  y2 : ∀ f : Fin 20480, s.main_v113_1 (ix1 f) = B.y2 f
  y1 : ∀ f : Fin 20480, s.main_v113_2 (ix1 f) = B.y1 f
  x2 : ∀ f : Fin 20480, s.main_v113_3 (ix1 f) = B.x2 f
  x1 : ∀ f : Fin 20480, s.main_v113_4 (ix1 f) = B.x1 f
  ar : ∀ f : Fin 20480, s.main_v113_5 (ix1 f) = area B f

/-- A slice of one row of a table. -/
theorem slice_row (x : FVec Ideal S20480x6 .f32) (p : Fin 20480) (st : Fin 2 → ℤ) (h0 : st 0 = (p.val : ℤ)) (h1 : st 1 = 0)
    (hf : S20480x6.Slices (fun _ => 0) S1x6) (q : Fin 6) : Host.dynamicSlice S1x6 x st hf (ix2 (0 : Fin 1) q) = x (ix2 p q) := by
  have hp := p.isLt
  have hs : S20480x6.Slices ![p.val, 0] S1x6 := ⟨rfl, fun a => by
    match a with
    | ⟨0, _⟩ => show p.val + 1 ≤ 20480; omega
    | ⟨1, _⟩ => show 0 + 6 ≤ 6; omega⟩
  rw [Host.dynamicSlice_eq_extractStridedSlice S1x6 x st ![p.val, 0] hf hs (fun a => by
    match a with
    | ⟨0, _⟩ => exact h0
    | ⟨1, _⟩ => exact h1)]
  simp only [pointwise]
  refine congrArg x ?_
  exact congrArg₂ ix2 (Fin.ext (by simp)) (Fin.ext (by simp))

theorem slice_at (x : FVec Ideal S20480x6 .f32) (p : Fin 20480) (a b : IVec S_ 32) (i : S_.Idx) (ha : a i = BitVec.ofNat 32 p.val)
    (hb : b i = 0#32) (hf : S20480x6.Slices (fun _ => 0) S1x6) (q : Fin 6) :
    Host.dynamicSlice S1x6 x (fun k => ((![a, b] : Fin 2 → IVec S_ 32) k i).toInt) hf (ix2 (0 : Fin 1) q) = x (ix2 p q) :=
  slice_row x p _ (by show (a i).toInt = _; rw [ha, word_toInt])
    (by show (b i).toInt = _; rw [hb]; decide) hf q

variable {B : Boxes} {s : State Ideal}

theorem b19_at (H : Holds B s) (j : ℕ) (q : Fin 6) : b19 (F := Ideal) j s (ix1 q) = col B (pick (scs s)) q := by
  have h18 : b18 (F := Ideal) j s (ix2 (0 : Fin 1) q) = col B (pick (scs s)) q := by
    unfold b18
    rw [← H.tab]
    exact slice_at s.main_v113_0 (pick (scs s)) (b9 j s) (b17 j s) _ (b9_at j s _) (b17_at j s _) sliceFits_S20480x6_S1x6 q
  rw [← h18]
  unfold b19
  generalize b18 (F := Ideal) j s = x
  simp only [pointwise]

theorem c0_at (H : Holds B s) (j : ℕ) (i : S_.Idx) : b21 (F := Ideal) j s i = B.y1 (pick (scs s)) := by
  have h := b19_at H j 0
  unfold b21 b20
  generalize b19 (F := Ideal) j s = x at h
  obtain rfl := sub0 i ix0
  simp only [pointwise]
  exact h
theorem c1_at (H : Holds B s) (j : ℕ) (i : S_.Idx) : b23 (F := Ideal) j s i = B.x1 (pick (scs s)) := by
  have h := b19_at H j 1
  unfold b23 b22
  generalize b19 (F := Ideal) j s = x at h
  obtain rfl := sub0 i ix0
  simp only [pointwise]
  exact h
theorem c2_at (H : Holds B s) (j : ℕ) (i : S_.Idx) : b25 (F := Ideal) j s i = B.y2 (pick (scs s)) := by
  have h := b19_at H j 2
  unfold b25 b24
  generalize b19 (F := Ideal) j s = x at h
  obtain rfl := sub0 i ix0
  simp only [pointwise]
  exact h
theorem c3_at (H : Holds B s) (j : ℕ) (i : S_.Idx) : b27 (F := Ideal) j s i = B.x2 (pick (scs s)) := by
  have h := b19_at H j 3
  unfold b27 b26
  generalize b19 (F := Ideal) j s = x at h
  obtain rfl := sub0 i ix0
  simp only [pointwise]
  exact h

theorem b44_at (H : Holds B s) (j : ℕ) (f : Fin 20480) : b44 (F := Ideal) j s (ix1 f) = inter B (pick (scs s)) f := by
  unfold b44 b43 b42 b41 b40 b39 b38 b37 b36 b35 b34 b33 b32 b31 b30 b29 b28
  simp only [pointwise]
  rw [c0_at H, c1_at H, c2_at H, c3_at H, H.y1, H.y2, H.x1, H.x2]
  rfl

theorem b54_at (H : Holds B s) (j : ℕ) (f : Fin 20480) : b54 (F := Ideal) j s (ix1 f) = iou B (pick (scs s)) f := by
  unfold b54 b53 b52 b51 b50 b49 b48 b47 b46 b45
  simp only [pointwise]
  rw [c0_at H, c1_at H, c2_at H, c3_at H, H.ar, b44_at H]
  rfl

theorem sel_at (x y z w : FVec Ideal S20480 .f32) (f : Fin 20480) (t : EReal) (hx : x (ix1 f) = t)
    (hy : y (ix1 f) = Ideal.ofBits .f32 0x3F000000#32) (hz : z (ix1 f) = Ideal.ofBits .f32 0xBF800000#32) :
    select (cmpf .ogt x y) z w (ix1 f)
      = if Ideal.ofBits .f32 0x3F000000#32 < t then Ideal.ofBits .f32 0xBF800000#32 else w (ix1 f) := by
  simp only [pointwise]
  rw [hx, hy, hz]

theorem b61_at (H : Holds B s) (j : ℕ) (f : Fin 20480) : b61 (F := Ideal) j s (ix1 f)
    = if Ideal.ofBits .f32 0x3F000000#32 < iou B (pick (scs s)) f then Ideal.ofBits .f32 0xBF800000#32 else scs s f := by
  unfold b61 b57
  exact sel_at _ _ _ _ f _ (b54_at H j f) (by unfold b56 b55; simp only [pointwise])
    (by unfold b60; rw [b59_id]; unfold b58; simp only [pointwise])

theorem b69_at (H : Holds B s) (j : ℕ) (f : Fin 20480) : b69 (F := Ideal) j s (ix1 f) = next B (scs s) f := by
  have h61 := b61_at H j f
  have h67 : (b67 (F := Ideal) j s (ix1 (0 : Fin 1))).toInt = ((pick (scs s)).val : ℤ) := by
    have : b67 (F := Ideal) j s (ix1 (0 : Fin 1)) = b66 (F := Ideal) j s ix0 := by
      unfold b67
      simp only [pointwise]
    rw [this, b66_at, word_toInt]
  have h68 : ∀ i, b68 (F := Ideal) j s i = Ideal.ofBits .f32 0xBF800000#32 := by
    intro i
    unfold b68
    simp only [pointwise]
  unfold b69
  unfold next
  have hl := Routing.lands_one scatter_S20480_S1_S__n_0_0_0 rfl rfl (b67 (F := Ideal) j s) (pick (scs s)) h67 f
  by_cases hf : f = pick (scs s)
  · rw [if_pos (Or.inr hf)]
    exact Routing.scatter_set_hit scatter_S20480_S1_S__n_0_0_0 _ _ _ _ _ (fun k _ => h68 k) ix0 (hl.mpr hf)
  · have hm := Routing.scatter_set_miss scatter_S20480_S1_S__n_0_0_0 (b61 (F := Ideal) j s) (b67 (F := Ideal) j s) (b68 (F := Ideal) j s) (ix1 f)
      (fun k hk => hf (hl.mp (by rw [← sub0 k ValueIdx.ix0]; exact hk)))
    refine hm.trans (h61.trans ?_)
    exact if_congr (by simp [hf]) rfl rfl

/-- A row written into a table. -/
theorem write_row (x : FVec Ideal S10x6 .f32) (u : FVec Ideal S1x6 .f32) (j : ℕ) (hj : j < 10) (st : Fin 2 → ℤ) (h0 : st 0 = (j : ℤ)) (h1 : st 1 = 0)
    (hf : S10x6.Slices (fun _ => 0) S1x6) (k : Fin 10) (q : Fin 6) :
    Host.dynamicUpdateSlice x u st hf (ix2 k q) = if k.val = j then u (ix2 (0 : Fin 1) q) else x (ix2 k q) := by
  have hs : S10x6.Slices ![j, 0] S1x6 := ⟨rfl, fun a => by
    match a with
    | ⟨0, _⟩ => show j + 1 ≤ 10; omega
    | ⟨1, _⟩ => show 0 + 6 ≤ 6; omega⟩
  rw [Host.dynamicUpdateSlice_eq_updateSlice x u st hf ![j, 0] (fun a => by
    match a with
    | ⟨0, _⟩ =>
      show (min (max (st 0) 0) ((10 - 1 : ℕ) : ℤ)).toNat = j
      rw [h0]; omega
    | ⟨1, _⟩ =>
      show (min (max (st 1) 0) ((6 - 6 : ℕ) : ℤ)).toNat = 0
      rw [h1]; rfl) hs, updateSlice_apply]
  by_cases hk : k.val = j
  · rw [if_pos hk, dif_pos]
    · refine congrArg u ?_
      refine (eq_ix2 _).trans ?_
      refine congrArg₂ ix2 (Subsingleton.elim _ _) (Fin.ext ?_)
      show q.val - 0 = q.val
      rfl
    · intro a
      match a with
      | ⟨0, _⟩ => show j ≤ k.val ∧ k.val < j + 1; omega
      | ⟨1, _⟩ => show 0 ≤ q.val ∧ q.val < 0 + 6; omega
  · rw [if_neg hk, dif_neg]
    intro h
    have h0' : j ≤ k.val ∧ k.val < j + 1 := h (0 : Fin 2)
    omega

theorem b72_at (H : Holds B s) (j : ℕ) (hj : j < 10) (k : Fin 10) (q : Fin 6) : b72 (F := Ideal) j s (ix2 k q)
    = if k.val = j then col B (pick (scs s)) q else s.main_v113_8 (ix2 k q) := by
  have h70 : b70 (F := Ideal) j s (ix2 (0 : Fin 1) q) = col B (pick (scs s)) q := by
    rw [← b19_at H j q]
    unfold b70
    generalize b19 (F := Ideal) j s = x
    simp only [pointwise]
    rfl
  rw [← h70]
  unfold b72
  refine write_row s.main_v113_8 (b70 j s) j hj _ ?_ ?_ _ k q
  · show (BitVec.ofNat 32 j).toInt = _
    rw [BitVec.toInt_eq_toNat_of_lt (by rw [BitVec.toNat_ofNat]; omega), BitVec.toNat_ofNat]; norm_num; omega
  · exact (by decide : (0#32 : BitVec 32).toInt = 0)

end Cert.ReferenceIdeal.Read
-- ==== Proof.RFin.lean ====
module

public import proofs.«01_k».proof.Proof.RStep

@[expose] public section
noncomputable section
/-! The reference's rows are the model's. -/
namespace Cert.ReferenceIdeal.Read
open Cert.ReferenceIdeal Cert.ReferenceIdeal.Gen Cert.ReferenceIdeal.Step Cert.Model Idealize.ShloMosaic Idealize.ShloMosaic.TcCoe Idealize.SL.Sem

/-- The boxes the reference computes before its loop. -/
def rBoxes (X : Arg) : Boxes where
  y1 f := A_main_v86 (F := Ideal) X (ix1 f)
  x1 f := A_main_v89 (F := Ideal) X (ix1 f)
  y2 f := A_main_v92 (F := Ideal) X (ix1 f)
  x2 f := A_main_v95 (F := Ideal) X (ix1 f)
  sc f := A_main_v100 (F := Ideal) X (ix1 f)
  cls f := A_main_v101 (F := Ideal) X (ix1 f)

theorem tab_at (a b c d e g : FVec Ideal S20480 .f32) (f : Fin 20480) (q : Fin 6) :
    concatenate S20480x6 1 [⟨S20480x1, broadcastInDim S20480x1 ![0] bcast_S20480_S20480x1_0 a⟩, ⟨S20480x1, broadcastInDim S20480x1 ![0] bcast_S20480_S20480x1_0 b⟩,
      ⟨S20480x1, broadcastInDim S20480x1 ![0] bcast_S20480_S20480x1_0 c⟩, ⟨S20480x1, broadcastInDim S20480x1 ![0] bcast_S20480_S20480x1_0 d⟩,
      ⟨S20480x1, broadcastInDim S20480x1 ![0] bcast_S20480_S20480x1_0 e⟩, ⟨S20480x1, broadcastInDim S20480x1 ![0] bcast_S20480_S20480x1_0 g⟩] concatenates_S20480x1_S20480x1_S20480x1_S20480x1_S20480x1_S20480x1_S20480x6_d1 (ix2 f q)
      = (![a (ix1 f), b (ix1 f), c (ix1 f), d (ix1 f), e (ix1 f), g (ix1 f)] : Fin 6 → EReal) q := by
  simp only [pointwise]
  match q with
  | ⟨0, _⟩ => rfl
  | ⟨1, _⟩ => rfl
  | ⟨2, _⟩ => rfl
  | ⟨3, _⟩ => rfl
  | ⟨4, _⟩ => rfl
  | ⟨5, _⟩ => rfl

theorem sc_eq (X : Arg) (f : Fin 20480) : st (rBoxes X) 0 f = A_main_v100 (F := Ideal) X (ix1 f) := by
  unfold st rBoxes
  with_reducible rfl

theorem col_eq (X : Arg) (f : Fin 20480) (q : Fin 6) : col (rBoxes X) f q
    = (![A_main_v86 (F := Ideal) X (ix1 f), A_main_v89 (F := Ideal) X (ix1 f), A_main_v92 (F := Ideal) X (ix1 f), A_main_v95 (F := Ideal) X (ix1 f),
      A_main_v100 (F := Ideal) X (ix1 f), A_main_v101 (F := Ideal) X (ix1 f)] : Fin 6 → EReal) q := by
  unfold col rBoxes
  with_reducible rfl

theorem init_holds (X : Arg) : Holds (rBoxes X) (init (F := Ideal) X) where
  tab f q := by
    rw [init_main_v113_0]
    unfold A_main_v108 A_main_v102 A_main_v103 A_main_v104 A_main_v105 A_main_v106 A_main_v107
    exact (tab_at (A_main_v86 (F := Ideal) X) (A_main_v89 (F := Ideal) X) (A_main_v92 (F := Ideal) X) (A_main_v95 (F := Ideal) X)
      (A_main_v100 (F := Ideal) X) (A_main_v101 (F := Ideal) X) f q).trans (col_eq X f q).symm
  y2 f := by rw [init_main_v113_1]; rfl
  y1 f := by rw [init_main_v113_2]; rfl
  x2 f := by rw [init_main_v113_3]; rfl
  x1 f := by rw [init_main_v113_4]; rfl
  ar f := by rw [init_main_v113_5, v111_at]; rfl

theorem step_holds {B : Boxes} {s : State Ideal} (H : Holds B s) (j : ℕ) : Holds B (step (F := Ideal) j s) where
  tab f q := by rw [step_main_v113_0]; exact H.tab f q
  y2 f := by rw [step_main_v113_1]; exact H.y2 f
  y1 f := by rw [step_main_v113_2]; exact H.y1 f
  x2 f := by rw [step_main_v113_3]; exact H.x2 f
  x1 f := by rw [step_main_v113_4]; exact H.x1 f
  ar f := by rw [step_main_v113_5]; exact H.ar f

/-- The state before trip `n`. -/
def iter (X : Arg) : ℕ → State Ideal
  | 0 => init (F := Ideal) X
  | n + 1 => step (F := Ideal) n (iter X n)

theorem iter_holds (X : Arg) (n : ℕ) : Holds (rBoxes X) (iter X n) := by
  induction n with
  | zero => exact init_holds X
  | succ n ih => exact step_holds ih n

theorem iter_scs (X : Arg) (n : ℕ) : scs (iter X n) = st (rBoxes X) n := by
  induction n with
  | zero => funext f; exact (congrFun (init_main_v113_7 (F := Ideal) X) (ix1 f)).trans (sc_eq X f).symm
  | succ n ih =>
    funext f
    show (step (F := Ideal) n (iter X n)).main_v113_7 (ix1 f) = _
    rw [step_main_v113_7, b69_at (iter_holds X n), ih]; rfl

theorem iter_rows (X : Arg) (n : ℕ) (hn : n ≤ 10) (k : Fin 10) (hk : k.val < n) (q : Fin 6) :
    (iter X n).main_v113_8 (ix2 k q) = col (rBoxes X) (pick (st (rBoxes X) k.val)) q := by
  induction n with
  | zero => omega
  | succ n ih =>
    show (step (F := Ideal) n (iter X n)).main_v113_8 (ix2 k q) = _
    rw [step_main_v113_8, b72_at (iter_holds X n) n (by omega), iter_scs]
    by_cases h : k.val = n
    · rw [if_pos h, h]
    · rw [if_neg h]; exact ih (by omega) (by omega)

theorem keep_at (x : FVec Ideal S10x6 .f32) (y : FVec Ideal S10x1 .f32) (hy : ∀ i, y i = Ideal.ofBits .f32 0x3D4CCCCD#32) (k : Fin 10) (q : Fin 6) :
    mulf x (broadcastInDim S10x6 ![0, 1] bcast_S10x1_S10x6_0_1 (uitofp .f32 (cmpf .oge (extractStridedSlice S10x1 ![0, 4] x slices_S10x6_S10x1_0_4) y))) (ix2 k q)
      = x (ix2 k q) * keep (x (ix2 k (4 : Fin 6))) := by
  simp only [pointwise]
  rw [hy]
  unfold keep
  by_cases h : Ideal.ofBits .f32 0x3D4CCCCD#32 ≤ x (ix2 k (4 : Fin 6))
  · rw [if_pos h]
    refine congrArg (x (ix2 k q) * ·) ?_
    refine (congrArg (fun b : Bool => FloatOps.uitofp (F := Ideal) .f32 (BitVec.ofBool b)) (a₂ := true) ?_).trans ?_
    · refine decide_eq_true ?_
      refine le_of_le_of_eq h (congrArg x (congrArg₂ ix2 (Fin.ext ?_) rfl))
      simp
    · show (((BitVec.ofBool true).toNat : ℝ) : EReal) = 1
      simp
  · rw [if_neg h]
    refine congrArg (x (ix2 k q) * ·) ?_
    refine (congrArg (fun b : Bool => FloatOps.uitofp (F := Ideal) .f32 (BitVec.ofBool b)) (a₂ := false) ?_).trans ?_
    · refine decide_eq_false fun h' => h (le_of_le_of_eq h' (congrArg x (congrArg₂ ix2 (Fin.ext ?_) rfl)))
      simp
    · show (((BitVec.ofBool false).toNat : ℝ) : EReal) = 0
      simp

theorem row_eq (B : Boxes) (k : ℕ) (q : Fin 6) : row B k q = col B (pick (st B k)) q * keep (col B (pick (st B k)) 4) := rfl

theorem ref_row (X : Arg) (k : Fin 10) (q : Fin 6) : R_main_v119 (F := Ideal) (iter X 10) (ix2 k q) = row (rBoxes X) k.val q := by
  unfold R_main_v119
  refine (keep_at _ _ (fun i => ?_) k q).trans ?_
  · simp only [pointwise]
  · rw [iter_rows X 10 le_rfl k k.isLt, iter_rows X 10 le_rfl k k.isLt, row_eq]

end Cert.ReferenceIdeal.Read
-- ==== Proof.KOut.lean ====
module

public import proofs.«01_k».proof.Proof.KVals
public import proofs.«01_k».proof.Proof.Gen.KernelIdeal.Run
public import Idealize.ShloMosaic.Lib.Pipeline.Value
public import Idealize.ShloMosaic.Lib.StableHlo.Run
public import Idealize.ShloMosaic.Lib.Tactic

@[expose] public section
noncomputable section
/-! The kernel's result array, and the block its body reads. -/
namespace Cert.KernelIdeal.Value
open Cert.KernelIdeal Cert.KernelIdeal.Gen Cert.Model Idealize.ShloMosaic Idealize.ShloMosaic.TcCoe Idealize.SL.Sem Idealize.ShloMosaic.StableHlo

variable (m : (ℓ : Loc nD τ sig) → Buf (Elt Ideal) ℓ)

/-- What the body leaves in the output's buffer at the one point. -/
abbrev result (c : Dev nD) : Vec Ideal S10x128 .f32 := outsAt0 m c t0_0

theorem flushed_one (c : Dev nD) (t : Fin cfg0.N) (hf : (cfg0.win 1).flush t = true) :
    (dats m 0 c).flushed 1 t = ((cfg0.win 1).blk t).view.read (Elt Ideal) (result m c) := by
  have hN : cfg0.N = 1 := N_0
  obtain rfl : t = t0_0 := Fin.ext (by have := t.isLt; have h0 : t0_0.val = 0 := rfl; omega)
  show (cfg0.win 1).cut (grid0.coords t0_0) ((dats m 0 c).after 1 t0_0) = _
  rw [after0_1]
  have hz' : (fun a => win0_1.index t0_0 a * main_call0_v3.ty.shape.size a) = fun _ => 0 := funext fun a => by fin_cases a <;> decide
  exact (Memref.read_access_unit_zero (Elt Ideal) main_call0_v3 hz' (fun a => by rw [congrFun hz' a]; simp) (result m c)).symm

theorem array_is (c : Dev nD) : (dats m 0 c).arrAt 1 cfg0.N = result m c :=
  (dats m 0 c).arrAt_eq_of_cover 1 (result m c) (flushed_one m c) fun i =>
    ⟨t0_0, flush0_1 t0_0, by
      show i ∈ ((View.whole main_call0_v3).slice (win0_1.rect t0_0)).set
      rw [View.set_slice_whole, Rect.mem_set_unit]
      intro a
      have h0 : (i 0 : Nat) < 10 := (i 0).isLt
      have h1 : (i 1 : Nat) < 128 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 10 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 128 from by decide +kernel]; omega⟩

/-- The planes the host lines hand the kernel. -/
theorem planes (V : Valuation τ sig (Elt Ideal)) :
    after (List.flatten [Gen.hostOps0]) V (Proc.devRef .tc main_call0_v2)
      = shapeCast S85x160x128 (transpose S85x20480 [1, 0] (shapeCast S20480x85 (V (Proc.devRef .tc main_arg0)) shapeCasts_S1x64x64x425_S20480x85)
          transposes_S20480x85_S85x20480_1_0) shapeCasts_S85x20480_S85x160x128 := by
  simp only [Gen.hostOps0, TRef.reshape, TRef.unary, TRef.toBuf, TRef.ofBuf, cast_eq, List.flatten_cons, List.flatten_nil, List.append_nil, List.cons_append, List.nil_append]
  after_results
  rfl

theorem block_is (c : Dev nD) : iblk m c 0 t0_0 = V m c main_call0_v2 := by
  unfold iblk
  have hz' : (fun a => win0_0.index t0_0 a * main_call0_v2.ty.shape.size a) = fun _ => 0 := funext fun a => by fin_cases a <;> decide
  exact Memref.read_access_unit_zero (Elt Ideal) main_call0_v2 hz' (fun a => by rw [congrFun hz' a]; simp) (V m c main_call0_v2)

theorem LD_at (arg0 : Memref sig .tc .vmem S85x160x128 .f32) (harg0 : arg0.IsWhole) (x0 : Vec Ideal S85x160x128 .f32) (n : ℕ)
    (a : Fin 160) (b : Fin 128) : LD arg0 harg0 x0 n (ix3 (0 : Fin 1) a b) = x0 (ix3 (⟨min n 84, by omega⟩ : Fin 85) a b) := by
  unfold LD
  rw [View.readAt_eq_ld, harg0.read_unread]
  refine congrArg x0 (funext fun d => Fin.ext ?_)
  match d with
  | ⟨0, _⟩ => show min n 84 + 1 * 0 = min n 84; omega
  | ⟨1, _⟩ => show 0 + 1 * a.val = a.val; omega
  | ⟨2, _⟩ => show 0 + 1 * b.val = b.val; omega

/-- The kernel's argument as one row of channels a box. -/
def kArg (c : Dev nD) : FVec Ideal S20480x85 .f32 := shapeCast S20480x85 (m ((c.tc : Thread nD τ).loc main_arg0)) shapeCasts_S1x64x64x425_S20480x85

/-- The planes' loads. -/
def kLoads (c : Dev nD) : ℕ → Vec Ideal S1x160x128 .f32 := LD (ms0_0 t0_0) (hs0_0 t0_0) (iblk m c 0 t0_0)

theorem plane_at (X : FVec Ideal S20480x85 .f32) (n : ℕ) (hn : n < 85) (f : Fin 20480) :
    shapeCast S85x160x128 (transpose S85x20480 [1, 0] X transposes_S20480x85_S85x20480_1_0) shapeCasts_S85x20480_S85x160x128
      (ix3 (⟨n, hn⟩ : Fin 85) (⟨f.val / 128, by omega⟩ : Fin 160) (⟨f.val % 128, by omega⟩ : Fin 128)) = X (ix2 f (⟨n, hn⟩ : Fin 85)) := by
  simp only [pointwise]

theorem chan_at (c : Dev nD) (f : Fin 20480) (n : ℕ) : chan (kLoads m c) f n = kArg m c (ix2 f (⟨min n 84, by omega⟩ : Fin 85)) := by
  unfold chan kLoads
  rw [LD_at _ _ _ n, block_is]
  refine (congrFun (planes (fun b => m (c, b))) _).trans ?_
  exact plane_at _ (min n 84) (by omega) f

/-- The kernel's result rows are the model's. -/
theorem ker_row (c : Dev nD) (k : Fin 10) (q : Fin 6) :
    extractStridedSlice S10x6 ![0, 0] (reg_main_call0_v3 m c) slices_S10x128_S10x6_0_0 (ix2 k q) = row (kBoxes (kLoads m c)) k.val q := by
  have h : ∀ j : Fin 128, reg_main_call0_v3 m c (ix2 k j) = rowK (kLoads m c) k.val (ix2 (0 : Fin 1) j) := by
    intro j
    unfold reg_main_call0_v3
    rw [array_is]
    unfold kLoads
    exact out_apply c (ms0_0 t0_0) (hs0_0 t0_0) (ms0_1 t0_0) (hs0_1 t0_0) (iblk m c 0 t0_0) k j
  rw [← rowK_at]
  generalize reg_main_call0_v3 m c = x at h
  rw [← h]
  simp only [pointwise]
  refine congrArg x (congrArg₂ ix2 (Fin.ext ?_) (Fin.ext ?_)) <;> simp

end Cert.KernelIdeal.Value
-- ==== Proof.Final.lean ====
module

public import proofs.«01_k».proof.Proof.RFin
public import proofs.«01_k».proof.Proof.KOut
public import proofs.«01_k».proof.Defs

@[expose] public section
noncomputable section
/-! The two programs' results agree where the logits are real. -/
namespace Cert.Proof
open Cert.Model Idealize.ShloMosaic Idealize.ShloMosaic.TcCoe Idealize.SL.Sem

variable (m : (ℓ : Loc Cert.KernelIdeal.nD Cert.KernelIdeal.τ Cert.KernelIdeal.sig) → Buf (Elt Ideal) ℓ)

open Cert.ReferenceIdeal.Read in
/-- The kernel's argument, as the reference's. -/
def arg (c : Dev Cert.KernelIdeal.nD) : Arg := m ((c.tc : Thread Cert.KernelIdeal.nD Cert.KernelIdeal.τ).loc Cert.KernelIdeal.main_arg0)

open Cert.ReferenceIdeal.Read Cert.KernelIdeal.Value

theorem chan_eq (c : Dev Cert.KernelIdeal.nD) (f : Fin 20480) : chan (kLoads m c) f = rch (arg m c) f := by
  funext n
  rw [chan_at]
  rfl

theorem sc_is (X : Arg) (f : Fin 20480) : (rBoxes X).sc f = Cert.ReferenceIdeal.Step.A_main_v100 (F := Ideal) X (ix1 f) := by
  unfold rBoxes
  with_reducible rfl

/-- The two lists of boxes give the same rows. -/
theorem rows_agree (c : Dev Cert.KernelIdeal.nD) (h : ∀ f, RealLogits (rch (arg m c) f)) (k : ℕ) (q : Fin 6) :
    row (kBoxes (kLoads m c)) k q = row (rBoxes (arg m c)) k q := by
  refine row_congr ?_ ?_ ?_ ?_ ?_ ?_ k q
  · funext f; refine (X150_at (kLoads m c) f).trans (Eq.trans ?_ (v86_at (arg m c) f).symm); rw [chan_eq]
  · funext f; refine (X153_at (kLoads m c) f).trans (Eq.trans ?_ (v89_at (arg m c) f).symm); rw [chan_eq]
  · funext f; refine (X156_at (kLoads m c) f).trans (Eq.trans ?_ (v92_at (arg m c) f).symm); rw [chan_eq]
  · funext f; refine (X159_at (kLoads m c) f).trans (Eq.trans ?_ (v95_at (arg m c) f).symm); rw [chan_eq]
  · funext f; refine (X1046_at (kLoads m c) f).trans (Eq.trans ?_ ((v100_at (arg m c) f (h f)).symm.trans (sc_is (arg m c) f).symm)); rw [chan_eq]
  · intro f hf
    obtain ⟨a, ha, hca⟩ := X1041_at (kLoads m c) f
    obtain ⟨b, hb, hcb⟩ := v101_at (arg m c) f (h f)
    rw [chan_eq] at hca
    have hsc : Ideal.ofBits .f32 0x3D4CCCCD#32 ≤ masked (best (rch (arg m c) f)) := by
      refine le_of_le_of_eq hf ?_
      exact (X1046_at (kLoads m c) f).trans (by rw [chan_eq])
    have hbest : Ideal.ofBits .f32 0x3D4CCCCD#32 ≤ best (rch (arg m c) f) := by
      unfold masked at hsc
      by_contra hn
      rw [if_neg hn] at hsc
      have e1 : Ideal.ofBits .f32 0x3D4CCCCD#32 = ((13421773 * (1 / 268435456) : ℝ) : EReal) := by
        simp [Ideal.ofBits, Ideal.ieee]; rw [← EReal.coe_mul, ← EReal.coe_mul]; norm_num
      have e2 : Ideal.ofBits .f32 0xBF800000#32 = ((-1 : ℝ) : EReal) := by
        simp [Ideal.ofBits, Ideal.ieee]; rw [← EReal.coe_mul]; norm_num
      rw [e1, e2, EReal.coe_le_coe_iff] at hsc
      norm_num at hsc
    obtain ⟨h1, h2, h3⟩ := hca
    obtain ⟨g1, g2, g3⟩ := hcb hbest
    have hab : a = b := by
      rcases lt_trichotomy a b with hl | hl | hl
      · exact absurd (g3 a hl) (by rw [h2]; exact lt_irrefl _)
      · exact hl
      · exact absurd (h3 b hl) (by rw [g2]; exact lt_irrefl _)
    subst hab
    exact ha.trans hb.symm

/-- The shapes the precondition's operations take. -/
theorem pre_facts : Cert.Pre_finite_logits.Facts :=
  ⟨Cert.ReferenceIdeal.Gen.facts.shapeCasts_S1x64x64x425_S20480x85, Cert.ReferenceIdeal.Gen.facts.slices_S20480x85_S20480x80_0_5, by decide⟩

theorem real_at (z : FVec Ideal Cert.ReferenceIdeal.S20480x85 .f32) (hs : Cert.ReferenceIdeal.S20480x85.Slices ![0, 5] Cert.ReferenceIdeal.S20480x80)
    (hb : Cert.ReferenceIdeal.S_.BroadcastsInDim Cert.ReferenceIdeal.S20480x80 (![] : Fin 0 → Fin Cert.ReferenceIdeal.S20480x80.rank))
    (h : cmpf .olt (Host.absf (extractStridedSlice Cert.ReferenceIdeal.S20480x80 ![0, 5] z hs))
      (broadcastInDim Cert.ReferenceIdeal.S20480x80 ![] hb (constant Cert.ReferenceIdeal.S_ .f32 0x7F800000#32)) = fun _ => 1#1)
    (f : Fin 20480) (c : ℕ) (hc : c < 80) : ∃ l : ℝ, z (ix2 f (⟨min (5 + c) 84, by omega⟩ : Fin 85)) = (l : EReal) := by
  have h1 := congrFun h (ix2 f (⟨c, hc⟩ : Fin 80))
  simp only [pointwise] at h1
  have e : z (ix2 (⟨![0, 5] 0 + f.val, by simp⟩ : Fin 20480) (⟨![0, 5] 1 + c, by simp; omega⟩ : Fin 85))
      = z (ix2 f (⟨min (5 + c) 84, by omega⟩ : Fin 85)) :=
    congrArg z (congrArg₂ ix2 (Fin.ext (by simp)) (Fin.ext (by simp; omega)))
  rw [e] at h1
  generalize z (ix2 f (⟨min (5 + c) 84, by omega⟩ : Fin 85)) = x at h1
  have ht : Ideal.ofBits .f32 0x7F800000#32 = (⊤ : EReal) := by simp [Ideal.ofBits, Ideal.ieee]
  rw [ht] at h1
  have hx : max (x : EReal) (-x) < ⊤ := by
    by_contra hn
    have hd : decide ((FloatOps.absf x : EReal) < ⊤) = false := decide_eq_false hn
    rw [hd] at h1
    exact absurd h1 (by decide)
  rw [max_lt_iff] at hx
  induction x using EReal.rec with
  | bot => exact absurd hx.2 (by simp)
  | top => exact absurd hx.1 (by simp)
  | coe r => exact ⟨r, rfl⟩

/-- The precondition makes every box's logits real. -/
theorem real_of_pre [Cert.Pre_finite_logits.Facts] (X : Arg) (h : Cert.Pre_finite_logits.fn (F := Ideal) X = fun _ => 1#1) (f : Fin 20480) :
    RealLogits (rch X f) := fun c hc =>
  real_at (Cert.ReferenceIdeal.Step.A_main_v0 (F := Ideal) X) Cert.Pre_finite_logits.Facts.slices_S20480x85_S20480x80_0_5
    Cert.Pre_finite_logits.Facts.bcast_S_S20480x80 h f c hc

/-- The results agree, entry by entry. -/
theorem results_agree [Cert.Pre_finite_logits.Facts] (c : Dev Cert.KernelIdeal.nD) (h : Cert.Pre_finite_logits.fn (F := Ideal) (arg m c) = fun _ => 1#1) :
    Cert.ReferenceIdeal.Step.R_main_v119 (F := Ideal) (iter (arg m c) 10)
      = extractStridedSlice Cert.KernelIdeal.S10x6 ![0, 0] (reg_main_call0_v3 m c) Cert.KernelIdeal.Gen.facts.slices_S10x128_S10x6_0_0 := by
  funext i
  rw [eq_ix2 i]
  exact (ref_row (arg m c) (i 0) (i 1)).trans ((rows_agree m c (real_of_pre _ h) _ _).symm.trans (ker_row m c (i 0) (i 1)).symm)

/-- The kernel's rows at the idealized semantics are the reference's. -/
theorem algebraic [Cert.Pre_finite_logits.Facts] (hpre : Pre_KernelIdeal_finite_logits m) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hm : ∀ c : Dev Cert.KernelIdeal.nD, m' ((c.tc : Thread Cert.ReferenceIdeal.nD Cert.ReferenceIdeal.τ).loc Cert.ReferenceIdeal.main_arg0) = arg m c) :
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  ⟨_, Cert.KernelIdeal.Value.run m g,
    (θ_run Cert.ReferenceIdeal.defs _ _).mono (fun _ h c => ⟨(h c).1.trans (results_agree m c (hpre c)), (h c).2⟩)
      (Cert.ReferenceIdeal.StepRun.run_iter m' g' (fun c => iter (arg m c))
        (fun c => congrArg (Cert.ReferenceIdeal.Step.init (F := Ideal)) (hm c).symm) fun _ _ => rfl)⟩

end Cert.Proof
-- ==== Proof.lean ====
/- The certificate: the frames, what the idealization keeps, and the value. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Frames
public import proofs.«01_k».proof.Proof.Final
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    fun m ρ _ => ref_frame m ρ, fun m ρ _ => ref_frame m ρ, trivial,
    fun m g m' g' hpre hm => letI := pre_facts; algebraic m hpre g m' g' hm⟩

end Cert.Proof

end
